-- ==== Defs.lean ====
def Pre_Scale (m : (ℓ : Loc Cert.Scale.nD Cert.Scale.τ Cert.Scale.sig) → Buf (Elt Bits) ℓ) : Prop :=
  True

def Pre_ScaleIdeal (m : (ℓ : Loc Cert.ScaleIdeal.nD Cert.ScaleIdeal.τ Cert.ScaleIdeal.sig) → Buf (Elt Ideal) ℓ) : Prop :=
  True

def Pre_ScaleRefIdeal (m : (ℓ : Loc Cert.ScaleRefIdeal.nD Cert.ScaleRefIdeal.τ Cert.ScaleRefIdeal.sig) → Buf (Elt Ideal) ℓ) : Prop :=
  True

def Pre_DA (m : (ℓ : Loc Cert.DA.nD Cert.DA.τ Cert.DA.sig) → Buf (Elt Bits) ℓ) : Prop :=
  True

def Pre_DAIdeal (m : (ℓ : Loc Cert.DAIdeal.nD Cert.DAIdeal.τ Cert.DAIdeal.sig) → Buf (Elt Ideal) ℓ) : Prop :=
  True

def Pre_DARefIdeal (m : (ℓ : Loc Cert.DARefIdeal.nD Cert.DARefIdeal.τ Cert.DARefIdeal.sig) → Buf (Elt Ideal) ℓ) : Prop :=
  True

def Pre_DX (m : (ℓ : Loc Cert.DX.nD Cert.DX.τ Cert.DX.sig) → Buf (Elt Bits) ℓ) : Prop :=
  True

def Pre_DXIdeal (m : (ℓ : Loc Cert.DXIdeal.nD Cert.DXIdeal.τ Cert.DXIdeal.sig) → Buf (Elt Ideal) ℓ) : Prop :=
  True

def Pre_DXRefIdeal (m : (ℓ : Loc Cert.DXRefIdeal.nD Cert.DXRefIdeal.τ Cert.DXRefIdeal.sig) → Buf (Elt Ideal) ℓ) : Prop :=
  True

def Pre_DW1 (m : (ℓ : Loc Cert.DW1.nD Cert.DW1.τ Cert.DW1.sig) → Buf (Elt Bits) ℓ) : Prop :=
  True

def Pre_DW1Ideal (m : (ℓ : Loc Cert.DW1Ideal.nD Cert.DW1Ideal.τ Cert.DW1Ideal.sig) → Buf (Elt Ideal) ℓ) : Prop :=
  True

def Pre_DW1RefIdeal (m : (ℓ : Loc Cert.DW1RefIdeal.nD Cert.DW1RefIdeal.τ Cert.DW1RefIdeal.sig) → Buf (Elt Ideal) ℓ) : Prop :=
  True

def Pre_DW2 (m : (ℓ : Loc Cert.DW2.nD Cert.DW2.τ Cert.DW2.sig) → Buf (Elt Bits) ℓ) : Prop :=
  True

def Pre_DW2Ideal (m : (ℓ : Loc Cert.DW2Ideal.nD Cert.DW2Ideal.τ Cert.DW2Ideal.sig) → Buf (Elt Ideal) ℓ) : Prop :=
  True

def Pre_DW2RefIdeal (m : (ℓ : Loc Cert.DW2RefIdeal.nD Cert.DW2RefIdeal.τ Cert.DW2RefIdeal.sig) → Buf (Elt Ideal) ℓ) : Prop :=
  True

def quiescent_Scale [hScale : Cert.Scale.Facts] : Prop :=
  ∀ (m : (ℓ : Loc Cert.Scale.nD Cert.Scale.τ Cert.Scale.sig) → Buf (Elt Bits) ℓ) (g : Dev Cert.Scale.nD → PrngReg), Pre_Scale m →
    θ_run (Cert.Scale.defs (F := Bits)) (onTc (τ := Cert.Scale.τ) (Cert.Scale.main (F := Bits))) ⟨m, fun _ => 0, g⟩ (fun r => (∀ c : Dev Cert.Scale.nD,
      r.2.mem ((c.tc : Thread Cert.Scale.nD Cert.Scale.τ).loc Cert.Scale.main_arg0) = m ((c.tc : Thread Cert.Scale.nD Cert.Scale.τ).loc Cert.Scale.main_arg0))
      ∧ r.2.sem = fun _ => 0)

def quiescent_ScaleIdeal [hScaleIdeal : Cert.ScaleIdeal.Facts] : Prop :=
  ∀ (m : (ℓ : Loc Cert.ScaleIdeal.nD Cert.ScaleIdeal.τ Cert.ScaleIdeal.sig) → Buf (Elt Ideal) ℓ) (g : Dev Cert.ScaleIdeal.nD → PrngReg), Pre_ScaleIdeal m →
    θ_run (Cert.ScaleIdeal.defs (F := Ideal)) (onTc (τ := Cert.ScaleIdeal.τ) (Cert.ScaleIdeal.main (F := Ideal))) ⟨m, fun _ => 0, g⟩ (fun r => (∀ c : Dev Cert.ScaleIdeal.nD,
      r.2.mem ((c.tc : Thread Cert.ScaleIdeal.nD Cert.ScaleIdeal.τ).loc Cert.ScaleIdeal.main_arg0) = m ((c.tc : Thread Cert.ScaleIdeal.nD Cert.ScaleIdeal.τ).loc Cert.ScaleIdeal.main_arg0))
      ∧ r.2.sem = fun _ => 0)

def quiescent_ScaleRefIdeal [hScaleRefIdeal : Cert.ScaleRefIdeal.Facts] : Prop :=
  ∀ (m : (ℓ : Loc Cert.ScaleRefIdeal.nD Cert.ScaleRefIdeal.τ Cert.ScaleRefIdeal.sig) → Buf (Elt Ideal) ℓ) (g : Dev Cert.ScaleRefIdeal.nD → PrngReg), Pre_ScaleRefIdeal m →
    θ_run (Cert.ScaleRefIdeal.defs (F := Ideal)) (onTc (τ := Cert.ScaleRefIdeal.τ) (Cert.ScaleRefIdeal.main (F := Ideal))) ⟨m, fun _ => 0, g⟩ (fun r => (∀ c : Dev Cert.ScaleRefIdeal.nD,
      r.2.mem ((c.tc : Thread Cert.ScaleRefIdeal.nD Cert.ScaleRefIdeal.τ).loc Cert.ScaleRefIdeal.main_arg0) = m ((c.tc : Thread Cert.ScaleRefIdeal.nD Cert.ScaleRefIdeal.τ).loc Cert.ScaleRefIdeal.main_arg0))
      ∧ r.2.sem = fun _ => 0)

def quiescent_DA [hDA : Cert.DA.Facts] : Prop :=
  ∀ (m : (ℓ : Loc Cert.DA.nD Cert.DA.τ Cert.DA.sig) → Buf (Elt Bits) ℓ) (g : Dev Cert.DA.nD → PrngReg), Pre_DA m →
    θ_run (Cert.DA.defs (F := Bits)) (onTc (τ := Cert.DA.τ) (Cert.DA.main (F := Bits))) ⟨m, fun _ => 0, g⟩ (fun r => (∀ c : Dev Cert.DA.nD,
      r.2.mem ((c.tc : Thread Cert.DA.nD Cert.DA.τ).loc Cert.DA.main_arg0) = m ((c.tc : Thread Cert.DA.nD Cert.DA.τ).loc Cert.DA.main_arg0)
      ∧ r.2.mem ((c.tc : Thread Cert.DA.nD Cert.DA.τ).loc Cert.DA.main_arg1) = m ((c.tc : Thread Cert.DA.nD Cert.DA.τ).loc Cert.DA.main_arg1)
      ∧ r.2.mem ((c.tc : Thread Cert.DA.nD Cert.DA.τ).loc Cert.DA.main_arg2) = m ((c.tc : Thread Cert.DA.nD Cert.DA.τ).loc Cert.DA.main_arg2)
      ∧ r.2.mem ((c.tc : Thread Cert.DA.nD Cert.DA.τ).loc Cert.DA.main_arg3) = m ((c.tc : Thread Cert.DA.nD Cert.DA.τ).loc Cert.DA.main_arg3)
      ∧ r.2.mem ((c.tc : Thread Cert.DA.nD Cert.DA.τ).loc Cert.DA.main_arg4) = m ((c.tc : Thread Cert.DA.nD Cert.DA.τ).loc Cert.DA.main_arg4)
      ∧ r.2.mem ((c.tc : Thread Cert.DA.nD Cert.DA.τ).loc Cert.DA.main_arg5) = m ((c.tc : Thread Cert.DA.nD Cert.DA.τ).loc Cert.DA.main_arg5))
      ∧ r.2.sem = fun _ => 0)

def quiescent_DAIdeal [hDAIdeal : Cert.DAIdeal.Facts] : Prop :=
  ∀ (m : (ℓ : Loc Cert.DAIdeal.nD Cert.DAIdeal.τ Cert.DAIdeal.sig) → Buf (Elt Ideal) ℓ) (g : Dev Cert.DAIdeal.nD → PrngReg), Pre_DAIdeal m →
    θ_run (Cert.DAIdeal.defs (F := Ideal)) (onTc (τ := Cert.DAIdeal.τ) (Cert.DAIdeal.main (F := Ideal))) ⟨m, fun _ => 0, g⟩ (fun r => (∀ c : Dev Cert.DAIdeal.nD,
      r.2.mem ((c.tc : Thread Cert.DAIdeal.nD Cert.DAIdeal.τ).loc Cert.DAIdeal.main_arg0) = m ((c.tc : Thread Cert.DAIdeal.nD Cert.DAIdeal.τ).loc Cert.DAIdeal.main_arg0)
      ∧ r.2.mem ((c.tc : Thread Cert.DAIdeal.nD Cert.DAIdeal.τ).loc Cert.DAIdeal.main_arg1) = m ((c.tc : Thread Cert.DAIdeal.nD Cert.DAIdeal.τ).loc Cert.DAIdeal.main_arg1)
      ∧ r.2.mem ((c.tc : Thread Cert.DAIdeal.nD Cert.DAIdeal.τ).loc Cert.DAIdeal.main_arg2) = m ((c.tc : Thread Cert.DAIdeal.nD Cert.DAIdeal.τ).loc Cert.DAIdeal.main_arg2)
      ∧ r.2.mem ((c.tc : Thread Cert.DAIdeal.nD Cert.DAIdeal.τ).loc Cert.DAIdeal.main_arg3) = m ((c.tc : Thread Cert.DAIdeal.nD Cert.DAIdeal.τ).loc Cert.DAIdeal.main_arg3)
      ∧ r.2.mem ((c.tc : Thread Cert.DAIdeal.nD Cert.DAIdeal.τ).loc Cert.DAIdeal.main_arg4) = m ((c.tc : Thread Cert.DAIdeal.nD Cert.DAIdeal.τ).loc Cert.DAIdeal.main_arg4)
      ∧ r.2.mem ((c.tc : Thread Cert.DAIdeal.nD Cert.DAIdeal.τ).loc Cert.DAIdeal.main_arg5) = m ((c.tc : Thread Cert.DAIdeal.nD Cert.DAIdeal.τ).loc Cert.DAIdeal.main_arg5))
      ∧ r.2.sem = fun _ => 0)

def quiescent_DARefIdeal [hDARefIdeal : Cert.DARefIdeal.Facts] : Prop :=
  ∀ (m : (ℓ : Loc Cert.DARefIdeal.nD Cert.DARefIdeal.τ Cert.DARefIdeal.sig) → Buf (Elt Ideal) ℓ) (g : Dev Cert.DARefIdeal.nD → PrngReg), Pre_DARefIdeal m →
    θ_run (Cert.DARefIdeal.defs (F := Ideal)) (onTc (τ := Cert.DARefIdeal.τ) (Cert.DARefIdeal.main (F := Ideal))) ⟨m, fun _ => 0, g⟩ (fun r => (∀ c : Dev Cert.DARefIdeal.nD,
      r.2.mem ((c.tc : Thread Cert.DARefIdeal.nD Cert.DARefIdeal.τ).loc Cert.DARefIdeal.main_arg0) = m ((c.tc : Thread Cert.DARefIdeal.nD Cert.DARefIdeal.τ).loc Cert.DARefIdeal.main_arg0)
      ∧ r.2.mem ((c.tc : Thread Cert.DARefIdeal.nD Cert.DARefIdeal.τ).loc Cert.DARefIdeal.main_arg1) = m ((c.tc : Thread Cert.DARefIdeal.nD Cert.DARefIdeal.τ).loc Cert.DARefIdeal.main_arg1)
      ∧ r.2.mem ((c.tc : Thread Cert.DARefIdeal.nD Cert.DARefIdeal.τ).loc Cert.DARefIdeal.main_arg2) = m ((c.tc : Thread Cert.DARefIdeal.nD Cert.DARefIdeal.τ).loc Cert.DARefIdeal.main_arg2)
      ∧ r.2.mem ((c.tc : Thread Cert.DARefIdeal.nD Cert.DARefIdeal.τ).loc Cert.DARefIdeal.main_arg3) = m ((c.tc : Thread Cert.DARefIdeal.nD Cert.DARefIdeal.τ).loc Cert.DARefIdeal.main_arg3)
      ∧ r.2.mem ((c.tc : Thread Cert.DARefIdeal.nD Cert.DARefIdeal.τ).loc Cert.DARefIdeal.main_arg4) = m ((c.tc : Thread Cert.DARefIdeal.nD Cert.DARefIdeal.τ).loc Cert.DARefIdeal.main_arg4)
      ∧ r.2.mem ((c.tc : Thread Cert.DARefIdeal.nD Cert.DARefIdeal.τ).loc Cert.DARefIdeal.main_arg5) = m ((c.tc : Thread Cert.DARefIdeal.nD Cert.DARefIdeal.τ).loc Cert.DARefIdeal.main_arg5))
      ∧ r.2.sem = fun _ => 0)

def quiescent_DX [hDX : Cert.DX.Facts] : Prop :=
  ∀ (m : (ℓ : Loc Cert.DX.nD Cert.DX.τ Cert.DX.sig) → Buf (Elt Bits) ℓ) (g : Dev Cert.DX.nD → PrngReg), Pre_DX m →
    θ_run (Cert.DX.defs (F := Bits)) (onTc (τ := Cert.DX.τ) (Cert.DX.main (F := Bits))) ⟨m, fun _ => 0, g⟩ (fun r => (∀ c : Dev Cert.DX.nD,
      r.2.mem ((c.tc : Thread Cert.DX.nD Cert.DX.τ).loc Cert.DX.main_arg0) = m ((c.tc : Thread Cert.DX.nD Cert.DX.τ).loc Cert.DX.main_arg0)
      ∧ r.2.mem ((c.tc : Thread Cert.DX.nD Cert.DX.τ).loc Cert.DX.main_arg1) = m ((c.tc : Thread Cert.DX.nD Cert.DX.τ).loc Cert.DX.main_arg1)
      ∧ r.2.mem ((c.tc : Thread Cert.DX.nD Cert.DX.τ).loc Cert.DX.main_arg2) = m ((c.tc : Thread Cert.DX.nD Cert.DX.τ).loc Cert.DX.main_arg2)
      ∧ r.2.mem ((c.tc : Thread Cert.DX.nD Cert.DX.τ).loc Cert.DX.main_arg3) = m ((c.tc : Thread Cert.DX.nD Cert.DX.τ).loc Cert.DX.main_arg3)
      ∧ r.2.mem ((c.tc : Thread Cert.DX.nD Cert.DX.τ).loc Cert.DX.main_arg4) = m ((c.tc : Thread Cert.DX.nD Cert.DX.τ).loc Cert.DX.main_arg4)
      ∧ r.2.mem ((c.tc : Thread Cert.DX.nD Cert.DX.τ).loc Cert.DX.main_arg5) = m ((c.tc : Thread Cert.DX.nD Cert.DX.τ).loc Cert.DX.main_arg5))
      ∧ r.2.sem = fun _ => 0)

def quiescent_DXIdeal [hDXIdeal : Cert.DXIdeal.Facts] : Prop :=
  ∀ (m : (ℓ : Loc Cert.DXIdeal.nD Cert.DXIdeal.τ Cert.DXIdeal.sig) → Buf (Elt Ideal) ℓ) (g : Dev Cert.DXIdeal.nD → PrngReg), Pre_DXIdeal m →
    θ_run (Cert.DXIdeal.defs (F := Ideal)) (onTc (τ := Cert.DXIdeal.τ) (Cert.DXIdeal.main (F := Ideal))) ⟨m, fun _ => 0, g⟩ (fun r => (∀ c : Dev Cert.DXIdeal.nD,
      r.2.mem ((c.tc : Thread Cert.DXIdeal.nD Cert.DXIdeal.τ).loc Cert.DXIdeal.main_arg0) = m ((c.tc : Thread Cert.DXIdeal.nD Cert.DXIdeal.τ).loc Cert.DXIdeal.main_arg0)
      ∧ r.2.mem ((c.tc : Thread Cert.DXIdeal.nD Cert.DXIdeal.τ).loc Cert.DXIdeal.main_arg1) = m ((c.tc : Thread Cert.DXIdeal.nD Cert.DXIdeal.τ).loc Cert.DXIdeal.main_arg1)
      ∧ r.2.mem ((c.tc : Thread Cert.DXIdeal.nD Cert.DXIdeal.τ).loc Cert.DXIdeal.main_arg2) = m ((c.tc : Thread Cert.DXIdeal.nD Cert.DXIdeal.τ).loc Cert.DXIdeal.main_arg2)
      ∧ r.2.mem ((c.tc : Thread Cert.DXIdeal.nD Cert.DXIdeal.τ).loc Cert.DXIdeal.main_arg3) = m ((c.tc : Thread Cert.DXIdeal.nD Cert.DXIdeal.τ).loc Cert.DXIdeal.main_arg3)
      ∧ r.2.mem ((c.tc : Thread Cert.DXIdeal.nD Cert.DXIdeal.τ).loc Cert.DXIdeal.main_arg4) = m ((c.tc : Thread Cert.DXIdeal.nD Cert.DXIdeal.τ).loc Cert.DXIdeal.main_arg4)
      ∧ r.2.mem ((c.tc : Thread Cert.DXIdeal.nD Cert.DXIdeal.τ).loc Cert.DXIdeal.main_arg5) = m ((c.tc : Thread Cert.DXIdeal.nD Cert.DXIdeal.τ).loc Cert.DXIdeal.main_arg5))
      ∧ r.2.sem = fun _ => 0)

def quiescent_DXRefIdeal [hDXRefIdeal : Cert.DXRefIdeal.Facts] : Prop :=
  ∀ (m : (ℓ : Loc Cert.DXRefIdeal.nD Cert.DXRefIdeal.τ Cert.DXRefIdeal.sig) → Buf (Elt Ideal) ℓ) (g : Dev Cert.DXRefIdeal.nD → PrngReg), Pre_DXRefIdeal m →
    θ_run (Cert.DXRefIdeal.defs (F := Ideal)) (onTc (τ := Cert.DXRefIdeal.τ) (Cert.DXRefIdeal.main (F := Ideal))) ⟨m, fun _ => 0, g⟩ (fun r => (∀ c : Dev Cert.DXRefIdeal.nD,
      r.2.mem ((c.tc : Thread Cert.DXRefIdeal.nD Cert.DXRefIdeal.τ).loc Cert.DXRefIdeal.main_arg0) = m ((c.tc : Thread Cert.DXRefIdeal.nD Cert.DXRefIdeal.τ).loc Cert.DXRefIdeal.main_arg0)
      ∧ r.2.mem ((c.tc : Thread Cert.DXRefIdeal.nD Cert.DXRefIdeal.τ).loc Cert.DXRefIdeal.main_arg1) = m ((c.tc : Thread Cert.DXRefIdeal.nD Cert.DXRefIdeal.τ).loc Cert.DXRefIdeal.main_arg1)
      ∧ r.2.mem ((c.tc : Thread Cert.DXRefIdeal.nD Cert.DXRefIdeal.τ).loc Cert.DXRefIdeal.main_arg2) = m ((c.tc : Thread Cert.DXRefIdeal.nD Cert.DXRefIdeal.τ).loc Cert.DXRefIdeal.main_arg2)
      ∧ r.2.mem ((c.tc : Thread Cert.DXRefIdeal.nD Cert.DXRefIdeal.τ).loc Cert.DXRefIdeal.main_arg3) = m ((c.tc : Thread Cert.DXRefIdeal.nD Cert.DXRefIdeal.τ).loc Cert.DXRefIdeal.main_arg3)
      ∧ r.2.mem ((c.tc : Thread Cert.DXRefIdeal.nD Cert.DXRefIdeal.τ).loc Cert.DXRefIdeal.main_arg4) = m ((c.tc : Thread Cert.DXRefIdeal.nD Cert.DXRefIdeal.τ).loc Cert.DXRefIdeal.main_arg4)
      ∧ r.2.mem ((c.tc : Thread Cert.DXRefIdeal.nD Cert.DXRefIdeal.τ).loc Cert.DXRefIdeal.main_arg5) = m ((c.tc : Thread Cert.DXRefIdeal.nD Cert.DXRefIdeal.τ).loc Cert.DXRefIdeal.main_arg5))
      ∧ r.2.sem = fun _ => 0)

def quiescent_DW1 [hDW1 : Cert.DW1.Facts] : Prop :=
  ∀ (m : (ℓ : Loc Cert.DW1.nD Cert.DW1.τ Cert.DW1.sig) → Buf (Elt Bits) ℓ) (g : Dev Cert.DW1.nD → PrngReg), Pre_DW1 m →
    θ_run (Cert.DW1.defs (F := Bits)) (onTc (τ := Cert.DW1.τ) (Cert.DW1.main (F := Bits))) ⟨m, fun _ => 0, g⟩ (fun r => (∀ c : Dev Cert.DW1.nD,
      r.2.mem ((c.tc : Thread Cert.DW1.nD Cert.DW1.τ).loc Cert.DW1.main_arg0) = m ((c.tc : Thread Cert.DW1.nD Cert.DW1.τ).loc Cert.DW1.main_arg0)
      ∧ r.2.mem ((c.tc : Thread Cert.DW1.nD Cert.DW1.τ).loc Cert.DW1.main_arg1) = m ((c.tc : Thread Cert.DW1.nD Cert.DW1.τ).loc Cert.DW1.main_arg1)
      ∧ r.2.mem ((c.tc : Thread Cert.DW1.nD Cert.DW1.τ).loc Cert.DW1.main_arg2) = m ((c.tc : Thread Cert.DW1.nD Cert.DW1.τ).loc Cert.DW1.main_arg2)
      ∧ r.2.mem ((c.tc : Thread Cert.DW1.nD Cert.DW1.τ).loc Cert.DW1.main_arg3) = m ((c.tc : Thread Cert.DW1.nD Cert.DW1.τ).loc Cert.DW1.main_arg3))
      ∧ r.2.sem = fun _ => 0)

def quiescent_DW1Ideal [hDW1Ideal : Cert.DW1Ideal.Facts] : Prop :=
  ∀ (m : (ℓ : Loc Cert.DW1Ideal.nD Cert.DW1Ideal.τ Cert.DW1Ideal.sig) → Buf (Elt Ideal) ℓ) (g : Dev Cert.DW1Ideal.nD → PrngReg), Pre_DW1Ideal m →
    θ_run (Cert.DW1Ideal.defs (F := Ideal)) (onTc (τ := Cert.DW1Ideal.τ) (Cert.DW1Ideal.main (F := Ideal))) ⟨m, fun _ => 0, g⟩ (fun r => (∀ c : Dev Cert.DW1Ideal.nD,
      r.2.mem ((c.tc : Thread Cert.DW1Ideal.nD Cert.DW1Ideal.τ).loc Cert.DW1Ideal.main_arg0) = m ((c.tc : Thread Cert.DW1Ideal.nD Cert.DW1Ideal.τ).loc Cert.DW1Ideal.main_arg0)
      ∧ r.2.mem ((c.tc : Thread Cert.DW1Ideal.nD Cert.DW1Ideal.τ).loc Cert.DW1Ideal.main_arg1) = m ((c.tc : Thread Cert.DW1Ideal.nD Cert.DW1Ideal.τ).loc Cert.DW1Ideal.main_arg1)
      ∧ r.2.mem ((c.tc : Thread Cert.DW1Ideal.nD Cert.DW1Ideal.τ).loc Cert.DW1Ideal.main_arg2) = m ((c.tc : Thread Cert.DW1Ideal.nD Cert.DW1Ideal.τ).loc Cert.DW1Ideal.main_arg2)
      ∧ r.2.mem ((c.tc : Thread Cert.DW1Ideal.nD Cert.DW1Ideal.τ).loc Cert.DW1Ideal.main_arg3) = m ((c.tc : Thread Cert.DW1Ideal.nD Cert.DW1Ideal.τ).loc Cert.DW1Ideal.main_arg3))
      ∧ r.2.sem = fun _ => 0)

def quiescent_DW1RefIdeal [hDW1RefIdeal : Cert.DW1RefIdeal.Facts] : Prop :=
  ∀ (m : (ℓ : Loc Cert.DW1RefIdeal.nD Cert.DW1RefIdeal.τ Cert.DW1RefIdeal.sig) → Buf (Elt Ideal) ℓ) (g : Dev Cert.DW1RefIdeal.nD → PrngReg), Pre_DW1RefIdeal m →
    θ_run (Cert.DW1RefIdeal.defs (F := Ideal)) (onTc (τ := Cert.DW1RefIdeal.τ) (Cert.DW1RefIdeal.main (F := Ideal))) ⟨m, fun _ => 0, g⟩ (fun r => (∀ c : Dev Cert.DW1RefIdeal.nD,
      r.2.mem ((c.tc : Thread Cert.DW1RefIdeal.nD Cert.DW1RefIdeal.τ).loc Cert.DW1RefIdeal.main_arg0) = m ((c.tc : Thread Cert.DW1RefIdeal.nD Cert.DW1RefIdeal.τ).loc Cert.DW1RefIdeal.main_arg0)
      ∧ r.2.mem ((c.tc : Thread Cert.DW1RefIdeal.nD Cert.DW1RefIdeal.τ).loc Cert.DW1RefIdeal.main_arg1) = m ((c.tc : Thread Cert.DW1RefIdeal.nD Cert.DW1RefIdeal.τ).loc Cert.DW1RefIdeal.main_arg1)
      ∧ r.2.mem ((c.tc : Thread Cert.DW1RefIdeal.nD Cert.DW1RefIdeal.τ).loc Cert.DW1RefIdeal.main_arg2) = m ((c.tc : Thread Cert.DW1RefIdeal.nD Cert.DW1RefIdeal.τ).loc Cert.DW1RefIdeal.main_arg2)
      ∧ r.2.mem ((c.tc : Thread Cert.DW1RefIdeal.nD Cert.DW1RefIdeal.τ).loc Cert.DW1RefIdeal.main_arg3) = m ((c.tc : Thread Cert.DW1RefIdeal.nD Cert.DW1RefIdeal.τ).loc Cert.DW1RefIdeal.main_arg3))
      ∧ r.2.sem = fun _ => 0)

def quiescent_DW2 [hDW2 : Cert.DW2.Facts] : Prop :=
  ∀ (m : (ℓ : Loc Cert.DW2.nD Cert.DW2.τ Cert.DW2.sig) → Buf (Elt Bits) ℓ) (g : Dev Cert.DW2.nD → PrngReg), Pre_DW2 m →
    θ_run (Cert.DW2.defs (F := Bits)) (onTc (τ := Cert.DW2.τ) (Cert.DW2.main (F := Bits))) ⟨m, fun _ => 0, g⟩ (fun r => (∀ c : Dev Cert.DW2.nD,
      r.2.mem ((c.tc : Thread Cert.DW2.nD Cert.DW2.τ).loc Cert.DW2.main_arg0) = m ((c.tc : Thread Cert.DW2.nD Cert.DW2.τ).loc Cert.DW2.main_arg0)
      ∧ r.2.mem ((c.tc : Thread Cert.DW2.nD Cert.DW2.τ).loc Cert.DW2.main_arg1) = m ((c.tc : Thread Cert.DW2.nD Cert.DW2.τ).loc Cert.DW2.main_arg1)
      ∧ r.2.mem ((c.tc : Thread Cert.DW2.nD Cert.DW2.τ).loc Cert.DW2.main_arg2) = m ((c.tc : Thread Cert.DW2.nD Cert.DW2.τ).loc Cert.DW2.main_arg2)
      ∧ r.2.mem ((c.tc : Thread Cert.DW2.nD Cert.DW2.τ).loc Cert.DW2.main_arg3) = m ((c.tc : Thread Cert.DW2.nD Cert.DW2.τ).loc Cert.DW2.main_arg3))
      ∧ r.2.sem = fun _ => 0)

def quiescent_DW2Ideal [hDW2Ideal : Cert.DW2Ideal.Facts] : Prop :=
  ∀ (m : (ℓ : Loc Cert.DW2Ideal.nD Cert.DW2Ideal.τ Cert.DW2Ideal.sig) → Buf (Elt Ideal) ℓ) (g : Dev Cert.DW2Ideal.nD → PrngReg), Pre_DW2Ideal m →
    θ_run (Cert.DW2Ideal.defs (F := Ideal)) (onTc (τ := Cert.DW2Ideal.τ) (Cert.DW2Ideal.main (F := Ideal))) ⟨m, fun _ => 0, g⟩ (fun r => (∀ c : Dev Cert.DW2Ideal.nD,
      r.2.mem ((c.tc : Thread Cert.DW2Ideal.nD Cert.DW2Ideal.τ).loc Cert.DW2Ideal.main_arg0) = m ((c.tc : Thread Cert.DW2Ideal.nD Cert.DW2Ideal.τ).loc Cert.DW2Ideal.main_arg0)
      ∧ r.2.mem ((c.tc : Thread Cert.DW2Ideal.nD Cert.DW2Ideal.τ).loc Cert.DW2Ideal.main_arg1) = m ((c.tc : Thread Cert.DW2Ideal.nD Cert.DW2Ideal.τ).loc Cert.DW2Ideal.main_arg1)
      ∧ r.2.mem ((c.tc : Thread Cert.DW2Ideal.nD Cert.DW2Ideal.τ).loc Cert.DW2Ideal.main_arg2) = m ((c.tc : Thread Cert.DW2Ideal.nD Cert.DW2Ideal.τ).loc Cert.DW2Ideal.main_arg2)
      ∧ r.2.mem ((c.tc : Thread Cert.DW2Ideal.nD Cert.DW2Ideal.τ).loc Cert.DW2Ideal.main_arg3) = m ((c.tc : Thread Cert.DW2Ideal.nD Cert.DW2Ideal.τ).loc Cert.DW2Ideal.main_arg3))
      ∧ r.2.sem = fun _ => 0)

def quiescent_DW2RefIdeal [hDW2RefIdeal : Cert.DW2RefIdeal.Facts] : Prop :=
  ∀ (m : (ℓ : Loc Cert.DW2RefIdeal.nD Cert.DW2RefIdeal.τ Cert.DW2RefIdeal.sig) → Buf (Elt Ideal) ℓ) (g : Dev Cert.DW2RefIdeal.nD → PrngReg), Pre_DW2RefIdeal m →
    θ_run (Cert.DW2RefIdeal.defs (F := Ideal)) (onTc (τ := Cert.DW2RefIdeal.τ) (Cert.DW2RefIdeal.main (F := Ideal))) ⟨m, fun _ => 0, g⟩ (fun r => (∀ c : Dev Cert.DW2RefIdeal.nD,
      r.2.mem ((c.tc : Thread Cert.DW2RefIdeal.nD Cert.DW2RefIdeal.τ).loc Cert.DW2RefIdeal.main_arg0) = m ((c.tc : Thread Cert.DW2RefIdeal.nD Cert.DW2RefIdeal.τ).loc Cert.DW2RefIdeal.main_arg0)
      ∧ r.2.mem ((c.tc : Thread Cert.DW2RefIdeal.nD Cert.DW2RefIdeal.τ).loc Cert.DW2RefIdeal.main_arg1) = m ((c.tc : Thread Cert.DW2RefIdeal.nD Cert.DW2RefIdeal.τ).loc Cert.DW2RefIdeal.main_arg1)
      ∧ r.2.mem ((c.tc : Thread Cert.DW2RefIdeal.nD Cert.DW2RefIdeal.τ).loc Cert.DW2RefIdeal.main_arg2) = m ((c.tc : Thread Cert.DW2RefIdeal.nD Cert.DW2RefIdeal.τ).loc Cert.DW2RefIdeal.main_arg2)
      ∧ r.2.mem ((c.tc : Thread Cert.DW2RefIdeal.nD Cert.DW2RefIdeal.τ).loc Cert.DW2RefIdeal.main_arg3) = m ((c.tc : Thread Cert.DW2RefIdeal.nD Cert.DW2RefIdeal.τ).loc Cert.DW2RefIdeal.main_arg3))
      ∧ r.2.sem = fun _ => 0)

def preserves_Scale_ScaleIdeal : Prop :=
  True

def algebraic_ScaleIdeal_ScaleRefIdeal [hScaleIdeal : Cert.ScaleIdeal.Facts] [hScaleRefIdeal : Cert.ScaleRefIdeal.Facts] : Prop :=
  ∀ (m : (ℓ : Loc Cert.ScaleIdeal.nD Cert.ScaleIdeal.τ Cert.ScaleIdeal.sig) → Buf (Elt Ideal) ℓ) (g : Dev Cert.ScaleIdeal.nD → PrngReg)
    (m' : (ℓ : Loc Cert.ScaleRefIdeal.nD Cert.ScaleRefIdeal.τ Cert.ScaleRefIdeal.sig) → Buf (Elt Ideal) ℓ) (g' : Dev Cert.ScaleRefIdeal.nD → PrngReg), Pre_ScaleIdeal m →
    (∀ c : Dev Cert.ScaleIdeal.nD,
      m' ((c.tc : Thread Cert.ScaleRefIdeal.nD Cert.ScaleRefIdeal.τ).loc Cert.ScaleRefIdeal.main_arg0) = m ((c.tc : Thread Cert.ScaleIdeal.nD Cert.ScaleIdeal.τ).loc Cert.ScaleIdeal.main_arg0)) →
    ∃ (v0 : (c : Dev Cert.ScaleIdeal.nD) → Buf (Elt Ideal) ((c.tc : Thread Cert.ScaleIdeal.nD Cert.ScaleIdeal.τ).loc Cert.ScaleIdeal.main_v0_0)) (v1 : (c : Dev Cert.ScaleIdeal.nD) → Buf (Elt Ideal) ((c.tc : Thread Cert.ScaleIdeal.nD Cert.ScaleIdeal.τ).loc Cert.ScaleIdeal.main_v0_1)),
      θ_run (Cert.ScaleIdeal.defs (F := Ideal)) (onTc (τ := Cert.ScaleIdeal.τ) (Cert.ScaleIdeal.main (F := Ideal))) ⟨m, fun _ => 0, g⟩ (fun r => ∀ c : Dev Cert.ScaleIdeal.nD,
          r.2.mem ((c.tc : Thread Cert.ScaleIdeal.nD Cert.ScaleIdeal.τ).loc Cert.ScaleIdeal.main_v0_0) = v0 c
          ∧ r.2.mem ((c.tc : Thread Cert.ScaleIdeal.nD Cert.ScaleIdeal.τ).loc Cert.ScaleIdeal.main_v0_1) = v1 c
          ∧ r.2.mem ((c.tc : Thread Cert.ScaleIdeal.nD Cert.ScaleIdeal.τ).loc Cert.ScaleIdeal.main_arg0) = m ((c.tc : Thread Cert.ScaleIdeal.nD Cert.ScaleIdeal.τ).loc Cert.ScaleIdeal.main_arg0))
      ∧ θ_run (Cert.ScaleRefIdeal.defs (F := Ideal)) (onTc (τ := Cert.ScaleRefIdeal.τ) (Cert.ScaleRefIdeal.main (F := Ideal))) ⟨m', fun _ => 0, g'⟩ (fun r => ∀ c : Dev Cert.ScaleRefIdeal.nD,
          r.2.mem ((c.tc : Thread Cert.ScaleRefIdeal.nD Cert.ScaleRefIdeal.τ).loc Cert.ScaleRefIdeal.main_v0_0) = v0 c
          ∧ r.2.mem ((c.tc : Thread Cert.ScaleRefIdeal.nD Cert.ScaleRefIdeal.τ).loc Cert.ScaleRefIdeal.main_v0_1) = v1 c
          ∧ r.2.mem ((c.tc : Thread Cert.ScaleRefIdeal.nD Cert.ScaleRefIdeal.τ).loc Cert.ScaleRefIdeal.main_arg0) = m' ((c.tc : Thread Cert.ScaleRefIdeal.nD Cert.ScaleRefIdeal.τ).loc Cert.ScaleRefIdeal.main_arg0))

def preserves_DA_DAIdeal : Prop :=
  True

def algebraic_DAIdeal_DARefIdeal [hDAIdeal : Cert.DAIdeal.Facts] [hDARefIdeal : Cert.DARefIdeal.Facts] : Prop :=
  ∀ (m : (ℓ : Loc Cert.DAIdeal.nD Cert.DAIdeal.τ Cert.DAIdeal.sig) → Buf (Elt Ideal) ℓ) (g : Dev Cert.DAIdeal.nD → PrngReg)
    (m' : (ℓ : Loc Cert.DARefIdeal.nD Cert.DARefIdeal.τ Cert.DARefIdeal.sig) → Buf (Elt Ideal) ℓ) (g' : Dev Cert.DARefIdeal.nD → PrngReg), Pre_DAIdeal m →
    (∀ c : Dev Cert.DAIdeal.nD,
      m' ((c.tc : Thread Cert.DARefIdeal.nD Cert.DARefIdeal.τ).loc Cert.DARefIdeal.main_arg0) = m ((c.tc : Thread Cert.DAIdeal.nD Cert.DAIdeal.τ).loc Cert.DAIdeal.main_arg0)
      ∧ m' ((c.tc : Thread Cert.DARefIdeal.nD Cert.DARefIdeal.τ).loc Cert.DARefIdeal.main_arg1) = m ((c.tc : Thread Cert.DAIdeal.nD Cert.DAIdeal.τ).loc Cert.DAIdeal.main_arg1)
      ∧ m' ((c.tc : Thread Cert.DARefIdeal.nD Cert.DARefIdeal.τ).loc Cert.DARefIdeal.main_arg2) = m ((c.tc : Thread Cert.DAIdeal.nD Cert.DAIdeal.τ).loc Cert.DAIdeal.main_arg2)
      ∧ m' ((c.tc : Thread Cert.DARefIdeal.nD Cert.DARefIdeal.τ).loc Cert.DARefIdeal.main_arg3) = m ((c.tc : Thread Cert.DAIdeal.nD Cert.DAIdeal.τ).loc Cert.DAIdeal.main_arg3)
      ∧ m' ((c.tc : Thread Cert.DARefIdeal.nD Cert.DARefIdeal.τ).loc Cert.DARefIdeal.main_arg4) = m ((c.tc : Thread Cert.DAIdeal.nD Cert.DAIdeal.τ).loc Cert.DAIdeal.main_arg4)
      ∧ m' ((c.tc : Thread Cert.DARefIdeal.nD Cert.DARefIdeal.τ).loc Cert.DARefIdeal.main_arg5) = m ((c.tc : Thread Cert.DAIdeal.nD Cert.DAIdeal.τ).loc Cert.DAIdeal.main_arg5)) →
    ∃ (v0 : (c : Dev Cert.DAIdeal.nD) → Buf (Elt Ideal) ((c.tc : Thread Cert.DAIdeal.nD Cert.DAIdeal.τ).loc Cert.DAIdeal.main_v0_0)) (v1 : (c : Dev Cert.DAIdeal.nD) → Buf (Elt Ideal) ((c.tc : Thread Cert.DAIdeal.nD Cert.DAIdeal.τ).loc Cert.DAIdeal.main_v0_1)) (v2 : (c : Dev Cert.DAIdeal.nD) → Buf (Elt Ideal) ((c.tc : Thread Cert.DAIdeal.nD Cert.DAIdeal.τ).loc Cert.DAIdeal.main_v0_2)) (v3 : (c : Dev Cert.DAIdeal.nD) → Buf (Elt Ideal) ((c.tc : Thread Cert.DAIdeal.nD Cert.DAIdeal.τ).loc Cert.DAIdeal.main_v0_3)),
      θ_run (Cert.DAIdeal.defs (F := Ideal)) (onTc (τ := Cert.DAIdeal.τ) (Cert.DAIdeal.main (F := Ideal))) ⟨m, fun _ => 0, g⟩ (fun r => ∀ c : Dev Cert.DAIdeal.nD,
          r.2.mem ((c.tc : Thread Cert.DAIdeal.nD Cert.DAIdeal.τ).loc Cert.DAIdeal.main_v0_0) = v0 c
          ∧ r.2.mem ((c.tc : Thread Cert.DAIdeal.nD Cert.DAIdeal.τ).loc Cert.DAIdeal.main_v0_1) = v1 c
          ∧ r.2.mem ((c.tc : Thread Cert.DAIdeal.nD Cert.DAIdeal.τ).loc Cert.DAIdeal.main_v0_2) = v2 c
          ∧ r.2.mem ((c.tc : Thread Cert.DAIdeal.nD Cert.DAIdeal.τ).loc Cert.DAIdeal.main_v0_3) = v3 c
          ∧ r.2.mem ((c.tc : Thread Cert.DAIdeal.nD Cert.DAIdeal.τ).loc Cert.DAIdeal.main_arg0) = m ((c.tc : Thread Cert.DAIdeal.nD Cert.DAIdeal.τ).loc Cert.DAIdeal.main_arg0)
          ∧ r.2.mem ((c.tc : Thread Cert.DAIdeal.nD Cert.DAIdeal.τ).loc Cert.DAIdeal.main_arg1) = m ((c.tc : Thread Cert.DAIdeal.nD Cert.DAIdeal.τ).loc Cert.DAIdeal.main_arg1)
          ∧ r.2.mem ((c.tc : Thread Cert.DAIdeal.nD Cert.DAIdeal.τ).loc Cert.DAIdeal.main_arg2) = m ((c.tc : Thread Cert.DAIdeal.nD Cert.DAIdeal.τ).loc Cert.DAIdeal.main_arg2)
          ∧ r.2.mem ((c.tc : Thread Cert.DAIdeal.nD Cert.DAIdeal.τ).loc Cert.DAIdeal.main_arg3) = m ((c.tc : Thread Cert.DAIdeal.nD Cert.DAIdeal.τ).loc Cert.DAIdeal.main_arg3)
          ∧ r.2.mem ((c.tc : Thread Cert.DAIdeal.nD Cert.DAIdeal.τ).loc Cert.DAIdeal.main_arg4) = m ((c.tc : Thread Cert.DAIdeal.nD Cert.DAIdeal.τ).loc Cert.DAIdeal.main_arg4)
          ∧ r.2.mem ((c.tc : Thread Cert.DAIdeal.nD Cert.DAIdeal.τ).loc Cert.DAIdeal.main_arg5) = m ((c.tc : Thread Cert.DAIdeal.nD Cert.DAIdeal.τ).loc Cert.DAIdeal.main_arg5))
      ∧ θ_run (Cert.DARefIdeal.defs (F := Ideal)) (onTc (τ := Cert.DARefIdeal.τ) (Cert.DARefIdeal.main (F := Ideal))) ⟨m', fun _ => 0, g'⟩ (fun r => ∀ c : Dev Cert.DARefIdeal.nD,
          r.2.mem ((c.tc : Thread Cert.DARefIdeal.nD Cert.DARefIdeal.τ).loc Cert.DARefIdeal.main_v0_0) = v0 c
          ∧ r.2.mem ((c.tc : Thread Cert.DARefIdeal.nD Cert.DARefIdeal.τ).loc Cert.DARefIdeal.main_v0_1) = v1 c
          ∧ r.2.mem ((c.tc : Thread Cert.DARefIdeal.nD Cert.DARefIdeal.τ).loc Cert.DARefIdeal.main_v0_2) = v2 c
          ∧ r.2.mem ((c.tc : Thread Cert.DARefIdeal.nD Cert.DARefIdeal.τ).loc Cert.DARefIdeal.main_v0_3) = v3 c
          ∧ r.2.mem ((c.tc : Thread Cert.DARefIdeal.nD Cert.DARefIdeal.τ).loc Cert.DARefIdeal.main_arg0) = m' ((c.tc : Thread Cert.DARefIdeal.nD Cert.DARefIdeal.τ).loc Cert.DARefIdeal.main_arg0)
          ∧ r.2.mem ((c.tc : Thread Cert.DARefIdeal.nD Cert.DARefIdeal.τ).loc Cert.DARefIdeal.main_arg1) = m' ((c.tc : Thread Cert.DARefIdeal.nD Cert.DARefIdeal.τ).loc Cert.DARefIdeal.main_arg1)
          ∧ r.2.mem ((c.tc : Thread Cert.DARefIdeal.nD Cert.DARefIdeal.τ).loc Cert.DARefIdeal.main_arg2) = m' ((c.tc : Thread Cert.DARefIdeal.nD Cert.DARefIdeal.τ).loc Cert.DARefIdeal.main_arg2)
          ∧ r.2.mem ((c.tc : Thread Cert.DARefIdeal.nD Cert.DARefIdeal.τ).loc Cert.DARefIdeal.main_arg3) = m' ((c.tc : Thread Cert.DARefIdeal.nD Cert.DARefIdeal.τ).loc Cert.DARefIdeal.main_arg3)
          ∧ r.2.mem ((c.tc : Thread Cert.DARefIdeal.nD Cert.DARefIdeal.τ).loc Cert.DARefIdeal.main_arg4) = m' ((c.tc : Thread Cert.DARefIdeal.nD Cert.DARefIdeal.τ).loc Cert.DARefIdeal.main_arg4)
          ∧ r.2.mem ((c.tc : Thread Cert.DARefIdeal.nD Cert.DARefIdeal.τ).loc Cert.DARefIdeal.main_arg5) = m' ((c.tc : Thread Cert.DARefIdeal.nD Cert.DARefIdeal.τ).loc Cert.DARefIdeal.main_arg5))

def preserves_DX_DXIdeal : Prop :=
  True

def algebraic_DXIdeal_DXRefIdeal [hDXIdeal : Cert.DXIdeal.Facts] [hDXRefIdeal : Cert.DXRefIdeal.Facts] : Prop :=
  ∀ (m : (ℓ : Loc Cert.DXIdeal.nD Cert.DXIdeal.τ Cert.DXIdeal.sig) → Buf (Elt Ideal) ℓ) (g : Dev Cert.DXIdeal.nD → PrngReg)
    (m' : (ℓ : Loc Cert.DXRefIdeal.nD Cert.DXRefIdeal.τ Cert.DXRefIdeal.sig) → Buf (Elt Ideal) ℓ) (g' : Dev Cert.DXRefIdeal.nD → PrngReg), Pre_DXIdeal m →
    (∀ c : Dev Cert.DXIdeal.nD,
      m' ((c.tc : Thread Cert.DXRefIdeal.nD Cert.DXRefIdeal.τ).loc Cert.DXRefIdeal.main_arg0) = m ((c.tc : Thread Cert.DXIdeal.nD Cert.DXIdeal.τ).loc Cert.DXIdeal.main_arg0)
      ∧ m' ((c.tc : Thread Cert.DXRefIdeal.nD Cert.DXRefIdeal.τ).loc Cert.DXRefIdeal.main_arg1) = m ((c.tc : Thread Cert.DXIdeal.nD Cert.DXIdeal.τ).loc Cert.DXIdeal.main_arg1)
      ∧ m' ((c.tc : Thread Cert.DXRefIdeal.nD Cert.DXRefIdeal.τ).loc Cert.DXRefIdeal.main_arg2) = m ((c.tc : Thread Cert.DXIdeal.nD Cert.DXIdeal.τ).loc Cert.DXIdeal.main_arg2)
      ∧ m' ((c.tc : Thread Cert.DXRefIdeal.nD Cert.DXRefIdeal.τ).loc Cert.DXRefIdeal.main_arg3) = m ((c.tc : Thread Cert.DXIdeal.nD Cert.DXIdeal.τ).loc Cert.DXIdeal.main_arg3)
      ∧ m' ((c.tc : Thread Cert.DXRefIdeal.nD Cert.DXRefIdeal.τ).loc Cert.DXRefIdeal.main_arg4) = m ((c.tc : Thread Cert.DXIdeal.nD Cert.DXIdeal.τ).loc Cert.DXIdeal.main_arg4)
      ∧ m' ((c.tc : Thread Cert.DXRefIdeal.nD Cert.DXRefIdeal.τ).loc Cert.DXRefIdeal.main_arg5) = m ((c.tc : Thread Cert.DXIdeal.nD Cert.DXIdeal.τ).loc Cert.DXIdeal.main_arg5)) →
    ∃ (v0 : (c : Dev Cert.DXIdeal.nD) → Buf (Elt Ideal) ((c.tc : Thread Cert.DXIdeal.nD Cert.DXIdeal.τ).loc Cert.DXIdeal.main_v0_0)) (v1 : (c : Dev Cert.DXIdeal.nD) → Buf (Elt Ideal) ((c.tc : Thread Cert.DXIdeal.nD Cert.DXIdeal.τ).loc Cert.DXIdeal.main_v0_1)),
      θ_run (Cert.DXIdeal.defs (F := Ideal)) (onTc (τ := Cert.DXIdeal.τ) (Cert.DXIdeal.main (F := Ideal))) ⟨m, fun _ => 0, g⟩ (fun r => ∀ c : Dev Cert.DXIdeal.nD,
          r.2.mem ((c.tc : Thread Cert.DXIdeal.nD Cert.DXIdeal.τ).loc Cert.DXIdeal.main_v0_0) = v0 c
          ∧ r.2.mem ((c.tc : Thread Cert.DXIdeal.nD Cert.DXIdeal.τ).loc Cert.DXIdeal.main_v0_1) = v1 c
          ∧ r.2.mem ((c.tc : Thread Cert.DXIdeal.nD Cert.DXIdeal.τ).loc Cert.DXIdeal.main_arg0) = m ((c.tc : Thread Cert.DXIdeal.nD Cert.DXIdeal.τ).loc Cert.DXIdeal.main_arg0)
          ∧ r.2.mem ((c.tc : Thread Cert.DXIdeal.nD Cert.DXIdeal.τ).loc Cert.DXIdeal.main_arg1) = m ((c.tc : Thread Cert.DXIdeal.nD Cert.DXIdeal.τ).loc Cert.DXIdeal.main_arg1)
          ∧ r.2.mem ((c.tc : Thread Cert.DXIdeal.nD Cert.DXIdeal.τ).loc Cert.DXIdeal.main_arg2) = m ((c.tc : Thread Cert.DXIdeal.nD Cert.DXIdeal.τ).loc Cert.DXIdeal.main_arg2)
          ∧ r.2.mem ((c.tc : Thread Cert.DXIdeal.nD Cert.DXIdeal.τ).loc Cert.DXIdeal.main_arg3) = m ((c.tc : Thread Cert.DXIdeal.nD Cert.DXIdeal.τ).loc Cert.DXIdeal.main_arg3)
          ∧ r.2.mem ((c.tc : Thread Cert.DXIdeal.nD Cert.DXIdeal.τ).loc Cert.DXIdeal.main_arg4) = m ((c.tc : Thread Cert.DXIdeal.nD Cert.DXIdeal.τ).loc Cert.DXIdeal.main_arg4)
          ∧ r.2.mem ((c.tc : Thread Cert.DXIdeal.nD Cert.DXIdeal.τ).loc Cert.DXIdeal.main_arg5) = m ((c.tc : Thread Cert.DXIdeal.nD Cert.DXIdeal.τ).loc Cert.DXIdeal.main_arg5))
      ∧ θ_run (Cert.DXRefIdeal.defs (F := Ideal)) (onTc (τ := Cert.DXRefIdeal.τ) (Cert.DXRefIdeal.main (F := Ideal))) ⟨m', fun _ => 0, g'⟩ (fun r => ∀ c : Dev Cert.DXRefIdeal.nD,
          r.2.mem ((c.tc : Thread Cert.DXRefIdeal.nD Cert.DXRefIdeal.τ).loc Cert.DXRefIdeal.main_v0_0) = v0 c
          ∧ r.2.mem ((c.tc : Thread Cert.DXRefIdeal.nD Cert.DXRefIdeal.τ).loc Cert.DXRefIdeal.main_v0_1) = v1 c
          ∧ r.2.mem ((c.tc : Thread Cert.DXRefIdeal.nD Cert.DXRefIdeal.τ).loc Cert.DXRefIdeal.main_arg0) = m' ((c.tc : Thread Cert.DXRefIdeal.nD Cert.DXRefIdeal.τ).loc Cert.DXRefIdeal.main_arg0)
          ∧ r.2.mem ((c.tc : Thread Cert.DXRefIdeal.nD Cert.DXRefIdeal.τ).loc Cert.DXRefIdeal.main_arg1) = m' ((c.tc : Thread Cert.DXRefIdeal.nD Cert.DXRefIdeal.τ).loc Cert.DXRefIdeal.main_arg1)
          ∧ r.2.mem ((c.tc : Thread Cert.DXRefIdeal.nD Cert.DXRefIdeal.τ).loc Cert.DXRefIdeal.main_arg2) = m' ((c.tc : Thread Cert.DXRefIdeal.nD Cert.DXRefIdeal.τ).loc Cert.DXRefIdeal.main_arg2)
          ∧ r.2.mem ((c.tc : Thread Cert.DXRefIdeal.nD Cert.DXRefIdeal.τ).loc Cert.DXRefIdeal.main_arg3) = m' ((c.tc : Thread Cert.DXRefIdeal.nD Cert.DXRefIdeal.τ).loc Cert.DXRefIdeal.main_arg3)
          ∧ r.2.mem ((c.tc : Thread Cert.DXRefIdeal.nD Cert.DXRefIdeal.τ).loc Cert.DXRefIdeal.main_arg4) = m' ((c.tc : Thread Cert.DXRefIdeal.nD Cert.DXRefIdeal.τ).loc Cert.DXRefIdeal.main_arg4)
          ∧ r.2.mem ((c.tc : Thread Cert.DXRefIdeal.nD Cert.DXRefIdeal.τ).loc Cert.DXRefIdeal.main_arg5) = m' ((c.tc : Thread Cert.DXRefIdeal.nD Cert.DXRefIdeal.τ).loc Cert.DXRefIdeal.main_arg5))

def preserves_DW1_DW1Ideal : Prop :=
  True

def algebraic_DW1Ideal_DW1RefIdeal [hDW1Ideal : Cert.DW1Ideal.Facts] [hDW1RefIdeal : Cert.DW1RefIdeal.Facts] : Prop :=
  ∀ (m : (ℓ : Loc Cert.DW1Ideal.nD Cert.DW1Ideal.τ Cert.DW1Ideal.sig) → Buf (Elt Ideal) ℓ) (g : Dev Cert.DW1Ideal.nD → PrngReg)
    (m' : (ℓ : Loc Cert.DW1RefIdeal.nD Cert.DW1RefIdeal.τ Cert.DW1RefIdeal.sig) → Buf (Elt Ideal) ℓ) (g' : Dev Cert.DW1RefIdeal.nD → PrngReg), Pre_DW1Ideal m →
    (∀ c : Dev Cert.DW1Ideal.nD,
      m' ((c.tc : Thread Cert.DW1RefIdeal.nD Cert.DW1RefIdeal.τ).loc Cert.DW1RefIdeal.main_arg0) = m ((c.tc : Thread Cert.DW1Ideal.nD Cert.DW1Ideal.τ).loc Cert.DW1Ideal.main_arg0)
      ∧ m' ((c.tc : Thread Cert.DW1RefIdeal.nD Cert.DW1RefIdeal.τ).loc Cert.DW1RefIdeal.main_arg1) = m ((c.tc : Thread Cert.DW1Ideal.nD Cert.DW1Ideal.τ).loc Cert.DW1Ideal.main_arg1)
      ∧ m' ((c.tc : Thread Cert.DW1RefIdeal.nD Cert.DW1RefIdeal.τ).loc Cert.DW1RefIdeal.main_arg2) = m ((c.tc : Thread Cert.DW1Ideal.nD Cert.DW1Ideal.τ).loc Cert.DW1Ideal.main_arg2)
      ∧ m' ((c.tc : Thread Cert.DW1RefIdeal.nD Cert.DW1RefIdeal.τ).loc Cert.DW1RefIdeal.main_arg3) = m ((c.tc : Thread Cert.DW1Ideal.nD Cert.DW1Ideal.τ).loc Cert.DW1Ideal.main_arg3)) →
    ∃ (v0 : (c : Dev Cert.DW1Ideal.nD) → Buf (Elt Ideal) ((c.tc : Thread Cert.DW1Ideal.nD Cert.DW1Ideal.τ).loc Cert.DW1Ideal.main_v0)),
      θ_run (Cert.DW1Ideal.defs (F := Ideal)) (onTc (τ := Cert.DW1Ideal.τ) (Cert.DW1Ideal.main (F := Ideal))) ⟨m, fun _ => 0, g⟩ (fun r => ∀ c : Dev Cert.DW1Ideal.nD,
          r.2.mem ((c.tc : Thread Cert.DW1Ideal.nD Cert.DW1Ideal.τ).loc Cert.DW1Ideal.main_v0) = v0 c
          ∧ r.2.mem ((c.tc : Thread Cert.DW1Ideal.nD Cert.DW1Ideal.τ).loc Cert.DW1Ideal.main_arg0) = m ((c.tc : Thread Cert.DW1Ideal.nD Cert.DW1Ideal.τ).loc Cert.DW1Ideal.main_arg0)
          ∧ r.2.mem ((c.tc : Thread Cert.DW1Ideal.nD Cert.DW1Ideal.τ).loc Cert.DW1Ideal.main_arg1) = m ((c.tc : Thread Cert.DW1Ideal.nD Cert.DW1Ideal.τ).loc Cert.DW1Ideal.main_arg1)
          ∧ r.2.mem ((c.tc : Thread Cert.DW1Ideal.nD Cert.DW1Ideal.τ).loc Cert.DW1Ideal.main_arg2) = m ((c.tc : Thread Cert.DW1Ideal.nD Cert.DW1Ideal.τ).loc Cert.DW1Ideal.main_arg2)
          ∧ r.2.mem ((c.tc : Thread Cert.DW1Ideal.nD Cert.DW1Ideal.τ).loc Cert.DW1Ideal.main_arg3) = m ((c.tc : Thread Cert.DW1Ideal.nD Cert.DW1Ideal.τ).loc Cert.DW1Ideal.main_arg3))
      ∧ θ_run (Cert.DW1RefIdeal.defs (F := Ideal)) (onTc (τ := Cert.DW1RefIdeal.τ) (Cert.DW1RefIdeal.main (F := Ideal))) ⟨m', fun _ => 0, g'⟩ (fun r => ∀ c : Dev Cert.DW1RefIdeal.nD,
          r.2.mem ((c.tc : Thread Cert.DW1RefIdeal.nD Cert.DW1RefIdeal.τ).loc Cert.DW1RefIdeal.main_v0) = v0 c
          ∧ r.2.mem ((c.tc : Thread Cert.DW1RefIdeal.nD Cert.DW1RefIdeal.τ).loc Cert.DW1RefIdeal.main_arg0) = m' ((c.tc : Thread Cert.DW1RefIdeal.nD Cert.DW1RefIdeal.τ).loc Cert.DW1RefIdeal.main_arg0)
          ∧ r.2.mem ((c.tc : Thread Cert.DW1RefIdeal.nD Cert.DW1RefIdeal.τ).loc Cert.DW1RefIdeal.main_arg1) = m' ((c.tc : Thread Cert.DW1RefIdeal.nD Cert.DW1RefIdeal.τ).loc Cert.DW1RefIdeal.main_arg1)
          ∧ r.2.mem ((c.tc : Thread Cert.DW1RefIdeal.nD Cert.DW1RefIdeal.τ).loc Cert.DW1RefIdeal.main_arg2) = m' ((c.tc : Thread Cert.DW1RefIdeal.nD Cert.DW1RefIdeal.τ).loc Cert.DW1RefIdeal.main_arg2)
          ∧ r.2.mem ((c.tc : Thread Cert.DW1RefIdeal.nD Cert.DW1RefIdeal.τ).loc Cert.DW1RefIdeal.main_arg3) = m' ((c.tc : Thread Cert.DW1RefIdeal.nD Cert.DW1RefIdeal.τ).loc Cert.DW1RefIdeal.main_arg3))

def preserves_DW2_DW2Ideal : Prop :=
  True

def algebraic_DW2Ideal_DW2RefIdeal [hDW2Ideal : Cert.DW2Ideal.Facts] [hDW2RefIdeal : Cert.DW2RefIdeal.Facts] : Prop :=
  ∀ (m : (ℓ : Loc Cert.DW2Ideal.nD Cert.DW2Ideal.τ Cert.DW2Ideal.sig) → Buf (Elt Ideal) ℓ) (g : Dev Cert.DW2Ideal.nD → PrngReg)
    (m' : (ℓ : Loc Cert.DW2RefIdeal.nD Cert.DW2RefIdeal.τ Cert.DW2RefIdeal.sig) → Buf (Elt Ideal) ℓ) (g' : Dev Cert.DW2RefIdeal.nD → PrngReg), Pre_DW2Ideal m →
    (∀ c : Dev Cert.DW2Ideal.nD,
      m' ((c.tc : Thread Cert.DW2RefIdeal.nD Cert.DW2RefIdeal.τ).loc Cert.DW2RefIdeal.main_arg0) = m ((c.tc : Thread Cert.DW2Ideal.nD Cert.DW2Ideal.τ).loc Cert.DW2Ideal.main_arg0)
      ∧ m' ((c.tc : Thread Cert.DW2RefIdeal.nD Cert.DW2RefIdeal.τ).loc Cert.DW2RefIdeal.main_arg1) = m ((c.tc : Thread Cert.DW2Ideal.nD Cert.DW2Ideal.τ).loc Cert.DW2Ideal.main_arg1)
      ∧ m' ((c.tc : Thread Cert.DW2RefIdeal.nD Cert.DW2RefIdeal.τ).loc Cert.DW2RefIdeal.main_arg2) = m ((c.tc : Thread Cert.DW2Ideal.nD Cert.DW2Ideal.τ).loc Cert.DW2Ideal.main_arg2)
      ∧ m' ((c.tc : Thread Cert.DW2RefIdeal.nD Cert.DW2RefIdeal.τ).loc Cert.DW2RefIdeal.main_arg3) = m ((c.tc : Thread Cert.DW2Ideal.nD Cert.DW2Ideal.τ).loc Cert.DW2Ideal.main_arg3)) →
    ∃ (v0 : (c : Dev Cert.DW2Ideal.nD) → Buf (Elt Ideal) ((c.tc : Thread Cert.DW2Ideal.nD Cert.DW2Ideal.τ).loc Cert.DW2Ideal.main_v0)),
      θ_run (Cert.DW2Ideal.defs (F := Ideal)) (onTc (τ := Cert.DW2Ideal.τ) (Cert.DW2Ideal.main (F := Ideal))) ⟨m, fun _ => 0, g⟩ (fun r => ∀ c : Dev Cert.DW2Ideal.nD,
          r.2.mem ((c.tc : Thread Cert.DW2Ideal.nD Cert.DW2Ideal.τ).loc Cert.DW2Ideal.main_v0) = v0 c
          ∧ r.2.mem ((c.tc : Thread Cert.DW2Ideal.nD Cert.DW2Ideal.τ).loc Cert.DW2Ideal.main_arg0) = m ((c.tc : Thread Cert.DW2Ideal.nD Cert.DW2Ideal.τ).loc Cert.DW2Ideal.main_arg0)
          ∧ r.2.mem ((c.tc : Thread Cert.DW2Ideal.nD Cert.DW2Ideal.τ).loc Cert.DW2Ideal.main_arg1) = m ((c.tc : Thread Cert.DW2Ideal.nD Cert.DW2Ideal.τ).loc Cert.DW2Ideal.main_arg1)
          ∧ r.2.mem ((c.tc : Thread Cert.DW2Ideal.nD Cert.DW2Ideal.τ).loc Cert.DW2Ideal.main_arg2) = m ((c.tc : Thread Cert.DW2Ideal.nD Cert.DW2Ideal.τ).loc Cert.DW2Ideal.main_arg2)
          ∧ r.2.mem ((c.tc : Thread Cert.DW2Ideal.nD Cert.DW2Ideal.τ).loc Cert.DW2Ideal.main_arg3) = m ((c.tc : Thread Cert.DW2Ideal.nD Cert.DW2Ideal.τ).loc Cert.DW2Ideal.main_arg3))
      ∧ θ_run (Cert.DW2RefIdeal.defs (F := Ideal)) (onTc (τ := Cert.DW2RefIdeal.τ) (Cert.DW2RefIdeal.main (F := Ideal))) ⟨m', fun _ => 0, g'⟩ (fun r => ∀ c : Dev Cert.DW2RefIdeal.nD,
          r.2.mem ((c.tc : Thread Cert.DW2RefIdeal.nD Cert.DW2RefIdeal.τ).loc Cert.DW2RefIdeal.main_v0) = v0 c
          ∧ r.2.mem ((c.tc : Thread Cert.DW2RefIdeal.nD Cert.DW2RefIdeal.τ).loc Cert.DW2RefIdeal.main_arg0) = m' ((c.tc : Thread Cert.DW2RefIdeal.nD Cert.DW2RefIdeal.τ).loc Cert.DW2RefIdeal.main_arg0)
          ∧ r.2.mem ((c.tc : Thread Cert.DW2RefIdeal.nD Cert.DW2RefIdeal.τ).loc Cert.DW2RefIdeal.main_arg1) = m' ((c.tc : Thread Cert.DW2RefIdeal.nD Cert.DW2RefIdeal.τ).loc Cert.DW2RefIdeal.main_arg1)
          ∧ r.2.mem ((c.tc : Thread Cert.DW2RefIdeal.nD Cert.DW2RefIdeal.τ).loc Cert.DW2RefIdeal.main_arg2) = m' ((c.tc : Thread Cert.DW2RefIdeal.nD Cert.DW2RefIdeal.τ).loc Cert.DW2RefIdeal.main_arg2)
          ∧ r.2.mem ((c.tc : Thread Cert.DW2RefIdeal.nD Cert.DW2RefIdeal.τ).loc Cert.DW2RefIdeal.main_arg3) = m' ((c.tc : Thread Cert.DW2RefIdeal.nD Cert.DW2RefIdeal.τ).loc Cert.DW2RefIdeal.main_arg3))

def Claim : Prop :=
  ∃ (hScale : Cert.Scale.Facts) (hScaleIdeal : Cert.ScaleIdeal.Facts) (hScaleRefIdeal : Cert.ScaleRefIdeal.Facts) (hDA : Cert.DA.Facts) (hDAIdeal : Cert.DAIdeal.Facts) (hDARefIdeal : Cert.DARefIdeal.Facts) (hDX : Cert.DX.Facts) (hDXIdeal : Cert.DXIdeal.Facts) (hDXRefIdeal : Cert.DXRefIdeal.Facts) (hDW1 : Cert.DW1.Facts) (hDW1Ideal : Cert.DW1Ideal.Facts) (hDW1RefIdeal : Cert.DW1RefIdeal.Facts) (hDW2 : Cert.DW2.Facts) (hDW2Ideal : Cert.DW2Ideal.Facts) (hDW2RefIdeal : Cert.DW2RefIdeal.Facts),
    quiescent_Scale (hScale := hScale)
    ∧ quiescent_ScaleIdeal (hScaleIdeal := hScaleIdeal)
    ∧ quiescent_ScaleRefIdeal (hScaleRefIdeal := hScaleRefIdeal)
    ∧ quiescent_DA (hDA := hDA)
    ∧ quiescent_DAIdeal (hDAIdeal := hDAIdeal)
    ∧ quiescent_DARefIdeal (hDARefIdeal := hDARefIdeal)
    ∧ quiescent_DX (hDX := hDX)
    ∧ quiescent_DXIdeal (hDXIdeal := hDXIdeal)
    ∧ quiescent_DXRefIdeal (hDXRefIdeal := hDXRefIdeal)
    ∧ quiescent_DW1 (hDW1 := hDW1)
    ∧ quiescent_DW1Ideal (hDW1Ideal := hDW1Ideal)
    ∧ quiescent_DW1RefIdeal (hDW1RefIdeal := hDW1RefIdeal)
    ∧ quiescent_DW2 (hDW2 := hDW2)
    ∧ quiescent_DW2Ideal (hDW2Ideal := hDW2Ideal)
    ∧ quiescent_DW2RefIdeal (hDW2RefIdeal := hDW2RefIdeal)
    ∧ preserves_Scale_ScaleIdeal
    ∧ algebraic_ScaleIdeal_ScaleRefIdeal (hScaleIdeal := hScaleIdeal) (hScaleRefIdeal := hScaleRefIdeal)
    ∧ preserves_DA_DAIdeal
    ∧ algebraic_DAIdeal_DARefIdeal (hDAIdeal := hDAIdeal) (hDARefIdeal := hDARefIdeal)
    ∧ preserves_DX_DXIdeal
    ∧ algebraic_DXIdeal_DXRefIdeal (hDXIdeal := hDXIdeal) (hDXRefIdeal := hDXRefIdeal)
    ∧ preserves_DW1_DW1Ideal
    ∧ algebraic_DW1Ideal_DW1RefIdeal (hDW1Ideal := hDW1Ideal) (hDW1RefIdeal := hDW1RefIdeal)
    ∧ preserves_DW2_DW2Ideal
    ∧ algebraic_DW2Ideal_DW2RefIdeal (hDW2Ideal := hDW2Ideal) (hDW2RefIdeal := hDW2RefIdeal)
-- ==== Scale.lean ====
abbrev S8192x4096 : Shape := ⟨2, ![8192, 4096]⟩
abbrev S1x1 : Shape := ⟨2, ![1, 1]⟩
abbrev S512x4096 : Shape := ⟨2, ![512, 4096]⟩
abbrev S16x4096 : Shape := ⟨2, ![16, 4096]⟩
abbrev S32x16x4096 : Shape := ⟨3, ![32, 16, 4096]⟩
abbrev S1x16x4096 : Shape := ⟨3, ![1, 16, 4096]⟩
abbrev S1 : Shape := ⟨1, ![1]⟩
abbrev S1x1x1 : Shape := ⟨3, ![1, 1, 1]⟩
abbrev S1x240 : Shape := ⟨2, ![1, 240]⟩
abbrev S1x1x240 : Shape := ⟨3, ![1, 1, 240]⟩

abbrev nBuf : Space → Nat
  | .hbm => 3
  | .vmem => 3
  | .smem => 2
  | _ => 0

abbrev bufTy : (tb : Table) → Fin (tcTables nBuf tb) → BufTy
  | .hbm, ⟨0, _⟩ => ⟨S8192x4096, .bf16⟩
  | .hbm, ⟨1, _⟩ => ⟨S1x1, .f32⟩
  | .hbm, ⟨2, _⟩ => ⟨S1x1, .f32⟩
  | .local _ .vmem, ⟨0, _⟩ => ⟨S512x4096, .bf16⟩
  | .local _ .vmem, ⟨1, _⟩ => ⟨S512x4096, .bf16⟩
  | .local _ .vmem, ⟨2, _⟩ => ⟨S16x4096, .bf16⟩
  | .local _ .smem, ⟨0, _⟩ => ⟨S1x1, .f32⟩
  | .local _ .smem, ⟨1, _⟩ => ⟨S1x1, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v12 : BitVec 1 := Scalar.cmpi .eq arg0 c15_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ScaleRefIdeal.lean ====
abbrev S8192x4096 : Shape := ⟨2, ![8192, 4096]⟩
abbrev S1x1 : Shape := ⟨2, ![1, 1]⟩
abbrev S1x8192x4096 : Shape := ⟨3, ![1, 8192, 4096]⟩
abbrev S1 : Shape := ⟨1, ![1]⟩
abbrev S1x1x1 : Shape := ⟨3, ![1, 1, 1]⟩
abbrev S1x239 : Shape := ⟨2, ![1, 239]⟩
abbrev S1x1x239 : Shape := ⟨3, ![1, 1, 239]⟩

abbrev nBuf : Space → Nat
  | .hbm => 3
  | .vmem => 1
  | .smem => 2
  | _ => 0

abbrev bufTy : (tb : Table) → Fin (tcTables nBuf tb) → BufTy
  | .hbm, ⟨0, _⟩ => ⟨S8192x4096, .bf16⟩
  | .hbm, ⟨1, _⟩ => ⟨S1x1, .f32⟩
  | .hbm, ⟨2, _⟩ => ⟨S1x1, .f32⟩
  | .local _ .vmem, ⟨0, _⟩ => ⟨S8192x4096, .bf16⟩
  | .local _ .smem, ⟨0, _⟩ => ⟨S1x1, .f32⟩
  | .local _ .smem, ⟨1, _⟩ => ⟨S1x1, .f32⟩
  | _, _ => ⟨S8192x4096, .bf16⟩

abbrev bufScoped : (cs : CoreSpace) → Fin (nBuf (.core cs)) → Bool
  | .vmem, ⟨0, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8192x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== DA.lean ====
abbrev S1x1 : Shape := ⟨2, ![1, 1]⟩
abbrev S8192x4096 : Shape := ⟨2, ![8192, 4096]⟩
abbrev S5504x4096 : Shape := ⟨2, ![5504, 4096]⟩
abbrev S8192x11008 : Shape := ⟨2, ![8192, 11008]⟩
abbrev S8192x5504 : Shape := ⟨2, ![8192, 5504]⟩
abbrev S256x4096 : Shape := ⟨2, ![256, 4096]⟩
abbrev S256x11008 : Shape := ⟨2, ![256, 11008]⟩
abbrev S256x5504 : Shape := ⟨2, ![256, 5504]⟩
abbrev S8x5504 : Shape := ⟨2, ![8, 5504]⟩
abbrev S512x4096 : Shape := ⟨2, ![512, 4096]⟩
abbrev S256x512 : Shape := ⟨2, ![256, 512]⟩
abbrev S32x8x512 : Shape := ⟨3, ![32, 8, 512]⟩
abbrev S8x512 : Shape := ⟨2, ![8, 512]⟩
abbrev S384x4096 : Shape := ⟨2, ![384, 4096]⟩
abbrev S256x384 : Shape := ⟨2, ![256, 384]⟩
abbrev S32x8x384 : Shape := ⟨3, ![32, 8, 384]⟩
abbrev S8x384 : Shape := ⟨2, ![8, 384]⟩
abbrev S1x8x5504 : Shape := ⟨3, ![1, 8, 5504]⟩
abbrev S1 : Shape := ⟨1, ![1]⟩
abbrev S1x1x1 : Shape := ⟨3, ![1, 1, 1]⟩
abbrev S1x240 : Shape := ⟨2, ![1, 240]⟩
abbrev S1x1x240 : Shape := ⟨3, ![1, 1, 240]⟩

abbrev nBuf : Space → Nat
  | .hbm => 10
  | .vmem => 10
  | .smem => 5
  | _ => 0

abbrev bufTy : (tb : Table) → Fin (tcTables nBuf tb) → BufTy
  | .hbm, ⟨0, _⟩ => ⟨S1x1, .f32⟩
  | .hbm, ⟨1, _⟩ => ⟨S1x1, .f32⟩
  | .hbm, ⟨2, _⟩ => ⟨S1x1, .f32⟩
  | .hbm, ⟨3, _⟩ => ⟨S8192x4096, .bf16⟩
  | .hbm, ⟨4, _⟩ => ⟨S5504x4096, .fp8e4m3⟩
  | .hbm, ⟨5, _⟩ => ⟨S8192x11008, .bf16⟩
  | .hbm, ⟨6, _⟩ => ⟨S8192x4096, .fp8e5m2⟩
  | .hbm, ⟨7, _⟩ => ⟨S8192x5504, .f32⟩
  | .hbm, ⟨8, _⟩ => ⟨S1x1, .f32⟩
  | .hbm, ⟨9, _⟩ => ⟨S1x1, .f32⟩
  | .local _ .vmem, ⟨0, _⟩ => ⟨S256x4096, .bf16⟩
  | .local _ .vmem, ⟨1, _⟩ => ⟨S256x4096, .bf16⟩
  | .local _ .vmem, ⟨2, _⟩ => ⟨S5504x4096, .fp8e4m3⟩
  | .local _ .vmem, ⟨3, _⟩ => ⟨S256x11008, .bf16⟩
  | .local _ .vmem, ⟨4, _⟩ => ⟨S256x11008, .bf16⟩
  | .local _ .vmem, ⟨5, _⟩ => ⟨S256x4096, .fp8e5m2⟩
  | .local _ .vmem, ⟨6, _⟩ => ⟨S256x4096, .fp8e5m2⟩
  | .local _ .vmem, ⟨7, _⟩ => ⟨S256x5504, .f32⟩
  | .local _ .vmem, ⟨8, _⟩ => ⟨S256x5504, .f32⟩
  | .local _ .vmem, ⟨9, _⟩ => ⟨S8x5504, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | .local _ .smem, ⟨4, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg5_1 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_scratch0 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg8_0 : Ref sig .tc := ⟨.smem, 3, rfl⟩
abbrev cc0_stg9_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v369 : BitVec 1 := Scalar.cmpi .eq arg0 c31_i32
  let v370 : BitVec 32 := Scalar.extui v369
  let c0_i32_188 : BitVec 32 := 0#32
  let v371 : BitVec 1 := Scalar.cmpi .ne v370 c0_i32_188
  v371

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S5504x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x11008 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5504 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== DARefIdeal.lean ====
abbrev S1x1 : Shape := ⟨2, ![1, 1]⟩
abbrev S8192x4096 : Shape := ⟨2, ![8192, 4096]⟩
abbrev S5504x4096 : Shape := ⟨2, ![5504, 4096]⟩
abbrev S8192x11008 : Shape := ⟨2, ![8192, 11008]⟩
abbrev S8192x5504 : Shape := ⟨2, ![8192, 5504]⟩
abbrev S1x8192x11008 : Shape := ⟨3, ![1, 8192, 11008]⟩
abbrev S1 : Shape := ⟨1, ![1]⟩
abbrev S1x1x1 : Shape := ⟨3, ![1, 1, 1]⟩
abbrev S1x239 : Shape := ⟨2, ![1, 239]⟩
abbrev S1x1x239 : Shape := ⟨3, ![1, 1, 239]⟩

abbrev nBuf : Space → Nat
  | .hbm => 10
  | .vmem => 5
  | .smem => 5
  | _ => 0

abbrev bufTy : (tb : Table) → Fin (tcTables nBuf tb) → BufTy
  | .hbm, ⟨0, _⟩ => ⟨S1x1, .f32⟩
  | .hbm, ⟨1, _⟩ => ⟨S1x1, .f32⟩
  | .hbm, ⟨2, _⟩ => ⟨S1x1, .f32⟩
  | .hbm, ⟨3, _⟩ => ⟨S8192x4096, .bf16⟩
  | .hbm, ⟨4, _⟩ => ⟨S5504x4096, .fp8e4m3⟩
  | .hbm, ⟨5, _⟩ => ⟨S8192x11008, .bf16⟩
  | .hbm, ⟨6, _⟩ => ⟨S8192x4096, .fp8e5m2⟩
  | .hbm, ⟨7, _⟩ => ⟨S8192x5504, .f32⟩
  | .hbm, ⟨8, _⟩ => ⟨S1x1, .f32⟩
  | .hbm, ⟨9, _⟩ => ⟨S1x1, .f32⟩
  | .local _ .vmem, ⟨0, _⟩ => ⟨S8192x4096, .bf16⟩
  | .local _ .vmem, ⟨1, _⟩ => ⟨S5504x4096, .fp8e4m3⟩
  | .local _ .vmem, ⟨2, _⟩ => ⟨S8192x11008, .bf16⟩
  | .local _ .vmem, ⟨3, _⟩ => ⟨S8192x4096, .fp8e5m2⟩
  | .local _ .vmem, ⟨4, _⟩ => ⟨S8192x5504, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | .local _ .smem, ⟨4, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg8_0 : Ref sig .tc := ⟨.smem, 3, rfl⟩
abbrev cc0_stg9_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5504x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x11008 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x4096 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x5504 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== DX.lean ====
abbrev S1x1 : Shape := ⟨2, ![1, 1]⟩
abbrev S8192x5504 : Shape := ⟨2, ![8192, 5504]⟩
abbrev S8192x11008 : Shape := ⟨2, ![8192, 11008]⟩
abbrev S4096x11008 : Shape := ⟨2, ![4096, 11008]⟩
abbrev S8192x4096 : Shape := ⟨2, ![8192, 4096]⟩
abbrev S128x5504 : Shape := ⟨2, ![128, 5504]⟩
abbrev S128x11008 : Shape := ⟨2, ![128, 11008]⟩
abbrev S512x11008 : Shape := ⟨2, ![512, 11008]⟩
abbrev S1024x512 : Shape := ⟨2, ![1024, 512]⟩
abbrev S2x1024x11008 : Shape := ⟨3, ![2, 1024, 11008]⟩
abbrev S1x128x5504 : Shape := ⟨3, ![1, 128, 5504]⟩
abbrev S1x1024x11008 : Shape := ⟨3, ![1, 1024, 11008]⟩
abbrev S1024x11008 : Shape := ⟨2, ![1024, 11008]⟩

abbrev nBuf : Space → Nat
  | .hbm => 8
  | .vmem => 11
  | .smem => 3
  | _ => 0

abbrev bufTy : (tb : Table) → Fin (tcTables nBuf tb) → BufTy
  | .hbm, ⟨0, _⟩ => ⟨S1x1, .f32⟩
  | .hbm, ⟨1, _⟩ => ⟨S1x1, .f32⟩
  | .hbm, ⟨2, _⟩ => ⟨S1x1, .f32⟩
  | .hbm, ⟨3, _⟩ => ⟨S8192x5504, .f32⟩
  | .hbm, ⟨4, _⟩ => ⟨S8192x11008, .bf16⟩
  | .hbm, ⟨5, _⟩ => ⟨S4096x11008, .fp8e4m3⟩
  | .hbm, ⟨6, _⟩ => ⟨S8192x11008, .fp8e5m2⟩
  | .hbm, ⟨7, _⟩ => ⟨S8192x4096, .bf16⟩
  | .local _ .vmem, ⟨0, _⟩ => ⟨S128x5504, .f32⟩
  | .local _ .vmem, ⟨1, _⟩ => ⟨S128x5504, .f32⟩
  | .local _ .vmem, ⟨2, _⟩ => ⟨S128x11008, .bf16⟩
  | .local _ .vmem, ⟨3, _⟩ => ⟨S128x11008, .bf16⟩
  | .local _ .vmem, ⟨4, _⟩ => ⟨S512x11008, .fp8e4m3⟩
  | .local _ .vmem, ⟨5, _⟩ => ⟨S512x11008, .fp8e4m3⟩
  | .local _ .vmem, ⟨6, _⟩ => ⟨S128x11008, .fp8e5m2⟩
  | .local _ .vmem, ⟨7, _⟩ => ⟨S128x11008, .fp8e5m2⟩
  | .local _ .vmem, ⟨8, _⟩ => ⟨S1024x512, .bf16⟩
  | .local _ .vmem, ⟨9, _⟩ => ⟨S1024x512, .bf16⟩
  | .local _ .vmem, ⟨10, _⟩ => ⟨S2x1024x11008, .fp8e5m2⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![9, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c128_i32 : BitVec 32 := 128#32
  let v45 : BitVec 32 := Scalar.muli arg1 c128_i32
  v45
def k0_off1 (i : grid0.Coords) : Fin 3 → Nat :=
  let arg0 : BitVec 32 := BitVec.ofNat 32 (i 0).val
  let c1_i32 : BitVec 32 := 1#32
  let v12 : BitVec 32 := Scalar.andi arg0 c1_i32
  let v47 : Index := Scalar.indexCast v12
  let arg1 : BitVec 32 := BitVec.ofNat 32 (i 1).val
  let c128_i32 : BitVec 32 := 128#32
  let v45 : BitVec 32 := Scalar.muli arg1 c128_i32
  let v46 : BitVec 32 := v45
  let v48 : Index := Scalar.indexCast v46
  let c0_20 : Index := 0#32
  ![v47.toNat, v48.toNat, 0]
def k0_off2 (i : grid0.Coords) : Fin 3 → Nat :=
  let arg0 : BitVec 32 := BitVec.ofNat 32 (i 0).val
  let c1_i32 : BitVec 32 := 1#32
  let v12 : BitVec 32 := Scalar.andi arg0 c1_i32
  let v52 : Index := Scalar.indexCast v12
  let arg1 : BitVec 32 := BitVec.ofNat 32 (i 1).val
  let c128_i32 : BitVec 32 := 128#32
  let v45 : BitVec 32 := Scalar.muli arg1 c128_i32
  let v46 : BitVec 32 := v45
  let v53 : Index := Scalar.indexCast v46
  let c5504_21 : Index := 5504#32
  ![v52.toNat, v53.toNat, 5504]
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c8_i32 : BitVec 32 := 8#32
  let v4 : BitVec 1 := Scalar.cmpi .slt arg0 c8_i32
  let v5 : BitVec 1 := Scalar.andi v3 v4
  let v6 : BitVec 32 := Scalar.extui v5
  let c0_i32_2 : BitVec 32 := 0#32
  let v7 : BitVec 1 := Scalar.cmpi .ne v6 c0_i32_2
  v7

def k0_off3 (i : grid0.Coords) : Fin 3 → Nat :=
  let arg0 : BitVec 32 := BitVec.ofNat 32 (i 0).val
  let c1_i32 : BitVec 32 := 1#32
  let v14 : BitVec 32 := Scalar.addi arg0 c1_i32
  let c1_i32_8 : BitVec 32 := 1#32
  let v15 : BitVec 32 := Scalar.andi v14 c1_i32_8
  let v16 : Index := Scalar.indexCast v15
  let c0_9 : Index := 0#32
  let c0_10 : Index := 0#32
  ![v16.toNat, 0, 0]
def k0_mult2 (i : grid0.Coords) : BitVec 32 :=
  let arg1 : BitVec 32 := BitVec.ofNat 32 (i 1).val
  let c128_i32 : BitVec 32 := 128#32
  let v59 : BitVec 32 := Scalar.muli arg1 c128_i32
  v59
def k0_off4 (i : grid0.Coords) : Fin 3 → Nat :=
  let arg0 : BitVec 32 := BitVec.ofNat 32 (i 0).val
  let c1_i32_17 : BitVec 32 := 1#32
  let v26 : BitVec 32 := Scalar.andi arg0 c1_i32_17
  let v61 : Index := Scalar.indexCast v26
  let arg1 : BitVec 32 := BitVec.ofNat 32 (i 1).val
  let c128_i32 : BitVec 32 := 128#32
  let v59 : BitVec 32 := Scalar.muli arg1 c128_i32
  let v60 : BitVec 32 := v59
  let v62 : Index := Scalar.indexCast v60
  let c0_33 : Index := 0#32
  ![v61.toNat, v62.toNat, 0]
def k0_off5 (i : grid0.Coords) : Fin 3 → Nat :=
  let arg0 : BitVec 32 := BitVec.ofNat 32 (i 0).val
  let c1_i32_17 : BitVec 32 := 1#32
  let v26 : BitVec 32 := Scalar.andi arg0 c1_i32_17
  let v66 : Index := Scalar.indexCast v26
  let arg1 : BitVec 32 := BitVec.ofNat 32 (i 1).val
  let c128_i32 : BitVec 32 := 128#32
  let v59 : BitVec 32 := Scalar.muli arg1 c128_i32
  let v60 : BitVec 32 := v59
  let v67 : Index := Scalar.indexCast v60
  let c5504_34 : Index := 5504#32
  ![v66.toNat, v67.toNat, 5504]
def k0_cond3 (i : grid0.Coords) : BitVec 1 :=
  let arg0 : BitVec 32 := BitVec.ofNat 32 (i 0).val
  let c8_i32_3 : BitVec 32 := 8#32
  let v8 : BitVec 1 := Scalar.cmpi .eq arg0 c8_i32_3
  let v9 : BitVec 32 := Scalar.extui v8
  let c0_i32_4 : BitVec 32 := 0#32
  let v10 : BitVec 1 := Scalar.cmpi .ne v9 c0_i32_4
  v10

def k0_off6 (i : grid0.Coords) : Fin 3 → Nat :=
  let arg0 : BitVec 32 := BitVec.ofNat 32 (i 0).val
  let c1_i32 : BitVec 32 := 1#32
  let v14 : BitVec 32 := Scalar.addi arg0 c1_i32
  let c1_i32_8 : BitVec 32 := 1#32
  let v15 : BitVec 32 := Scalar.andi v14 c1_i32_8
  let v16 : Index := Scalar.indexCast v15
  let c0_9 : Index := 0#32
  let c0_10 : Index := 0#32
  ![v16.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S128x5504 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x11008 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x11008 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x11008 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== DXRefIdeal.lean ====
abbrev S1x1 : Shape := ⟨2, ![1, 1]⟩
abbrev S8192x5504 : Shape := ⟨2, ![8192, 5504]⟩
abbrev S8192x11008 : Shape := ⟨2, ![8192, 11008]⟩
abbrev S4096x11008 : Shape := ⟨2, ![4096, 11008]⟩
abbrev S8192x4096 : Shape := ⟨2, ![8192, 4096]⟩

abbrev nBuf : Space → Nat
  | .hbm => 8
  | .vmem => 5
  | .smem => 3
  | _ => 0

abbrev bufTy : (tb : Table) → Fin (tcTables nBuf tb) → BufTy
  | .hbm, ⟨0, _⟩ => ⟨S1x1, .f32⟩
  | .hbm, ⟨1, _⟩ => ⟨S1x1, .f32⟩
  | .hbm, ⟨2, _⟩ => ⟨S1x1, .f32⟩
  | .hbm, ⟨3, _⟩ => ⟨S8192x5504, .f32⟩
  | .hbm, ⟨4, _⟩ => ⟨S8192x11008, .bf16⟩
  | .hbm, ⟨5, _⟩ => ⟨S4096x11008, .fp8e4m3⟩
  | .hbm, ⟨6, _⟩ => ⟨S8192x11008, .fp8e5m2⟩
  | .hbm, ⟨7, _⟩ => ⟨S8192x4096, .bf16⟩
  | .local _ .vmem, ⟨0, _⟩ => ⟨S8192x5504, .f32⟩
  | .local _ .vmem, ⟨1, _⟩ => ⟨S8192x11008, .bf16⟩
  | .local _ .vmem, ⟨2, _⟩ => ⟨S4096x11008, .fp8e4m3⟩
  | .local _ .vmem, ⟨3, _⟩ => ⟨S8192x11008, .fp8e5m2⟩
  | .local _ .vmem, ⟨4, _⟩ => ⟨S8192x4096, .bf16⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x5504 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x11008 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x11008 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x11008 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== DW1.lean ====
abbrev S1x1 : Shape := ⟨2, ![1, 1]⟩
abbrev S8192x4096 : Shape := ⟨2, ![8192, 4096]⟩
abbrev S8192x11008 : Shape := ⟨2, ![8192, 11008]⟩
abbrev S4096x11008 : Shape := ⟨2, ![4096, 11008]⟩
abbrev S8192x512 : Shape := ⟨2, ![8192, 512]⟩
abbrev S8192x1024 : Shape := ⟨2, ![8192, 1024]⟩
abbrev S512x1024 : Shape := ⟨2, ![512, 1024]⟩

abbrev nBuf : Space → Nat
  | .hbm => 5
  | .vmem => 6
  | .smem => 2
  | _ => 0

abbrev bufTy : (tb : Table) → Fin (tcTables nBuf tb) → BufTy
  | .hbm, ⟨0, _⟩ => ⟨S1x1, .f32⟩
  | .hbm, ⟨1, _⟩ => ⟨S1x1, .f32⟩
  | .hbm, ⟨2, _⟩ => ⟨S8192x4096, .fp8e4m3⟩
  | .hbm, ⟨3, _⟩ => ⟨S8192x11008, .fp8e5m2⟩
  | .hbm, ⟨4, _⟩ => ⟨S4096x11008, .bf16⟩
  | .local _ .vmem, ⟨0, _⟩ => ⟨S8192x512, .fp8e4m3⟩
  | .local _ .vmem, ⟨1, _⟩ => ⟨S8192x512, .fp8e4m3⟩
  | .local _ .vmem, ⟨2, _⟩ => ⟨S8192x1024, .fp8e5m2⟩
  | .local _ .vmem, ⟨3, _⟩ => ⟨S8192x1024, .fp8e5m2⟩
  | .local _ .vmem, ⟨4, _⟩ => ⟨S512x1024, .bf16⟩
  | .local _ .vmem, ⟨5, _⟩ => ⟨S512x1024, .bf16⟩
  | .local _ .smem, ⟨0, _⟩ => ⟨S1x1, .f32⟩
  | .local _ .smem, ⟨1, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8192x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x1024 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DW1RefIdeal.lean ====
abbrev S1x1 : Shape := ⟨2, ![1, 1]⟩
abbrev S8192x4096 : Shape := ⟨2, ![8192, 4096]⟩
abbrev S8192x11008 : Shape := ⟨2, ![8192, 11008]⟩
abbrev S4096x11008 : Shape := ⟨2, ![4096, 11008]⟩

abbrev nBuf : Space → Nat
  | .hbm => 5
  | .vmem => 3
  | .smem => 2
  | _ => 0

abbrev bufTy : (tb : Table) → Fin (tcTables nBuf tb) → BufTy
  | .hbm, ⟨0, _⟩ => ⟨S1x1, .f32⟩
  | .hbm, ⟨1, _⟩ => ⟨S1x1, .f32⟩
  | .hbm, ⟨2, _⟩ => ⟨S8192x4096, .fp8e4m3⟩
  | .hbm, ⟨3, _⟩ => ⟨S8192x11008, .fp8e5m2⟩
  | .hbm, ⟨4, _⟩ => ⟨S4096x11008, .bf16⟩
  | .local _ .vmem, ⟨0, _⟩ => ⟨S8192x4096, .fp8e4m3⟩
  | .local _ .vmem, ⟨1, _⟩ => ⟨S8192x11008, .fp8e5m2⟩
  | .local _ .vmem, ⟨2, _⟩ => ⟨S4096x11008, .bf16⟩
  | .local _ .smem, ⟨0, _⟩ => ⟨S1x1, .f32⟩
  | .local _ .smem, ⟨1, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x11008 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x11008 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== DW2.lean ====
abbrev S1x1 : Shape := ⟨2, ![1, 1]⟩
abbrev S8192x5504 : Shape := ⟨2, ![8192, 5504]⟩
abbrev S8192x4096 : Shape := ⟨2, ![8192, 4096]⟩
abbrev S5504x4096 : Shape := ⟨2, ![5504, 4096]⟩
abbrev S8192x256 : Shape := ⟨2, ![8192, 256]⟩
abbrev S256x4096 : Shape := ⟨2, ![256, 4096]⟩

abbrev nBuf : Space → Nat
  | .hbm => 5
  | .vmem => 5
  | .smem => 2
  | _ => 0

abbrev bufTy : (tb : Table) → Fin (tcTables nBuf tb) → BufTy
  | .hbm, ⟨0, _⟩ => ⟨S1x1, .f32⟩
  | .hbm, ⟨1, _⟩ => ⟨S1x1, .f32⟩
  | .hbm, ⟨2, _⟩ => ⟨S8192x5504, .fp8e4m3⟩
  | .hbm, ⟨3, _⟩ => ⟨S8192x4096, .fp8e5m2⟩
  | .hbm, ⟨4, _⟩ => ⟨S5504x4096, .bf16⟩
  | .local _ .vmem, ⟨0, _⟩ => ⟨S8192x256, .fp8e4m3⟩
  | .local _ .vmem, ⟨1, _⟩ => ⟨S8192x256, .fp8e4m3⟩
  | .local _ .vmem, ⟨2, _⟩ => ⟨S8192x4096, .fp8e5m2⟩
  | .local _ .vmem, ⟨3, _⟩ => ⟨S256x4096, .bf16⟩
  | .local _ .vmem, ⟨4, _⟩ => ⟨S256x4096, .bf16⟩
  | .local _ .smem, ⟨0, _⟩ => ⟨S1x1, .f32⟩
  | .local _ .smem, ⟨1, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8192x4096 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DW2RefIdeal.lean ====
abbrev S1x1 : Shape := ⟨2, ![1, 1]⟩
abbrev S8192x5504 : Shape := ⟨2, ![8192, 5504]⟩
abbrev S8192x4096 : Shape := ⟨2, ![8192, 4096]⟩
abbrev S5504x4096 : Shape := ⟨2, ![5504, 4096]⟩

abbrev nBuf : Space → Nat
  | .hbm => 5
  | .vmem => 3
  | .smem => 2
  | _ => 0

abbrev bufTy : (tb : Table) → Fin (tcTables nBuf tb) → BufTy
  | .hbm, ⟨0, _⟩ => ⟨S1x1, .f32⟩
  | .hbm, ⟨1, _⟩ => ⟨S1x1, .f32⟩
  | .hbm, ⟨2, _⟩ => ⟨S8192x5504, .fp8e4m3⟩
  | .hbm, ⟨3, _⟩ => ⟨S8192x4096, .fp8e5m2⟩
  | .hbm, ⟨4, _⟩ => ⟨S5504x4096, .bf16⟩
  | .local _ .vmem, ⟨0, _⟩ => ⟨S8192x5504, .fp8e4m3⟩
  | .local _ .vmem, ⟨1, _⟩ => ⟨S8192x4096, .fp8e5m2⟩
  | .local _ .vmem, ⟨2, _⟩ => ⟨S5504x4096, .bf16⟩
  | .local _ .smem, ⟨0, _⟩ => ⟨S1x1, .f32⟩
  | .local _ .smem, ⟨1, _⟩ => ⟨S1x1, .f32⟩
  | _, _ => ⟨S1x1, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x5504 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x4096 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5504x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Common.lean ====
/-
  Reading and writing whole buffers: what a load or a store through the rectangle of a buffer's own extents at zero
  offsets does.
-/
module

public import Idealize.ShloMosaic.Lib.Tactic
public import Idealize.ShloMosaic.Lib.Pipeline.ValueKit
public import Idealize.ShloMosaic.Lib.WritesUnit
public import Idealize.ShloMosaic.Lib.Pipeline.Frame
public import Idealize.ShloMosaic.Lib.Pipeline.FrameBody

@[expose] public section

noncomputable section

namespace Cert.Common

open Idealize.ShloMosaic

variable {sig : RefSig} {κ : Kind} {sp : Space} {s : Shape} {e : EltTy} {Val : EltTy → Type}

/-- A load of a whole buffer reads its contents. -/
theorem readAt_whole {M : Memref sig κ sp s e} (h : M.IsWhole) (X : s.Idx → Val e) {off : Fin s.rank → Nat}
    (hz : off = fun _ => 0) (inb : ∀ a, off a + s.size a ≤ s.size a) :
    View.readAt Val M.view (Rect.unit off s.size inb).toLoadRect (h.unread X) = X := by
  subst hz
  show View.ld (M.view.read Val (h.unread X)) (Rect.unit (fun _ => 0) s.size inb) = X
  rw [h.read_unread]
  funext x
  refine congrArg X (funext fun a => Fin.ext ?_)
  show 0 + 1 * (x a).val = (x a).val
  omega

/-- An element of a load of part of a buffer. -/
theorem readAt_at {M : Memref sig κ sp s e} (h : M.IsWhole) (X : s.Idx → Val e) {off off' size : Fin s.rank → Nat}
    (inb : ∀ a, off a + size a ≤ s.size a) (he : off = off') (j : (Rect.unit off size inb).shape.Idx) (y : s.Idx)
    (hy : ∀ a, (y a).val = off' a + (j a).val) :
    View.readAt Val M.view (Rect.unit off size inb).toLoadRect (h.unread X) j = X y := by
  subst he
  show View.ld (M.view.read Val (h.unread X)) (Rect.unit off size inb) j = X y
  rw [h.read_unread]
  refine congrArg X (funext fun a => Fin.ext ?_)
  show off a + 1 * (j a).val = (y a).val
  rw [hy a]; omega

/-- A store of a whole buffer leaves what was stored. -/
theorem read_writes_whole (v : View sig κ sp s e) (f : v.ty.Contents Val) {off : Fin s.rank → Nat}
    (hz : off = fun _ => 0) (inb : ∀ a, off a + s.size a ≤ s.size a) (w : (Rect.unit off s.size inb).shape.Idx → Val e) :
    v.read Val (v.writes Val f [⟨Rect.unit off s.size inb, w⟩]) = w := by
  funext y
  exact View.read_writes_cons_unit_of_mem v f inb w [] y y hz fun a => by simp

theorem zz2 : (![0, 0] : Fin 2 → Nat) = fun _ => 0 := funext fun a => by fin_cases a <;> rfl

/-- A one-by-one array has one index. -/
theorem idx11 (x : (⟨2, ![1, 1]⟩ : Shape).Idx) : x = ix2 0 0 := by
  funext a; apply Fin.ext
  match a with
  | ⟨0, _⟩ => have := (x 0).isLt; change (x 0).val < 1 at this; show (x 0).val = 0; omega
  | ⟨1, _⟩ => have := (x 1).isLt; change (x 1).val < 1 at this; show (x 1).val = 0; omega

/-- The product of `x` transposed with `y`, every element times the product of two scales. -/
def tprod {K M N : Nat} (s0 s1 : Vec Ideal ⟨2, ![1, 1]⟩ .f32) (x : Vec Ideal ⟨2, ![K, M]⟩ .fp8e4m3) (y : Vec Ideal ⟨2, ![K, N]⟩ .fp8e5m2) :
    Vec Ideal ⟨2, ![M, N]⟩ .bf16 := fun i =>
  (∑ k : Fin K, x (ix2 k (i 0)) * y (ix2 k (i 1))) * (s0 (ix2 0 0) * s1 (ix2 0 0))

/-- The single-precision constant of a bit pattern. -/
abbrev cst (b : BitVec 32) : EReal := Scalar.ofBits (F := Ideal) .f32 b

/-- Clipping to the range of the gradient codes, from -57344 to 57344. -/
def clipG (x : EReal) : EReal := min (cst 0x47600000#32) (max (cst 0xC7600000#32) x)

/-- The code of a gate gradient: of the incoming gradient `a` at gate `g` and up value `u`, times the inverse scale `n`. -/
def gateC (n a g u : EReal) : EReal :=
  clipG (a * u * Ideal.logistic g * (1 + g * (1 - Ideal.logistic g)) * n)

/-- The code of an up gradient. -/
def upC (n a g : EReal) : EReal := clipG (a * g * Ideal.logistic g * n)

/-- The codes of the hidden gradient, the gate half in the left columns and the up half in the right ones. -/
def codesV {M : Nat} (inv : Vec Ideal ⟨2, ![1, 1]⟩ .f32) (dA : Vec Ideal ⟨2, ![M, 5504]⟩ .f32) (gu : Vec Ideal ⟨2, ![M, 11008]⟩ .bf16) :
    Vec Ideal ⟨2, ![M, 11008]⟩ .fp8e5m2 := fun i =>
  if h : (i 1 : Nat) < 5504 then
    gateC (inv (ix2 0 0)) (dA (ix2 (i 0) ⟨i 1, h⟩)) (gu (ix2 (i 0) ⟨i 1, by omega⟩)) (gu (ix2 (i 0) ⟨5504 + (i 1 : Nat), by omega⟩))
  else
    upC (inv (ix2 0 0)) (dA (ix2 (i 0) ⟨(i 1 : Nat) - 5504, by have : (i 1 : Nat) < 11008 := (i 1).isLt; omega⟩))
      (gu (ix2 (i 0) ⟨(i 1 : Nat) - 5504, by have : (i 1 : Nat) < 11008 := (i 1).isLt; omega⟩))

theorem codesV_left {M : Nat} (inv : Vec Ideal ⟨2, ![1, 1]⟩ .f32) (dA : Vec Ideal ⟨2, ![M, 5504]⟩ .f32) (gu : Vec Ideal ⟨2, ![M, 11008]⟩ .bf16) (r : Fin M) (k : Fin 5504) :
    codesV inv dA gu (ix2 r ⟨k, by omega⟩)
      = gateC (inv (ix2 0 0)) (dA (ix2 r k)) (gu (ix2 r ⟨k, by omega⟩)) (gu (ix2 r ⟨5504 + k, by omega⟩)) := by
  unfold codesV
  rw [dif_pos (show ((ix2 r (⟨k, by omega⟩ : Fin 11008) : (⟨2, ![M, 11008]⟩ : Shape).Idx) 1 : Nat) < 5504 from k.isLt)]
  rfl

theorem codesV_right {M : Nat} (inv : Vec Ideal ⟨2, ![1, 1]⟩ .f32) (dA : Vec Ideal ⟨2, ![M, 5504]⟩ .f32) (gu : Vec Ideal ⟨2, ![M, 11008]⟩ .bf16) (r : Fin M) (k : Fin 5504) :
    codesV inv dA gu (ix2 r ⟨5504 + k, by omega⟩)
      = upC (inv (ix2 0 0)) (dA (ix2 r k)) (gu (ix2 r ⟨k, by omega⟩)) := by
  have e : ∀ (q : Nat) (hq : q = k) (h : q < 5504) (h' : q < 11008), upC (inv (ix2 0 0)) (dA (ix2 r ⟨q, h⟩)) (gu (ix2 r ⟨q, h'⟩))
      = upC (inv (ix2 0 0)) (dA (ix2 r k)) (gu (ix2 r ⟨k, by omega⟩)) := fun q hq h h' => by subst hq; rfl
  unfold codesV
  rw [dif_neg (show ¬ ((ix2 r (⟨5504 + k, by omega⟩ : Fin 11008) : (⟨2, ![M, 11008]⟩ : Shape).Idx) 1 : Nat) < 5504 from Nat.not_lt.mpr (Nat.le_add_right _ _))]
  exact e _ (Nat.add_sub_cancel_left _ _) _ _

/-- The product of `x` with `y` transposed, every element times the product of two scales. -/
def nprod {K M N : Nat} (s0 s1 : Vec Ideal ⟨2, ![1, 1]⟩ .f32) (x : Vec Ideal ⟨2, ![M, K]⟩ .fp8e5m2) (y : Vec Ideal ⟨2, ![N, K]⟩ .fp8e4m3) :
    Vec Ideal ⟨2, ![M, N]⟩ .bf16 := fun i =>
  (∑ k : Fin K, x (ix2 (i 0) k) * y (ix2 (i 1) k)) * (s0 (ix2 0 0) * s1 (ix2 0 0))

end Cert.Common

end
-- ==== Proof.DW1Body.lean ====
/-
  The frame of `DW1`: one product of two staged blocks, scaled, per grid point. The last block of the right
  operand and of the result overhang their arrays, so of those two staging buffers only the part inside the array is stated;
  the result's contents are not needed for the frame and are left unnamed.
-/
module

public import proofs.«01_k».proof.Proof.Common
public import Idealize.ShloMosaic.Lib.Pipeline.ValueKit
public import proofs.«01_k».proof.Proof.Gen.DW1.Frame
public import proofs.«01_k».proof.Proof.Gen.DW1.Skeleton

@[expose] public section

set_option maxRecDepth 16384

noncomputable section

namespace Cert.DW1.Body

open Cert.DW1 Cert.DW1.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body stores: the scaled product of the two blocks. -/
def outv (x0 x1 : Vec F S1x1 .f32) (x2 : Vec F S8192x512 .fp8e4m3) (x3 : Vec F S8192x1024 .fp8e5m2) : Vec F S512x1024 .bf16 :=
  k0_pay1 (x0 (ix2 0 0)) (x1 (ix2 0 0)) x2 x3

set_option maxHeartbeats 1000000 in
/-- The body on whole buffers: the inputs are kept, the result's buffer ends at the scaled product. -/
theorem run_body (c : Dev nD) (i : grid0.Coords) (arg2 : Memref sig .tc .smem S1x1 .f32) (harg2 : arg2.IsWhole) (arg3 : Memref sig .tc .smem S1x1 .f32) (harg3 : arg3.IsWhole) (arg4 : Memref sig .tc .vmem S8192x512 .fp8e4m3) (harg4 : arg4.IsWhole) (arg5 : Memref sig .tc .vmem S8192x1024 .fp8e5m2) (harg5 : arg5.IsWhole) (arg6 : Memref sig .tc .vmem S512x1024 .bf16) (harg6 : arg6.IsWhole)
    (x0 x1 : Vec F S1x1 .f32) (x2 : Vec F S8192x512 .fp8e4m3) (x3 : Vec F S8192x1024 .fp8e5m2) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outv x0 x1 x2 x3)) -∗ K ⟨⟩))
      ⊢ wp frame (wpE (defs₀ (F := F)) Variants.none c none) E (cc0_dW1 i arg2 harg2 arg3 harg3 arg4 harg4 arg5 harg5 arg6 harg6) K := by
  simp only [cc0_dW1_eq_skeleton]; unfold cc0_dW1_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  rw [Common.read_writes_whole _ _ Common.zz2]
  rw [Common.readAt_whole harg4 x2 Common.zz2, Common.readAt_whole harg5 x3 Common.zz2]
  unfold outv
  have e0 : run_body.sl.r c arg2 harg2 x0 = x0 (ix2 0 0) := by
    unfold run_body.sl.r
    exact (congrFun (Common.readAt_whole harg2 x0 Common.zz2 _) _).trans (congrArg x0 (Common.idx11 _))
  have e1 : run_body.sl.r_1 c arg3 harg3 x1 = x1 (ix2 0 0) := by
    unfold run_body.sl.r_1
    exact (congrFun (Common.readAt_whole harg3 x1 Common.zz2 _) _).trans (congrArg x1 (Common.idx11 _))
  rw [e0, e1]

/-! ## The proof data -/

/-- The result window is left unnamed. -/
def forgets : Fin cfg0.W → Bool := fun | 4 => true | _ => false

/-- Window 3's block filled out past the array's end with contents nothing names. -/
def lblk (c : Dev nD) (t : Fin cfg0.N) : S8192x1024.Idx → Elt F .fp8e5m2 :=
  win0_3.fill (grid0.coords t) (fun _ => Scalar.ofBits .fp8e5m2 0#8) (iblk m c 3 t)

/-- The proof data: arrays as the region finds them, the inputs' buffers at their blocks (window 3's on the part
    inside the array), the result's not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => lblk m c t
    | ⟨4, _⟩ => Dat.unnamed 4 t
  Φ _ := Pipeline.ΦA spec0 c
  q _ := fullShare
  owed _ := 0

/-- The body table's row at a point is the body there. -/
theorem defs₀_row (t : Fin cfg0.N) :
    defs₀ (F := F) .tc cfg0.body (cfg0.bodyArgs t (cfg0.slots t)) = bodyAt0 t := by
  unfold defs₀; rw [Defs.onTc_tc]

theorem before_3 (c : Dev nD) (t : Fin cfg0.N) (d) :
    (dats m 0 c).before 3 t d = (cfg0.win 3).fill (grid0.coords t) d (iblk m c 3 t) := by
  unfold Dat.before; rw [if_pos (fetch0_3 t)]; rfl

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = lblk m c t := by dsimp only [dats]

theorem cut_after_3 (c : Dev nD) (t : Fin cfg0.N) :
    (cfg0.win 3).cut (grid0.coords t) ((dats m 0 c).after 3 t) = iblk m c 3 t := by
  rw [after_3]; unfold lblk; exact win0_3.cut_fill _ _ _

/-- The body obligation, the result window unnamed. -/
theorem body_obligation (c : Dev nD) : BodyObligationLoose (dats (F := F) m 0 c) (defs₀ (F := F)) Variants.none () Set.univ forgets := fun t => by
  rw [bigSep_W0, bigSep_W0, defs₀_row]
  simp only [forgets]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before0_0_of m (dats m 0 c) (A_eq m c 0) (after_0 m c) t d0, before0_1_of m (dats m 0 c) (A_eq m c 1) (after_1 m c) t d1,
    before0_2_of m (dats m 0 c) (A_eq m c 2) (after_2 m c) t d2, before_3 m c t d3, after_0, after_1, after_2, cut_after_3]
  iapply (run_body c (grid0.coords t) _ _ _ _ _ _ _ _ _ _ (iblk m c 0 t) (iblk m c 1 t)
    (iblk m c 2 t) ((cfg0.win 3).fill (grid0.coords t) d3 (iblk m c 3 t)) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]
  · iexists d3
    iexact H3
  iexists _; iexact H4

set_option backward.isDefEq.respectTransparency.types false in
/-- The run, with every counter at zero at the end. -/
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => body_obligation m c) (hshare := fun c => (dats m 0 c).share_full fun _ => rfl)
    (howed := fun _ _ => rfl) (V := V m) (hmain := hmain m Variants.none) (hA := fun _ _ => rfl) (hΦ := fun _ _ => rfl)

/-- The arguments end as they were launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨h.1.arr_in c 0 rfl, h.1.arr_in c 1 rfl, h.1.arr_in c 2 rfl, h.1.arr_in c 3 rfl⟩, h.2⟩)
    (run_main m ρ)

end Cert.DW1.Body
end
-- ==== Proof.DW1Value.lean ====
/-
  The value of `DW1Ideal` over the extended reals: every run ends with the result at the scaled product of the two
  matrices (`Common.tprod`), the arguments kept. The last block of the right operand and of the result overhang their
  arrays; a column of the right block past the array's end only reaches a column of the result past the array's end, so
  what is written back does not depend on it.
-/
module

public import proofs.«01_k».proof.Proof.Common
public import Idealize.ShloMosaic.Lib.ValueIdxCore
public import Idealize.ShloMosaic.Lib.Pipeline.ValueKit
public import proofs.«01_k».proof.Proof.Gen.DW1Ideal.Frame
public import proofs.«01_k».proof.Proof.Gen.DW1Ideal.Skeleton

@[expose] public section

set_option maxRecDepth 16384

noncomputable section

namespace Cert.DW1Ideal.Body

open Cert.DW1Ideal Cert.DW1Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- What the body stores: the scaled product of the two blocks. -/
def outv (x0 x1 : Vec Ideal S1x1 .f32) (x2 : Vec Ideal S8192x512 .fp8e4m3) (x3 : Vec Ideal S8192x1024 .fp8e5m2) : Vec Ideal S512x1024 .bf16 :=
  k0_pay1 (x0 (ix2 0 0)) (x1 (ix2 0 0)) x2 x3

set_option maxHeartbeats 1000000 in
/-- The body on whole buffers: the inputs are kept, the result's buffer ends at the scaled product. -/
theorem run_body (c : Dev nD) (i : grid0.Coords) (arg2 : Memref sig .tc .smem S1x1 .f32) (harg2 : arg2.IsWhole) (arg3 : Memref sig .tc .smem S1x1 .f32) (harg3 : arg3.IsWhole) (arg4 : Memref sig .tc .vmem S8192x512 .fp8e4m3) (harg4 : arg4.IsWhole) (arg5 : Memref sig .tc .vmem S8192x1024 .fp8e5m2) (harg5 : arg5.IsWhole) (arg6 : Memref sig .tc .vmem S512x1024 .bf16) (harg6 : arg6.IsWhole)
    (x0 x1 : Vec Ideal S1x1 .f32) (x2 : Vec Ideal S8192x512 .fp8e4m3) (x3 : Vec Ideal S8192x1024 .fp8e5m2) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (outv x0 x1 x2 x3)) -∗ K ⟨⟩))
      ⊢ wp frame (wpE (defs₀ (F := Ideal)) Variants.none c none) E (cc0_dW1 i arg2 harg2 arg3 harg3 arg4 harg4 arg5 harg5 arg6 harg6) K := by
  simp only [cc0_dW1_eq_skeleton]; unfold cc0_dW1_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  rw [Common.read_writes_whole _ _ Common.zz2]
  rw [Common.readAt_whole harg4 x2 Common.zz2, Common.readAt_whole harg5 x3 Common.zz2]
  unfold outv
  have e0 : run_body.sl.r c arg2 harg2 x0 = x0 (ix2 0 0) := by
    unfold run_body.sl.r
    exact (congrFun (Common.readAt_whole harg2 x0 Common.zz2 _) _).trans (congrArg x0 (Common.idx11 _))
  have e1 : run_body.sl.r_1 c arg3 harg3 x1 = x1 (ix2 0 0) := by
    unfold run_body.sl.r_1
    exact (congrFun (Common.readAt_whole harg3 x1 Common.zz2 _) _).trans (congrArg x1 (Common.idx11 _))
  rw [e0, e1]

/-- An element of the body's block: one scaled inner product of columns. -/
theorem outv_apply (x0 x1 : Vec Ideal S1x1 .f32) (x2 : Vec Ideal S8192x512 .fp8e4m3) (x3 : Vec Ideal S8192x1024 .fp8e5m2)
   (j : S512x1024.Idx) : outv x0 x1 x2 x3 j = (∑ k : Fin 8192, x2 (ix2 k (j 0)) * x3 (ix2 k (j 1))) * (x0 (ix2 0 0) * x1 (ix2 0 0)) := by
  unfold outv
  pointwise [k0_pay1]

/-! ## Blocks at coordinates -/

theorem idx0_0 : ∀ t : Fin cfg0.N, win0_0.index t 0 = 0 := by decide +kernel
theorem idx0_1 : ∀ t : Fin cfg0.N, win0_0.index t 1 = 0 := by decide +kernel
theorem idx1_0 : ∀ t : Fin cfg0.N, win0_1.index t 0 = 0 := by decide +kernel
theorem idx1_1 : ∀ t : Fin cfg0.N, win0_1.index t 1 = 0 := by decide +kernel
theorem idx2_0 : ∀ t : Fin cfg0.N, win0_2.index t 0 = 0 := by decide +kernel
theorem idx2_1 : ∀ t : Fin cfg0.N, win0_2.index t 1 = t.val / 11 := by decide +kernel
theorem idx3_0 : ∀ t : Fin cfg0.N, win0_3.index t 0 = 0 := by decide +kernel
theorem idx3_1 : ∀ t : Fin cfg0.N, win0_3.index t 1 = t.val % 11 := by decide +kernel
theorem idx4_0 : ∀ t : Fin cfg0.N, win0_4.index t 0 = t.val / 11 := by decide +kernel
theorem idx4_1 : ∀ t : Fin cfg0.N, win0_4.index t 1 = t.val % 11 := by decide +kernel
theorem xsize3_0 : ∀ t : Fin cfg0.N, win0_3.xsize (grid0.coords t) 0 = 8192 := by decide +kernel
theorem xsize3_1 : ∀ t : Fin cfg0.N, win0_3.xsize (grid0.coords t) 1 = min 1024 (11008 - t.val % 11 * 1024) := by decide +kernel

theorem iblk_0 (c : Dev nD) (t : Fin cfg0.N) : iblk m c 0 t = m ((c.tc : Thread nD τ).loc main_arg0) := by
  funext j
  blk_point [iblk, V, idx0_0, idx0_1]
theorem iblk_1 (c : Dev nD) (t : Fin cfg0.N) : iblk m c 1 t = m ((c.tc : Thread nD τ).loc main_arg1) := by
  funext j
  blk_point [iblk, V, idx1_0, idx1_1]
/-- The left operand's block: its columns. -/
theorem iblk_2 (c : Dev nD) (t : Fin cfg0.N) (k : Fin 8192) (a : Fin 512) (r : Fin 4096) (hr : (r : Nat) = t.val / 11 * 512 + a) :
    iblk m c 2 t (ix2 k a) = m ((c.tc : Thread nD τ).loc main_arg2) (ix2 k r) := by
  blk_point [iblk, V, idx2_0, idx2_1]

/-- The right operand's staged block inside the array, whatever lies past its end. -/
theorem fill_3 (c : Dev nD) (t : Fin cfg0.N) (d : S8192x1024.Idx → Elt Ideal .fp8e5m2) (k : Fin 8192) (a : Fin 1024)
    (r : Fin 11008) (hr : (r : Nat) = t.val % 11 * 1024 + a) :
    win0_3.fill (grid0.coords t) d (iblk m c 3 t) (ix2 k a) = m ((c.tc : Thread nD τ).loc main_arg3) (ix2 k r) := by
  have hmv : win0_3.moved (grid0.coords t) (ix2 k a) = true := by
    rw [Window.moved_iff]
    intro ax
    fin_cases ax
    · show (k : Nat) < win0_3.xsize (grid0.coords t) 0
      rw [xsize3_0]; exact k.isLt
    · show (a : Nat) < win0_3.xsize (grid0.coords t) 1
      rw [xsize3_1]; have := r.isLt; have := a.isLt; omega
  unfold Window.fill
  rw [dif_pos hmv]
  blk_point [iblk, V, idx3_0, idx3_1]

theorem emb4_0 (t : Fin cfg0.N) (y : (win0_4.xblock (grid0.coords t)).Idx) :
    ((win0_4.blk t).view.emb y 0 : Nat) = t.val / 11 * 512 + (y 0 : Nat) :=
  (Window.rect_emb_val win0_4 t y 0 rfl).trans (congrArg (fun n => n * 512 + (y 0 : Nat)) (idx4_0 t))
theorem emb4_1 (t : Fin cfg0.N) (y : (win0_4.xblock (grid0.coords t)).Idx) :
    ((win0_4.blk t).view.emb y 1 : Nat) = t.val % 11 * 1024 + (y 1 : Nat) :=
  (Window.rect_emb_val win0_4 t y 1 rfl).trans (congrArg (fun n => n * 1024 + (y 1 : Nat)) (idx4_1 t))

theorem outv_eq_tprod (x0 x1 : Vec Ideal S1x1 .f32) (x2 : Vec Ideal S8192x512 .fp8e4m3) (x3 : Vec Ideal S8192x1024 .fp8e5m2)
    (X : Vec Ideal S8192x4096 .fp8e4m3) (Y : Vec Ideal S8192x11008 .fp8e5m2) (j : S512x1024.Idx) (i : S4096x11008.Idx)
    (h0 : ∀ k : Fin 8192, x2 (ix2 k (j 0)) = X (ix2 k (i 0))) (h1 : ∀ k : Fin 8192, x3 (ix2 k (j 1)) = Y (ix2 k (i 1))) :
    outv x0 x1 x2 x3 j = Common.tprod x0 x1 X Y i := by
  rw [outv_apply]
  unfold Common.tprod
  simp only [h0, h1]

/-- What a point leaves in the written-back part of the result's buffer. -/
theorem point (c : Dev nD) (t : Fin cfg0.N) (d : S8192x1024.Idx → Elt Ideal .fp8e5m2) (y : (win0_4.xblock (grid0.coords t)).Idx) :
   outv (iblk m c 0 t) (iblk m c 1 t) (iblk m c 2 t) (win0_3.fill (grid0.coords t) d (iblk m c 3 t)) (win0_4.xinj (grid0.coords t) y)
     = Common.tprod (m ((c.tc : Thread nD τ).loc main_arg0)) (m ((c.tc : Thread nD τ).loc main_arg1)) (m ((c.tc : Thread nD τ).loc main_arg2))
        (m ((c.tc : Thread nD τ).loc main_arg3)) ((win0_4.blk t).view.emb y) := by
  rw [iblk_0, iblk_1]
  exact outv_eq_tprod _ _ _ _ _ _ _ _ (fun k => iblk_2 m c t k _ _ (emb4_0 t y)) (fun k => fill_3 m c t d k _ _ (emb4_1 t y))

/-! ## The proof data -/

/-- Window 3's block filled out past the array's end with contents nothing names. -/
def lblk (c : Dev nD) (t : Fin cfg0.N) : S8192x1024.Idx → Elt Ideal .fp8e5m2 :=
  win0_3.fill (grid0.coords t) (fun _ => (0 : EReal)) (iblk m c 3 t)

/-- The proof data: arrays as the region finds them, the inputs' buffers at their blocks (window 3's on the part
    inside the array), the result's at the scaled product. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => lblk m c t
    | ⟨4, _⟩ => outv (iblk m c 0 t) (iblk m c 1 t) (iblk m c 2 t) (lblk m c t)
  Φ _ := Pipeline.ΦA spec0 c
  q _ := fullShare
  owed _ := 0

/-- The body table's row at a point is the body there. -/
theorem defs₀_row (t : Fin cfg0.N) :
    defs₀ (F := Ideal) .tc cfg0.body (cfg0.bodyArgs t (cfg0.slots t)) = bodyAt0 t := by
  unfold defs₀; rw [Defs.onTc_tc]

theorem before_3 (c : Dev nD) (t : Fin cfg0.N) (d) :
    (dats m 0 c).before 3 t d = (cfg0.win 3).fill (grid0.coords t) d (iblk m c 3 t) := by
  unfold Dat.before; rw [if_pos (fetch0_3 t)]; rfl

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = lblk m c t := by dsimp only [dats]

theorem after_4 (c : Dev nD) (t : Fin cfg0.N) :
    (dats m 0 c).after 4 t = outv (iblk m c 0 t) (iblk m c 1 t) (iblk m c 2 t) (lblk m c t) := by dsimp only [dats]

theorem cut_after_3 (c : Dev nD) (t : Fin cfg0.N) :
    (cfg0.win 3).cut (grid0.coords t) ((dats m 0 c).after 3 t) = iblk m c 3 t := by
  rw [after_3]; unfold lblk; exact win0_3.cut_fill _ _ _

/-- The part of the result's buffer that is written back does not depend on what lies past the right operand's end. -/
theorem cut_after_4 (c : Dev nD) (t : Fin cfg0.N) (d : S8192x1024.Idx → Elt Ideal .fp8e5m2) :
    (cfg0.win 4).cut (grid0.coords t) ((dats m 0 c).after 4 t)
      = (cfg0.win 4).cut (grid0.coords t) (outv (iblk m c 0 t) (iblk m c 1 t) (iblk m c 2 t) ((cfg0.win 3).fill (grid0.coords t) d (iblk m c 3 t))) := by
  rw [after_4]
  funext y
  unfold lblk
  exact (point m c t _ y).trans (point m c t d y).symm

/-- The body obligation. -/
theorem body_obligation (c : Dev nD) : BodyObligationLoose (dats m 0 c) (defs₀ (F := Ideal)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before0_0_of m (dats m 0 c) (A_eq m c 0) (after_0 m c) t d0, before0_1_of m (dats m 0 c) (A_eq m c 1) (after_1 m c) t d1,
    before0_2_of m (dats m 0 c) (A_eq m c 2) (after_2 m c) t d2, before_3 m c t d3, after_0, after_1, after_2, cut_after_3]
  iapply (run_body c (grid0.coords t) _ _ _ _ _ _ _ _ _ _ (iblk m c 0 t) (iblk m c 1 t)
    (iblk m c 2 t) ((cfg0.win 3).fill (grid0.coords t) d3 (iblk m c 3 t)) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]
  · iexists d3
    iexact H3
  iexists (outv (iblk m c 0 t) (iblk m c 1 t) (iblk m c 2 t) ((cfg0.win 3).fill (grid0.coords t) d3 (iblk m c 3 t)))
  rw [cut_after_4 m c t d3, Window.fill_cut]
  iexact H4

set_option backward.isDefEq.respectTransparency.types false in
/-- The run, with every counter at zero at the end. -/
theorem run_main : θ_run defs (onTc (τ := τ) (main (F := Ideal))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := fun _ _ => rfl) (hΦ := fun _ _ => rfl)

/-- The result array after the last write-back. -/
theorem arr_out (c : Dev nD) : (dats m 0 c).arrAt 4 cfg0.N
    = Common.tprod (m ((c.tc : Thread nD τ).loc main_arg0)) (m ((c.tc : Thread nD τ).loc main_arg1)) (m ((c.tc : Thread nD τ).loc main_arg2))
        (m ((c.tc : Thread nD τ).loc main_arg3)) := by
  refine Dat.arrAt_eq_of_covers (dats m 0 c) 4 _ (by decide +kernel) fun t _ y => ?_
  rw [after_4]
  unfold lblk
  exact point m c t _ y

/-- Every run ends with the result at the scaled product, the arguments kept and every counter at zero. -/
theorem run : θ_run defs (onTc (τ := τ) (main (F := Ideal))) ⟨m, fun _ => 0, ρ⟩ (fun r => (∀ c : Dev nD,
      r.2.mem ((c.tc : Thread nD τ).loc main_v0) = Common.tprod (m ((c.tc : Thread nD τ).loc main_arg0)) (m ((c.tc : Thread nD τ).loc main_arg1)) (m ((c.tc : Thread nD τ).loc main_arg2))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨((h.1 c).1 4).trans (arr_out m c),
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3))⟩, h.2⟩)
    (run_main m ρ)

end Cert.DW1Ideal.Body
end
-- ==== Proof.DW1RefValue.lean ====
/-
  The value of the reference `DW1RefIdeal` over the extended reals: one grid point that reads the whole matrices and
  writes the scaled product `Common.tprod`.
-/
module

public import proofs.«01_k».proof.Proof.Common
public import proofs.«01_k».proof.Proof.Gen.DW1RefIdeal.Value

@[expose] public section

set_option maxRecDepth 16384

noncomputable section

namespace Cert.DW1RefIdeal.Body

open Cert.DW1RefIdeal Cert.DW1RefIdeal.Gen
open Idealize.ShloMosaic Idealize.ShloMosaic.TcCoe
open Idealize.SL Idealize.SL.Sem
open Idealize.ShloMosaic.Pipeline (Dat Window)

variable (m : (ℓ : Loc nD τ sig) → Buf (Elt Ideal) ℓ) (ρ : Dev nD → PrngReg)

theorem idx0_0 : ∀ t : Fin cfg0.N, win0_0.index t 0 = 0 := by decide +kernel
theorem idx0_1 : ∀ t : Fin cfg0.N, win0_0.index t 1 = 0 := by decide +kernel
theorem idx1_0 : ∀ t : Fin cfg0.N, win0_1.index t 0 = 0 := by decide +kernel
theorem idx1_1 : ∀ t : Fin cfg0.N, win0_1.index t 1 = 0 := by decide +kernel
theorem idx2_0 : ∀ t : Fin cfg0.N, win0_2.index t 0 = 0 := by decide +kernel
theorem idx2_1 : ∀ t : Fin cfg0.N, win0_2.index t 1 = 0 := by decide +kernel
theorem idx3_0 : ∀ t : Fin cfg0.N, win0_3.index t 0 = 0 := by decide +kernel
theorem idx3_1 : ∀ t : Fin cfg0.N, win0_3.index t 1 = 0 := by decide +kernel
theorem idx4_0 : ∀ t : Fin cfg0.N, win0_4.index t 0 = 0 := by decide +kernel
theorem idx4_1 : ∀ t : Fin cfg0.N, win0_4.index t 1 = 0 := by decide +kernel

theorem iblk_0 (c : Dev nD) (t : Fin cfg0.N) : iblk m c 0 t = m ((c.tc : Thread nD τ).loc main_arg0) := by
  funext j
  blk_point [iblk, V, idx0_0, idx0_1]
theorem iblk_1 (c : Dev nD) (t : Fin cfg0.N) : iblk m c 1 t = m ((c.tc : Thread nD τ).loc main_arg1) := by
  funext j
  blk_point [iblk, V, idx1_0, idx1_1]
theorem iblk_2 (c : Dev nD) (t : Fin cfg0.N) : iblk m c 2 t = m ((c.tc : Thread nD τ).loc main_arg2) := by
  funext j
  blk_point [iblk, V, idx2_0, idx2_1]
theorem iblk_3 (c : Dev nD) (t : Fin cfg0.N) : iblk m c 3 t = m ((c.tc : Thread nD τ).loc main_arg3) := by
  funext j
  blk_point [iblk, V, idx3_0, idx3_1]

theorem emb4_0 (t : Fin cfg0.N) (y : (win0_4.xblock (grid0.coords t)).Idx) :
    ((win0_4.blk t).view.emb y 0 : Nat) = (y 0 : Nat) :=
  Window.rect_emb_val_of_index_zero win0_4 t 0 (idx4_0 t) y
theorem emb4_1 (t : Fin cfg0.N) (y : (win0_4.xblock (grid0.coords t)).Idx) :
    ((win0_4.blk t).view.emb y 1 : Nat) = (y 1 : Nat) :=
  Window.rect_emb_val_of_index_zero win0_4 t 1 (idx4_1 t) y

/-- What the reference stores, at the arrays. -/
theorem pay_eq (x0 x1 : Vec Ideal S1x1 .f32) (x2 y2 : Vec Ideal S8192x4096 .fp8e4m3) (x3 y3 : Vec Ideal S8192x11008 .fp8e5m2)
    (y0 y1 : Elt Ideal .f32) (h2 : y2 = x2) (h3 : y3 = x3) (h0 : y0 = x0 (ix2 0 0)) (h1 : y1 = x1 (ix2 0 0)) :
    k0_pay1 y2 y3 y0 y1 = Common.tprod x0 x1 x2 x3 := by
  subst h2; subst h3; subst h0; subst h1
  funext j
  unfold Common.tprod
  pointwise [k0_pay1]

/-- What the one point leaves in the result's buffer. -/
theorem outs (c : Dev nD) (t : Fin cfg0.N) : outsAt0 m c t
    = Common.tprod (m ((c.tc : Thread nD τ).loc main_arg0)) (m ((c.tc : Thread nD τ).loc main_arg1)) (m ((c.tc : Thread nD τ).loc main_arg2))
        (m ((c.tc : Thread nD τ).loc main_arg3)) := by
  unfold outsAt0
  frame_out
  rw [iblk_0, iblk_1, iblk_2, iblk_3]
  exact pay_eq _ _ _ _ _ _ _ _ ((hs0_2 t).read_unread _) ((hs0_3 t).read_unread _)
    ((congrFun ((hs0_0 t).read_unread _) _).trans (congrArg _ (Common.idx11 _)))
    ((congrFun ((hs0_1 t).read_unread _) _).trans (congrArg _ (Common.idx11 _)))

/-- The result array after the run. -/
theorem arr_out (c : Dev nD) : (dats m 0 c).arrAt 4 cfg0.N
    = Common.tprod (m ((c.tc : Thread nD τ).loc main_arg0)) (m ((c.tc : Thread nD τ).loc main_arg1)) (m ((c.tc : Thread nD τ).loc main_arg2))
        (m ((c.tc : Thread nD τ).loc main_arg3)) := by
  refine Dat.arrAt_eq_of_covers (dats m 0 c) 4 _ (by decide +kernel) fun t _ y => ?_
  rw [after0_4, outs]
  have e : win0_4.xinj (grid0.coords t) y = (win0_4.blk t).view.emb y := by
    refine funext fun a => Fin.ext ?_
    fin_cases a
    · exact (emb4_0 t y).symm
    · exact (emb4_1 t y).symm
  exact congrArg (Common.tprod (m ((c.tc : Thread nD τ).loc main_arg0)) (m ((c.tc : Thread nD τ).loc main_arg1)) (m ((c.tc : Thread nD τ).loc main_arg2))
        (m ((c.tc : Thread nD τ).loc main_arg3))) e

/-- Every run ends with the result at the scaled product, the arguments kept. -/
theorem run : θ_run defs (onTc (τ := τ) (main (F := Ideal))) ⟨m, fun _ => 0, ρ⟩ (fun r => ∀ c : Dev nD,
      r.2.mem ((c.tc : Thread nD τ).loc main_v0) = Common.tprod (m ((c.tc : Thread nD τ).loc main_arg0)) (m ((c.tc : Thread nD τ).loc main_arg1)) (m ((c.tc : Thread nD τ).loc main_arg2))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (arr_out m c), (h c).2⟩) (Value.run_blocks m ρ)

end Cert.DW1RefIdeal.Body
end
-- ==== Proof.DW1Claims.lean ====
/-
  The claims on the weight gradient of the first matrix: the frames at every float instance and over the extended
  reals, and the kernel's result equal to the reference's.
-/
module

public import proofs.«01_k».proof.Defs
public import proofs.«01_k».proof.Proof.DW1Body
public import proofs.«01_k».proof.Proof.DW1Value
public import proofs.«01_k».proof.Proof.DW1RefValue

@[expose] public section

noncomputable section

namespace Cert.DW1Claims

open Idealize.ShloMosaic Idealize.ShloMosaic.TcCoe Idealize.SL.Sem

theorem frame : quiescent_DW1 (hDW1 := Cert.DW1.Gen.facts) := fun m ρ _ => Cert.DW1.Body.frame m ρ

theorem frameIdeal : quiescent_DW1Ideal (hDW1Ideal := Cert.DW1Ideal.Gen.facts) := fun m ρ _ =>
  (θ_run _ _ _).mono (fun r h => ⟨fun c => (h.1 c).2, h.2⟩) (Cert.DW1Ideal.Body.run m ρ)

theorem algebraic : algebraic_DW1Ideal_DW1RefIdeal (hDW1Ideal := Cert.DW1Ideal.Gen.facts) (hDW1RefIdeal := Cert.DW1RefIdeal.Gen.facts) :=
  fun m g m' g' _ hag => by
    refine ⟨_, (θ_run _ _ _).mono (fun r h c => h.1 c) (Cert.DW1Ideal.Body.run m g),
      (θ_run _ _ _).mono (fun r h c => ⟨(h c).1.trans ?_, (h c).2⟩) (Cert.DW1RefIdeal.Body.run m' g')⟩
    obtain ⟨h0, h1, h2, h3⟩ := hag c
    rw [h0, h1, h2, h3]

end Cert.DW1Claims
end
-- ==== Proof.DW2Body.lean ====
/-
  The frame of `DW2`: one product of two staged blocks, scaled, per grid point. The last block of the left operand
  and of the result overhang their arrays, so of those two staging buffers only the part inside the array is stated;
  the result's contents are not needed for the frame and are left unnamed.
-/
module

public import proofs.«01_k».proof.Proof.Common
public import Idealize.ShloMosaic.Lib.Pipeline.ValueKit
public import proofs.«01_k».proof.Proof.Gen.DW2.Frame
public import proofs.«01_k».proof.Proof.Gen.DW2.Skeleton

@[expose] public section

set_option maxRecDepth 16384

noncomputable section

namespace Cert.DW2.Body

open Cert.DW2 Cert.DW2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body stores: the scaled product of the two blocks. -/
def outv (x0 x1 : Vec F S1x1 .f32) (x2 : Vec F S8192x256 .fp8e4m3) (x3 : Vec F S8192x4096 .fp8e5m2) : Vec F S256x4096 .bf16 :=
  k0_pay1 (x0 (ix2 0 0)) (x1 (ix2 0 0)) x2 x3

set_option maxHeartbeats 1000000 in
/-- The body on whole buffers: the inputs are kept, the result's buffer ends at the scaled product. -/
theorem run_body (c : Dev nD) (i : grid0.Coords) (arg1 : Memref sig .tc .smem S1x1 .f32) (harg1 : arg1.IsWhole) (arg2 : Memref sig .tc .smem S1x1 .f32) (harg2 : arg2.IsWhole) (arg3 : Memref sig .tc .vmem S8192x256 .fp8e4m3) (harg3 : arg3.IsWhole) (arg4 : Memref sig .tc .vmem S8192x4096 .fp8e5m2) (harg4 : arg4.IsWhole) (arg5 : Memref sig .tc .vmem S256x4096 .bf16) (harg5 : arg5.IsWhole)
    (x0 x1 : Vec F S1x1 .f32) (x2 : Vec F S8192x256 .fp8e4m3) (x3 : Vec F S8192x4096 .fp8e5m2) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outv x0 x1 x2 x3)) -∗ K ⟨⟩))
      ⊢ wp frame (wpE (defs₀ (F := F)) Variants.none c none) E (cc0_dW2 i arg1 harg1 arg2 harg2 arg3 harg3 arg4 harg4 arg5 harg5) K := by
  simp only [cc0_dW2_eq_skeleton]; unfold cc0_dW2_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1; obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  rw [Common.read_writes_whole _ _ Common.zz2]
  rw [Common.readAt_whole harg3 x2 Common.zz2, Common.readAt_whole harg4 x3 Common.zz2]
  unfold outv
  have e0 : run_body.sl.r c arg1 harg1 x0 = x0 (ix2 0 0) := by
    unfold run_body.sl.r
    exact (congrFun (Common.readAt_whole harg1 x0 Common.zz2 _) _).trans (congrArg x0 (Common.idx11 _))
  have e1 : run_body.sl.r_1 c arg2 harg2 x1 = x1 (ix2 0 0) := by
    unfold run_body.sl.r_1
    exact (congrFun (Common.readAt_whole harg2 x1 Common.zz2 _) _).trans (congrArg x1 (Common.idx11 _))
  rw [e0, e1]

/-! ## The proof data -/

/-- The result window is left unnamed. -/
def forgets : Fin cfg0.W → Bool := fun | 4 => true | _ => false

/-- Window 2's block filled out past the array's end with contents nothing names. -/
def lblk (c : Dev nD) (t : Fin cfg0.N) : S8192x256.Idx → Elt F .fp8e4m3 :=
  win0_2.fill (grid0.coords t) (fun _ => Scalar.ofBits .fp8e4m3 0#8) (iblk m c 2 t)

/-- The proof data: arrays as the region finds them, the inputs' buffers at their blocks (window 2's on the part
    inside the array), the result's not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => lblk m c t
    | ⟨3, _⟩ => iblk m c 3 t
    | ⟨4, _⟩ => Dat.unnamed 4 t
  Φ _ := Pipeline.ΦA spec0 c
  q _ := fullShare
  owed _ := 0

/-- The body table's row at a point is the body there. -/
theorem defs₀_row (t : Fin cfg0.N) :
    defs₀ (F := F) .tc cfg0.body (cfg0.bodyArgs t (cfg0.slots t)) = bodyAt0 t := by
  unfold defs₀; rw [Defs.onTc_tc]

theorem before_2 (c : Dev nD) (t : Fin cfg0.N) (d) :
    (dats m 0 c).before 2 t d = (cfg0.win 2).fill (grid0.coords t) d (iblk m c 2 t) := by
  unfold Dat.before; rw [if_pos (fetch0_2 t)]; rfl

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = lblk m c t := by dsimp only [dats]
theorem after_3 (c : Dev nD) (t : Fin cfg0.N) : (dats m 0 c).after 3 t = iblk m c 3 t := by dsimp only [dats]

theorem cut_after_2 (c : Dev nD) (t : Fin cfg0.N) :
    (cfg0.win 2).cut (grid0.coords t) ((dats m 0 c).after 2 t) = iblk m c 2 t := by
  rw [after_2]; unfold lblk; exact win0_2.cut_fill _ _ _

/-- The body obligation, the result window unnamed. -/
theorem body_obligation (c : Dev nD) : BodyObligationLoose (dats (F := F) m 0 c) (defs₀ (F := F)) Variants.none () Set.univ forgets := fun t => by
  rw [bigSep_W0, bigSep_W0, defs₀_row]
  simp only [forgets]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before0_0_of m (dats m 0 c) (A_eq m c 0) (after_0 m c) t d0, before0_1_of m (dats m 0 c) (A_eq m c 1) (after_1 m c) t d1,
    before_2 m c t d2, before0_3_of m (dats m 0 c) (A_eq m c 3) (after_3 m c) t d3, after_0, after_1, after_3, cut_after_2]
  iapply (run_body c (grid0.coords t) _ _ _ _ _ _ _ _ _ _ (iblk m c 0 t) (iblk m c 1 t)
    ((cfg0.win 2).fill (grid0.coords t) d2 (iblk m c 2 t)) (iblk m c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]
  · iexists d2
    iexact H2
  isplitl [H3]; · iexact H3
  iexists _; iexact H4

set_option backward.isDefEq.respectTransparency.types false in
/-- The run, with every counter at zero at the end. -/
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => body_obligation m c) (hshare := fun c => (dats m 0 c).share_full fun _ => rfl)
    (howed := fun _ _ => rfl) (V := V m) (hmain := hmain m Variants.none) (hA := fun _ _ => rfl) (hΦ := fun _ _ => rfl)

/-- The arguments end as they were launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨h.1.arr_in c 0 rfl, h.1.arr_in c 1 rfl, h.1.arr_in c 2 rfl, h.1.arr_in c 3 rfl⟩, h.2⟩)
    (run_main m ρ)

end Cert.DW2.Body
end
-- ==== Proof.DW2Value.lean ====
/-
  The value of `DW2Ideal` over the extended reals: every run ends with the result at the scaled product of the two
  matrices (`Common.tprod`), the arguments kept. The last block of the left operand and of the result overhang their
  arrays; a column of the left block past the array's end only reaches a row of the result past the array's end, so
  what is written back does not depend on it.
-/
module

public import proofs.«01_k».proof.Proof.Common
public import Idealize.ShloMosaic.Lib.ValueIdxCore
public import Idealize.ShloMosaic.Lib.Pipeline.ValueKit
public import proofs.«01_k».proof.Proof.Gen.DW2Ideal.Frame
public import proofs.«01_k».proof.Proof.Gen.DW2Ideal.Skeleton

@[expose] public section

set_option maxRecDepth 16384

noncomputable section

namespace Cert.DW2Ideal.Body

open Cert.DW2Ideal Cert.DW2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- What the body stores: the scaled product of the two blocks. -/
def outv (x0 x1 : Vec Ideal S1x1 .f32) (x2 : Vec Ideal S8192x256 .fp8e4m3) (x3 : Vec Ideal S8192x4096 .fp8e5m2) : Vec Ideal S256x4096 .bf16 :=
  k0_pay1 (x0 (ix2 0 0)) (x1 (ix2 0 0)) x2 x3

set_option maxHeartbeats 1000000 in
/-- The body on whole buffers: the inputs are kept, the result's buffer ends at the scaled product. -/
theorem run_body (c : Dev nD) (i : grid0.Coords) (arg1 : Memref sig .tc .smem S1x1 .f32) (harg1 : arg1.IsWhole) (arg2 : Memref sig .tc .smem S1x1 .f32) (harg2 : arg2.IsWhole) (arg3 : Memref sig .tc .vmem S8192x256 .fp8e4m3) (harg3 : arg3.IsWhole) (arg4 : Memref sig .tc .vmem S8192x4096 .fp8e5m2) (harg4 : arg4.IsWhole) (arg5 : Memref sig .tc .vmem S256x4096 .bf16) (harg5 : arg5.IsWhole)
    (x0 x1 : Vec Ideal S1x1 .f32) (x2 : Vec Ideal S8192x256 .fp8e4m3) (x3 : Vec Ideal S8192x4096 .fp8e5m2) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (outv x0 x1 x2 x3)) -∗ K ⟨⟩))
      ⊢ wp frame (wpE (defs₀ (F := Ideal)) Variants.none c none) E (cc0_dW2 i arg1 harg1 arg2 harg2 arg3 harg3 arg4 harg4 arg5 harg5) K := by
  simp only [cc0_dW2_eq_skeleton]; unfold cc0_dW2_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg1.eq_unread hf0; obtain rfl := harg2.eq_unread hf1; obtain rfl := harg3.eq_unread hf2; obtain rfl := harg4.eq_unread hf3
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr
  swap; · iexact H4
  ipureintro
  rw [Common.read_writes_whole _ _ Common.zz2]
  rw [Common.readAt_whole harg3 x2 Common.zz2, Common.readAt_whole harg4 x3 Common.zz2]
  unfold outv
  have e0 : run_body.sl.r c arg1 harg1 x0 = x0 (ix2 0 0) := by
    unfold run_body.sl.r
    exact (congrFun (Common.readAt_whole harg1 x0 Common.zz2 _) _).trans (congrArg x0 (Common.idx11 _))
  have e1 : run_body.sl.r_1 c arg2 harg2 x1 = x1 (ix2 0 0) := by
    unfold run_body.sl.r_1
    exact (congrFun (Common.readAt_whole harg2 x1 Common.zz2 _) _).trans (congrArg x1 (Common.idx11 _))
  rw [e0, e1]

/-- An element of the body's block: one scaled inner product of columns. -/
theorem outv_apply (x0 x1 : Vec Ideal S1x1 .f32) (x2 : Vec Ideal S8192x256 .fp8e4m3) (x3 : Vec Ideal S8192x4096 .fp8e5m2)
   (j : S256x4096.Idx) : outv x0 x1 x2 x3 j = (∑ k : Fin 8192, x2 (ix2 k (j 0)) * x3 (ix2 k (j 1))) * (x0 (ix2 0 0) * x1 (ix2 0 0)) := by
  unfold outv
  pointwise [k0_pay1]

/-! ## Blocks at coordinates -/

theorem idx2_0 : ∀ t : Fin cfg0.N, win0_2.index t 0 = 0 := by decide +kernel
theorem idx2_1 : ∀ t : Fin cfg0.N, win0_2.index t 1 = t.val := by decide +kernel
theorem idx4_0 : ∀ t : Fin cfg0.N, win0_4.index t 0 = t.val := by decide +kernel
theorem idx4_1 : ∀ t : Fin cfg0.N, win0_4.index t 1 = 0 := by decide +kernel
theorem xsize2_0 : ∀ t : Fin cfg0.N, win0_2.xsize (grid0.coords t) 0 = 8192 := by decide +kernel
theorem xsize2_1 : ∀ t : Fin cfg0.N, win0_2.xsize (grid0.coords t) 1 = min 256 (5504 - t.val * 256) := by decide +kernel

/-- The left operand's staged block inside the array, whatever lies past its end. -/
theorem fill_2 (c : Dev nD) (t : Fin cfg0.N) (d : S8192x256.Idx → Elt Ideal .fp8e4m3) (k : Fin 8192) (a : Fin 256)
    (r : Fin 5504) (hr : (r : Nat) = t.val * 256 + a) :
    win0_2.fill (grid0.coords t) d (iblk m c 2 t) (ix2 k a) = m ((c.tc : Thread nD τ).loc main_arg2) (ix2 k r) := by
  have hmv : win0_2.moved (grid0.coords t) (ix2 k a) = true := by
    rw [Window.moved_iff]
    intro ax
    fin_cases ax
    · show (k : Nat) < win0_2.xsize (grid0.coords t) 0
      rw [xsize2_0]; exact k.isLt
    · show (a : Nat) < win0_2.xsize (grid0.coords t) 1
      rw [xsize2_1]; have := r.isLt; have := a.isLt; omega
  unfold Window.fill
  rw [dif_pos hmv]
  blk_point [iblk, V, idx2_0, idx2_1]

theorem idx0_0 : ∀ t : Fin cfg0.N, win0_0.index t 0 = 0 := by decide +kernel
theorem idx0_1 : ∀ t : Fin cfg0.N, win0_0.index t 1 = 0 := by decide +kernel
theorem idx1_0 : ∀ t : Fin cfg0.N, win0_1.index t 0 = 0 := by decide +kernel
theorem idx1_1 : ∀ t : Fin cfg0.N, win0_1.index t 1 = 0 := by decide +kernel
theorem idx3_0 : ∀ t : Fin cfg0.N, win0_3.index t 0 = 0 := by decide +kernel
theorem idx3_1 : ∀ t : Fin cfg0.N, win0_3.index t 1 = 0 := by decide +kernel
theorem iblk_0 (c : Dev nD) (t : Fin cfg0.N) : iblk m c 0 t = m ((c.tc : Thread nD τ).loc main_arg0) := by
  funext j
  blk_point [iblk, V, idx0_0, idx0_1]
theorem iblk_1 (c : Dev nD) (t : Fin cfg0.N) : iblk m c 1 t = m ((c.tc : Thread nD τ).loc main_arg1) := by
  funext j
  blk_point [iblk, V, idx1_0, idx1_1]
theorem iblk_3 (c : Dev nD) (t : Fin cfg0.N) : iblk m c 3 t = m ((c.tc : Thread nD τ).loc main_arg3) := by
  funext j
  blk_point [iblk, V, idx3_0, idx3_1]

theorem emb4_0 (t : Fin cfg0.N) (y : (win0_4.xblock (grid0.coords t)).Idx) :
    ((win0_4.blk t).view.emb y 0 : Nat) = t.val * 256 + (y 0 : Nat) :=
  (Window.rect_emb_val win0_4 t y 0 rfl).trans (congrArg (fun n => n * 256 + (y 0 : Nat)) (idx4_0 t))
theorem emb4_1 (t : Fin cfg0.N) (y : (win0_4.xblock (grid0.coords t)).Idx) :
    ((win0_4.blk t).view.emb y 1 : Nat) = (y 1 : Nat) :=
  (Window.rect_emb_val win0_4 t y 1 rfl).trans ((congrArg (fun n => n * 4096 + (y 1 : Nat)) (idx4_1 t)).trans (by rw [Nat.zero_mul, Nat.zero_add]))

theorem outv_eq_tprod (x0 x1 : Vec Ideal S1x1 .f32) (x2 : Vec Ideal S8192x256 .fp8e4m3) (x3 : Vec Ideal S8192x4096 .fp8e5m2)
    (X : Vec Ideal S8192x5504 .fp8e4m3) (j : S256x4096.Idx) (i : S5504x4096.Idx)
    (h0 : ∀ k : Fin 8192, x2 (ix2 k (j 0)) = X (ix2 k (i 0))) (h1 : (j 1 : Nat) = (i 1 : Nat)) :
    outv x0 x1 x2 x3 j = Common.tprod x0 x1 X x3 i := by
  have h1' : (j 1 : Fin 4096) = i 1 := Fin.ext h1
  rw [outv_apply]
  unfold Common.tprod
  simp only [h0, h1']

/-- What a point leaves in the written-back part of the result's buffer. -/
theorem point (c : Dev nD) (t : Fin cfg0.N) (d : S8192x256.Idx → Elt Ideal .fp8e4m3) (y : (win0_4.xblock (grid0.coords t)).Idx) :
   outv (iblk m c 0 t) (iblk m c 1 t) (win0_2.fill (grid0.coords t) d (iblk m c 2 t)) (iblk m c 3 t) (win0_4.xinj (grid0.coords t) y)
     = Common.tprod (m ((c.tc : Thread nD τ).loc main_arg0)) (m ((c.tc : Thread nD τ).loc main_arg1)) (m ((c.tc : Thread nD τ).loc main_arg2))
        (m ((c.tc : Thread nD τ).loc main_arg3)) ((win0_4.blk t).view.emb y) := by
  rw [iblk_0, iblk_1, iblk_3]
  exact outv_eq_tprod _ _ _ _ _ _ _ (fun k => fill_2 m c t d k _ _ (emb4_0 t y)) (emb4_1 t y).symm
/-! ## The proof data -/

/-- Window 2's block filled out past the array's end with contents nothing names. -/
def lblk (c : Dev nD) (t : Fin cfg0.N) : S8192x256.Idx → Elt Ideal .fp8e4m3 :=
  win0_2.fill (grid0.coords t) (fun _ => (0 : EReal)) (iblk m c 2 t)

/-- The proof data: arrays as the region finds them, the inputs' buffers at their blocks (window 2's on the part
    inside the array), the result's at the scaled product. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => lblk m c t
    | ⟨3, _⟩ => iblk m c 3 t
    | ⟨4, _⟩ => outv (iblk m c 0 t) (iblk m c 1 t) (lblk m c t) (iblk m c 3 t)
  Φ _ := Pipeline.ΦA spec0 c
  q _ := fullShare
  owed _ := 0

/-- The body table's row at a point is the body there. -/
theorem defs₀_row (t : Fin cfg0.N) :
    defs₀ (F := Ideal) .tc cfg0.body (cfg0.bodyArgs t (cfg0.slots t)) = bodyAt0 t := by
  unfold defs₀; rw [Defs.onTc_tc]

theorem before_2 (c : Dev nD) (t : Fin cfg0.N) (d) :
    (dats m 0 c).before 2 t d = (cfg0.win 2).fill (grid0.coords t) d (iblk m c 2 t) := by
  unfold Dat.before; rw [if_pos (fetch0_2 t)]; rfl

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = lblk m c t := by dsimp only [dats]
theorem after_3 (c : Dev nD) (t : Fin cfg0.N) : (dats m 0 c).after 3 t = iblk m c 3 t := by dsimp only [dats]

theorem after_4 (c : Dev nD) (t : Fin cfg0.N) :
    (dats m 0 c).after 4 t = outv (iblk m c 0 t) (iblk m c 1 t) (lblk m c t) (iblk m c 3 t) := by dsimp only [dats]

theorem cut_after_2 (c : Dev nD) (t : Fin cfg0.N) :
    (cfg0.win 2).cut (grid0.coords t) ((dats m 0 c).after 2 t) = iblk m c 2 t := by
  rw [after_2]; unfold lblk; exact win0_2.cut_fill _ _ _

/-- The part of the result's buffer that is written back does not depend on what lies past the left operand's end. -/
theorem cut_after_4 (c : Dev nD) (t : Fin cfg0.N) (d : S8192x256.Idx → Elt Ideal .fp8e4m3) :
    (cfg0.win 4).cut (grid0.coords t) ((dats m 0 c).after 4 t)
      = (cfg0.win 4).cut (grid0.coords t) (outv (iblk m c 0 t) (iblk m c 1 t) ((cfg0.win 2).fill (grid0.coords t) d (iblk m c 2 t)) (iblk m c 3 t)) := by
  rw [after_4]
  funext y
  unfold lblk
  exact (point m c t _ y).trans (point m c t d y).symm

/-- The body obligation. -/
theorem body_obligation (c : Dev nD) : BodyObligationLoose (dats m 0 c) (defs₀ (F := Ideal)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before0_0_of m (dats m 0 c) (A_eq m c 0) (after_0 m c) t d0, before0_1_of m (dats m 0 c) (A_eq m c 1) (after_1 m c) t d1,
    before_2 m c t d2, before0_3_of m (dats m 0 c) (A_eq m c 3) (after_3 m c) t d3, after_0, after_1, after_3, cut_after_2]
  iapply (run_body c (grid0.coords t) _ _ _ _ _ _ _ _ _ _ (iblk m c 0 t) (iblk m c 1 t)
    ((cfg0.win 2).fill (grid0.coords t) d2 (iblk m c 2 t)) (iblk m c 3 t) Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]
  · iexists d2
    iexact H2
  isplitl [H3]; · iexact H3
  iexists (outv (iblk m c 0 t) (iblk m c 1 t) ((cfg0.win 2).fill (grid0.coords t) d2 (iblk m c 2 t)) (iblk m c 3 t))
  rw [cut_after_4 m c t d2, Window.fill_cut]
  iexact H4

set_option backward.isDefEq.respectTransparency.types false in
/-- The run, with every counter at zero at the end. -/
theorem run_main : θ_run defs (onTc (τ := τ) (main (F := Ideal))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := fun _ _ => rfl) (hΦ := fun _ _ => rfl)

/-- The result array after the last write-back. -/
theorem arr_out (c : Dev nD) : (dats m 0 c).arrAt 4 cfg0.N
    = Common.tprod (m ((c.tc : Thread nD τ).loc main_arg0)) (m ((c.tc : Thread nD τ).loc main_arg1)) (m ((c.tc : Thread nD τ).loc main_arg2))
        (m ((c.tc : Thread nD τ).loc main_arg3)) := by
  refine Dat.arrAt_eq_of_covers (dats m 0 c) 4 _ (by decide +kernel) fun t _ y => ?_
  rw [after_4]
  unfold lblk
  exact point m c t _ y

/-- Every run ends with the result at the scaled product, the arguments kept and every counter at zero. -/
theorem run : θ_run defs (onTc (τ := τ) (main (F := Ideal))) ⟨m, fun _ => 0, ρ⟩ (fun r => (∀ c : Dev nD,
      r.2.mem ((c.tc : Thread nD τ).loc main_v0) = Common.tprod (m ((c.tc : Thread nD τ).loc main_arg0)) (m ((c.tc : Thread nD τ).loc main_arg1)) (m ((c.tc : Thread nD τ).loc main_arg2))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨((h.1 c).1 4).trans (arr_out m c),
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3))⟩, h.2⟩)
    (run_main m ρ)

end Cert.DW2Ideal.Body
end
-- ==== Proof.DW2RefValue.lean ====
/-
  The value of the reference `DW2RefIdeal` over the extended reals: one grid point that reads the whole matrices and
  writes the scaled product `Common.tprod`.
-/
module

public import proofs.«01_k».proof.Proof.Common
public import proofs.«01_k».proof.Proof.Gen.DW2RefIdeal.Value

@[expose] public section

set_option maxRecDepth 16384

noncomputable section

namespace Cert.DW2RefIdeal.Body

open Cert.DW2RefIdeal Cert.DW2RefIdeal.Gen
open Idealize.ShloMosaic Idealize.ShloMosaic.TcCoe
open Idealize.SL Idealize.SL.Sem
open Idealize.ShloMosaic.Pipeline (Dat Window)

variable (m : (ℓ : Loc nD τ sig) → Buf (Elt Ideal) ℓ) (ρ : Dev nD → PrngReg)

theorem idx0_0 : ∀ t : Fin cfg0.N, win0_0.index t 0 = 0 := by decide +kernel
theorem idx0_1 : ∀ t : Fin cfg0.N, win0_0.index t 1 = 0 := by decide +kernel
theorem idx1_0 : ∀ t : Fin cfg0.N, win0_1.index t 0 = 0 := by decide +kernel
theorem idx1_1 : ∀ t : Fin cfg0.N, win0_1.index t 1 = 0 := by decide +kernel
theorem idx2_0 : ∀ t : Fin cfg0.N, win0_2.index t 0 = 0 := by decide +kernel
theorem idx2_1 : ∀ t : Fin cfg0.N, win0_2.index t 1 = 0 := by decide +kernel
theorem idx3_0 : ∀ t : Fin cfg0.N, win0_3.index t 0 = 0 := by decide +kernel
theorem idx3_1 : ∀ t : Fin cfg0.N, win0_3.index t 1 = 0 := by decide +kernel
theorem idx4_0 : ∀ t : Fin cfg0.N, win0_4.index t 0 = 0 := by decide +kernel
theorem idx4_1 : ∀ t : Fin cfg0.N, win0_4.index t 1 = 0 := by decide +kernel

theorem iblk_0 (c : Dev nD) (t : Fin cfg0.N) : iblk m c 0 t = m ((c.tc : Thread nD τ).loc main_arg0) := by
  funext j
  blk_point [iblk, V, idx0_0, idx0_1]
theorem iblk_1 (c : Dev nD) (t : Fin cfg0.N) : iblk m c 1 t = m ((c.tc : Thread nD τ).loc main_arg1) := by
  funext j
  blk_point [iblk, V, idx1_0, idx1_1]
theorem iblk_2 (c : Dev nD) (t : Fin cfg0.N) : iblk m c 2 t = m ((c.tc : Thread nD τ).loc main_arg2) := by
  funext j
  blk_point [iblk, V, idx2_0, idx2_1]
theorem iblk_3 (c : Dev nD) (t : Fin cfg0.N) : iblk m c 3 t = m ((c.tc : Thread nD τ).loc main_arg3) := by
  funext j
  blk_point [iblk, V, idx3_0, idx3_1]

theorem emb4_0 (t : Fin cfg0.N) (y : (win0_4.xblock (grid0.coords t)).Idx) :
    ((win0_4.blk t).view.emb y 0 : Nat) = (y 0 : Nat) :=
  Window.rect_emb_val_of_index_zero win0_4 t 0 (idx4_0 t) y
theorem emb4_1 (t : Fin cfg0.N) (y : (win0_4.xblock (grid0.coords t)).Idx) :
    ((win0_4.blk t).view.emb y 1 : Nat) = (y 1 : Nat) :=
  Window.rect_emb_val_of_index_zero win0_4 t 1 (idx4_1 t) y

/-- What the reference stores, at the arrays. -/
theorem pay_eq (x0 x1 : Vec Ideal S1x1 .f32) (x2 y2 : Vec Ideal S8192x5504 .fp8e4m3) (x3 y3 : Vec Ideal S8192x4096 .fp8e5m2)
    (y0 y1 : Elt Ideal .f32) (h2 : y2 = x2) (h3 : y3 = x3) (h0 : y0 = x0 (ix2 0 0)) (h1 : y1 = x1 (ix2 0 0)) :
    k0_pay1 y2 y3 y0 y1 = Common.tprod x0 x1 x2 x3 := by
  subst h2; subst h3; subst h0; subst h1
  funext j
  unfold Common.tprod
  pointwise [k0_pay1]

/-- What the one point leaves in the result's buffer. -/
theorem outs (c : Dev nD) (t : Fin cfg0.N) : outsAt0 m c t
    = Common.tprod (m ((c.tc : Thread nD τ).loc main_arg0)) (m ((c.tc : Thread nD τ).loc main_arg1)) (m ((c.tc : Thread nD τ).loc main_arg2))
        (m ((c.tc : Thread nD τ).loc main_arg3)) := by
  unfold outsAt0
  frame_out
  rw [iblk_0, iblk_1, iblk_2, iblk_3]
  exact pay_eq _ _ _ _ _ _ _ _ ((hs0_2 t).read_unread _) ((hs0_3 t).read_unread _)
    ((congrFun ((hs0_0 t).read_unread _) _).trans (congrArg _ (Common.idx11 _)))
    ((congrFun ((hs0_1 t).read_unread _) _).trans (congrArg _ (Common.idx11 _)))

/-- The result array after the run. -/
theorem arr_out (c : Dev nD) : (dats m 0 c).arrAt 4 cfg0.N
    = Common.tprod (m ((c.tc : Thread nD τ).loc main_arg0)) (m ((c.tc : Thread nD τ).loc main_arg1)) (m ((c.tc : Thread nD τ).loc main_arg2))
        (m ((c.tc : Thread nD τ).loc main_arg3)) := by
  refine Dat.arrAt_eq_of_covers (dats m 0 c) 4 _ (by decide +kernel) fun t _ y => ?_
  rw [after0_4, outs]
  have e : win0_4.xinj (grid0.coords t) y = (win0_4.blk t).view.emb y := by
    refine funext fun a => Fin.ext ?_
    fin_cases a
    · exact (emb4_0 t y).symm
    · exact (emb4_1 t y).symm
  exact congrArg (Common.tprod (m ((c.tc : Thread nD τ).loc main_arg0)) (m ((c.tc : Thread nD τ).loc main_arg1)) (m ((c.tc : Thread nD τ).loc main_arg2))
        (m ((c.tc : Thread nD τ).loc main_arg3))) e

/-- Every run ends with the result at the scaled product, the arguments kept. -/
theorem run : θ_run defs (onTc (τ := τ) (main (F := Ideal))) ⟨m, fun _ => 0, ρ⟩ (fun r => ∀ c : Dev nD,
      r.2.mem ((c.tc : Thread nD τ).loc main_v0) = Common.tprod (m ((c.tc : Thread nD τ).loc main_arg0)) (m ((c.tc : Thread nD τ).loc main_arg1)) (m ((c.tc : Thread nD τ).loc main_arg2))
        (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (arr_out m c), (h c).2⟩) (Value.run_blocks m ρ)

end Cert.DW2RefIdeal.Body
end
-- ==== Proof.DW2Claims.lean ====
/-
  The claims on the weight gradient of the second matrix: the frames at every float instance and over the extended
  reals, and the kernel's result equal to the reference's.
-/
module

public import proofs.«01_k».proof.Defs
public import proofs.«01_k».proof.Proof.DW2Body
public import proofs.«01_k».proof.Proof.DW2Value
public import proofs.«01_k».proof.Proof.DW2RefValue

@[expose] public section

noncomputable section

namespace Cert.DW2Claims

open Idealize.ShloMosaic Idealize.ShloMosaic.TcCoe Idealize.SL.Sem

theorem frame : quiescent_DW2 (hDW2 := Cert.DW2.Gen.facts) := fun m ρ _ => Cert.DW2.Body.frame m ρ

theorem frameIdeal : quiescent_DW2Ideal (hDW2Ideal := Cert.DW2Ideal.Gen.facts) := fun m ρ _ =>
  (θ_run _ _ _).mono (fun r h => ⟨fun c => (h.1 c).2, h.2⟩) (Cert.DW2Ideal.Body.run m ρ)

theorem algebraic : algebraic_DW2Ideal_DW2RefIdeal (hDW2Ideal := Cert.DW2Ideal.Gen.facts) (hDW2RefIdeal := Cert.DW2RefIdeal.Gen.facts) :=
  fun m g m' g' _ hag => by
    refine ⟨_, (θ_run _ _ _).mono (fun r h c => h.1 c) (Cert.DW2Ideal.Body.run m g),
      (θ_run _ _ _).mono (fun r h c => ⟨(h c).1.trans ?_, (h c).2⟩) (Cert.DW2RefIdeal.Body.run m' g')⟩
    obtain ⟨h0, h1, h2, h3⟩ := hag c
    rw [h0, h1, h2, h3]

end Cert.DW2Claims
end
-- ==== Proof.DXBody.lean ====
/-
  The frame of `DX`: a grid of nine rounds of eight points. Round `i < 8` computes one block of codes per point, sends
  it out and keeps it in one of the two slots of a scratch buffer; round `i > 0` multiplies the slot the round before
  filled. The two results' contents and the scratch's are not needed for the frame and are left unnamed.
-/
module

public import proofs.«01_k».proof.Proof.Common
public import Idealize.ShloMosaic.Lib.Pipeline.ValueKit
public import proofs.«01_k».proof.Proof.Gen.DX.Frame
public import proofs.«01_k».proof.Proof.Gen.DX.Skeleton

@[expose] public section

set_option maxRecDepth 16384

noncomputable section

namespace Cert.DX.Body

open Cert.DX Cert.DX.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffer, whole. -/
abbrev scr : Memref sig .tc .vmem S2x1024x11008 .fp8e5m2 := Memref.whole cc0_scratch0

/-- What the launch hands the region beside the windows: the scratch buffer at anything, the generator register at some state. -/
theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- Which of the three conditional parts run at a point: exactly one. -/
theorem conds : ∀ t : Fin cfg0.N,
    (k0_cond1 (grid0.coords t) = 1#1 ∧ ¬ k0_cond2 (grid0.coords t) = 1#1 ∧ ¬ k0_cond3 (grid0.coords t) = 1#1)
    ∨ (¬ k0_cond1 (grid0.coords t) = 1#1 ∧ k0_cond2 (grid0.coords t) = 1#1 ∧ ¬ k0_cond3 (grid0.coords t) = 1#1)
    ∨ (¬ k0_cond1 (grid0.coords t) = 1#1 ∧ ¬ k0_cond2 (grid0.coords t) = 1#1 ∧ k0_cond3 (grid0.coords t) = 1#1) := by
  decide +kernel

set_option maxHeartbeats 4000000 in
/-- The first round: codes only. -/
theorem run_A (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S128x5504 .f32) (harg5 : arg5.IsWhole) (arg6 : Memref sig .tc .vmem S128x11008 .bf16) (harg6 : arg6.IsWhole) (arg7 : Memref sig .tc .vmem S512x11008 .fp8e4m3) (harg7 : arg7.IsWhole) (arg8 : Memref sig .tc .vmem S128x11008 .fp8e5m2) (harg8 : arg8.IsWhole) (arg9 : Memref sig .tc .vmem S1024x512 .bf16) (harg9 : arg9.IsWhole) (arg10 : Memref sig .tc .vmem S2x1024x11008 .fp8e5m2) (harg10 : arg10.IsWhole)
    (h1 : k0_cond1 i = 1#1) (h2 : ¬ k0_cond2 i = 1#1) (h3 : ¬ k0_cond3 i = 1#1)
    (x0 x1 x2 : Vec F S1x1 .f32) (x3 : Vec F S128x5504 .f32) (x4 : Vec F S128x11008 .bf16) (x5 : Vec F S512x11008 .fp8e4m3) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_dX i arg2 harg2 arg3 harg3 arg4 harg4 arg5 harg5 arg6 harg6 arg7 harg7 arg8 harg8 arg9 harg9 arg10 harg10) K := by
  simp only [cc0_dX_eq_skeleton]; unfold cc0_dX_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  sl_exec (disch := first | sl_exact h1 | sl_exact h2 | sl_exact h3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _, _; isplitr
    swap; · iexact H6
    ipureintro; rfl
  isplitl [H7]
  · iexists _, _; isplitr
    swap; · iexact H7
    ipureintro; rfl
  iexists _, _; isplitr
  swap; · iexact H8
  ipureintro; rfl

set_option maxHeartbeats 4000000 in
/-- A middle round: the product of the round before, then codes. -/
theorem run_B (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S128x5504 .f32) (harg5 : arg5.IsWhole) (arg6 : Memref sig .tc .vmem S128x11008 .bf16) (harg6 : arg6.IsWhole) (arg7 : Memref sig .tc .vmem S512x11008 .fp8e4m3) (harg7 : arg7.IsWhole) (arg8 : Memref sig .tc .vmem S128x11008 .fp8e5m2) (harg8 : arg8.IsWhole) (arg9 : Memref sig .tc .vmem S1024x512 .bf16) (harg9 : arg9.IsWhole) (arg10 : Memref sig .tc .vmem S2x1024x11008 .fp8e5m2) (harg10 : arg10.IsWhole)
    (h1 : ¬ k0_cond1 i = 1#1) (h2 : k0_cond2 i = 1#1) (h3 : ¬ k0_cond3 i = 1#1)
    (x0 x1 x2 : Vec F S1x1 .f32) (x3 : Vec F S128x5504 .f32) (x4 : Vec F S128x11008 .bf16) (x5 : Vec F S512x11008 .fp8e4m3) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_dX i arg2 harg2 arg3 harg3 arg4 harg4 arg5 harg5 arg6 harg6 arg7 harg7 arg8 harg8 arg9 harg9 arg10 harg10) K := by
  simp only [cc0_dX_eq_skeleton]; unfold cc0_dX_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  sl_exec (disch := first | sl_exact h1 | sl_exact h2 | sl_exact h3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _, _; isplitr
    swap; · iexact H6
    ipureintro; rfl
  isplitl [H7]
  · iexists _, _; isplitr
    swap; · iexact H7
    ipureintro; rfl
  iexists _, _; isplitr
  swap; · iexact H8
  ipureintro; rfl

set_option maxHeartbeats 4000000 in
/-- The last round: the product only. -/
theorem run_C (c : Dev nD) (i : grid0.Coords) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S128x5504 .f32) (harg5 : arg5.IsWhole) (arg6 : Memref sig .tc .vmem S128x11008 .bf16) (harg6 : arg6.IsWhole) (arg7 : Memref sig .tc .vmem S512x11008 .fp8e4m3) (harg7 : arg7.IsWhole) (arg8 : Memref sig .tc .vmem S128x11008 .fp8e5m2) (harg8 : arg8.IsWhole) (arg9 : Memref sig .tc .vmem S1024x512 .bf16) (harg9 : arg9.IsWhole) (arg10 : Memref sig .tc .vmem S2x1024x11008 .fp8e5m2) (harg10 : arg10.IsWhole)
    (h1 : ¬ k0_cond1 i = 1#1) (h2 : ¬ k0_cond2 i = 1#1) (h3 : k0_cond3 i = 1#1)
    (x0 x1 x2 : Vec F S1x1 .f32) (x3 : Vec F S128x5504 .f32) (x4 : Vec F S128x11008 .bf16) (x5 : Vec F S512x11008 .fp8e4m3) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_dX i arg2 harg2 arg3 harg3 arg4 harg4 arg5 harg5 arg6 harg6 arg7 harg7 arg8 harg8 arg9 harg9 arg10 harg10) K := by
  simp only [cc0_dX_eq_skeleton]; unfold cc0_dX_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  sl_exec (disch := first | sl_exact h1 | sl_exact h2 | sl_exact h3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _, _; isplitr
    swap; · iexact H6
    ipureintro; rfl
  isplitl [H7]
  · iexists _, _; isplitr
    swap; · iexact H7
    ipureintro; rfl
  iexists _, _; isplitr
  swap; · iexact H8
  ipureintro; rfl

/-! ## The proof data -/

/-- The two result windows are left unnamed. -/
def forgets : Fin cfg0.W → Bool := fun | 6 => true | 7 => true | _ => false

/-- The proof data: arrays as the region finds them, the inputs' buffers at their blocks, the results' not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Dat.unnamed 6 t
    | ⟨7, _⟩ => Dat.unnamed 7 t
  Φ _ := Pipeline.ΦA spec0 c
  q _ := fullShare
  owed _ := 0

/-- The body table's row at a point is the body there. -/
theorem defs₀_row (t : Fin cfg0.N) :
    defs₀ (F := F) .tc cfg0.body (cfg0.bodyArgs t (cfg0.slots t)) = bodyAt0 t := by
  unfold defs₀; rw [Defs.onTc_tc]

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]

/-- The body at any point, the results' and the scratch's contents unnamed. -/
theorem run_any (c : Dev nD) (t : Fin cfg0.N) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S128x5504 .f32) (harg5 : arg5.IsWhole) (arg6 : Memref sig .tc .vmem S128x11008 .bf16) (harg6 : arg6.IsWhole) (arg7 : Memref sig .tc .vmem S512x11008 .fp8e4m3) (harg7 : arg7.IsWhole) (arg8 : Memref sig .tc .vmem S128x11008 .fp8e5m2) (harg8 : arg8.IsWhole) (arg9 : Memref sig .tc .vmem S1024x512 .bf16) (harg9 : arg9.IsWhole) (arg10 : Memref sig .tc .vmem S2x1024x11008 .fp8e5m2) (harg10 : arg10.IsWhole)
    (x0 x1 x2 : Vec F S1x1 .f32) (x3 : Vec F S128x5504 .f32) (x4 : Vec F S128x11008 .bf16) (x5 : Vec F S512x11008 .fp8e4m3) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_dX (grid0.coords t) arg2 harg2 arg3 harg3 arg4 harg4 arg5 harg5 arg6 harg6 arg7 harg7 arg8 harg8 arg9 harg9 arg10 harg10) K := by
  rcases conds t with ⟨h1, h2, h3⟩ | ⟨h1, h2, h3⟩ | ⟨h1, h2, h3⟩
  · exact run_A c _ arg2 harg2 arg3 harg3 arg4 harg4 arg5 harg5 arg6 harg6 arg7 harg7 arg8 harg8 arg9 harg9 arg10 harg10 h1 h2 h3 x0 x1 x2 x3 x4 x5 E K
  · exact run_B c _ arg2 harg2 arg3 harg3 arg4 harg4 arg5 harg5 arg6 harg6 arg7 harg7 arg8 harg8 arg9 harg9 arg10 harg10 h1 h2 h3 x0 x1 x2 x3 x4 x5 E K
  · exact run_C c _ arg2 harg2 arg3 harg3 arg4 harg4 arg5 harg5 arg6 harg6 arg7 harg7 arg8 harg8 arg9 harg9 arg10 harg10 h1 h2 h3 x0 x1 x2 x3 x4 x5 E K

set_option maxHeartbeats 1000000 in
/-- The body obligation, the result windows unnamed. -/
theorem body_obligation (c : Dev nD) : BodyObligationLoose (dats (F := F) m 0 c) (defs₀ (F := F)) Variants.none () Set.univ forgets := fun t => by
  rw [bigSep_W0, bigSep_W0, defs₀_row]
  simp only [forgets]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before0_0_of m (dats m 0 c) (A_eq m c 0) (after_0 m c) t d0, before0_1_of m (dats m 0 c) (A_eq m c 1) (after_1 m c) t d1, before0_2_of m (dats m 0 c) (A_eq m c 2) (after_2 m c) t d2, before0_3_of m (dats m 0 c) (A_eq m c 3) (after_3 m c) t d3, before0_4_of m (dats m 0 c) (A_eq m c 4) (after_4 m c) t d4, before0_5_of m (dats m 0 c) (A_eq m c 5) (after_5 m c) t d5,
    after_0, after_1, after_2, after_3, after_4, after_5]
  iapply (run_any c t _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS]; · iexact HS
  iintro ⟨H0, H1, H2, H3, H4, H5, H6, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option backward.isDefEq.respectTransparency.types false in
/-- The run, with every counter at zero at the end. -/
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_forget (Q' := _) cfgs (dats m) (0 : Fin 1) launch0 defs₀ Variants.none forgets m ρ main
    (hbody := fun c => body_obligation m c) (hshare := fun c => (dats m 0 c).share_full fun _ => rfl)
    (howed := fun _ _ => rfl) (V := V m) (hmain := hmain m Variants.none) (hA := fun _ _ => rfl) (hΦ := fun _ _ => rfl)

/-- The arguments end as they were launched and the counters at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨h.1.arr_in c 0 rfl, h.1.arr_in c 1 rfl, h.1.arr_in c 2 rfl, h.1.arr_in c 3 rfl, h.1.arr_in c 4 rfl, h.1.arr_in c 5 rfl⟩, h.2⟩)
    (run_main m ρ)

end Cert.DX.Body
end
-- ==== Proof.DXValue.lean ====
/-
  The value of `DX` over the extended reals. Round `i < 8` of eight points computes the codes of eight blocks of 128
  rows, sends each out and keeps it in one of the two slots of a scratch buffer; round `i > 0` multiplies the slot that
  round `i - 1` filled with one block of the weights per point. The invariant says which rows of the scratch hold which
  codes.
-/
module

public import proofs.«01_k».proof.Proof.Common
public import Idealize.ShloMosaic.Lib.Pipeline.ValueKit
public import proofs.«01_k».proof.Proof.Gen.DXIdeal.Frame
public import proofs.«01_k».proof.Proof.Gen.DXIdeal.Skeleton

@[expose] public section

set_option maxRecDepth 16384

noncomputable section

namespace Cert.DXIdeal.Body

open Cert.DXIdeal Cert.DXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## What the body stores, element by element -/

theorem pay10_at (n : Elt Ideal .f32) (g u : Vec Ideal S128x5504 .bf16) (a : Vec Ideal S128x5504 .f32) (j : S128x5504.Idx) :
    k0_pay10 n g u a j = Common.gateC n (a j) (g j) (u j) := by
  unfold Common.gateC Common.clipG
  pointwise [k0_pay10, k0_pay9, k0_pay8]

theorem pay11_at (n : Elt Ideal .f32) (g : Vec Ideal S128x5504 .bf16) (a : Vec Ideal S128x5504 .f32) (j : S128x5504.Idx) :
    k0_pay11 n g a j = Common.upC n (a j) (g j) := by
  unfold Common.upC Common.clipG
  pointwise [k0_pay11, k0_pay9, k0_pay8]

theorem pay3_at (n : Elt Ideal .f32) (g u : Vec Ideal S128x5504 .bf16) (a : Vec Ideal S128x5504 .f32) (j : S128x5504.Idx) :
    k0_pay3 (k0_pay16 n g u a) (Scalar.ofBits (F := Ideal) .f32 0xC7600000#32) j = Common.gateC n (a j) (g j) (u j) := by
  unfold Common.gateC Common.clipG
  pointwise [k0_pay3, k0_pay16, k0_pay14, k0_pay13]

theorem pay4_at (n : Elt Ideal .f32) (g : Vec Ideal S128x5504 .bf16) (a : Vec Ideal S128x5504 .f32) (j : S128x5504.Idx) :
    k0_pay4 n (k0_pay15 g a) j = Common.upC n (a j) (g j) := by
  unfold Common.upC Common.clipG
  pointwise [k0_pay4, k0_pay15, k0_pay14, k0_pay13]

theorem pay12_at (x1 x2 : Elt Ideal .f32) (z : Vec Ideal S1x1024x11008 .fp8e5m2) (w : Vec Ideal S512x11008 .fp8e4m3) (j : S1024x512.Idx) :
    k0_pay12 x1 x2 z w j = (∑ k : Fin 11008, z (ix3 0 (j 0) k) * w (ix2 (j 1) k)) * (x1 * x2) := by
  pointwise [k0_pay12]

theorem pay7_at (x1 x2 : Elt Ideal .f32) (z : Vec Ideal S1x1024x11008 .fp8e5m2) (w : Vec Ideal S512x11008 .fp8e4m3) (j : S1024x512.Idx) :
    k0_pay7 x1 x2 z w j = (∑ k : Fin 11008, z (ix3 0 (j 0) k) * w (ix2 (j 1) k)) * (x1 * x2) := by
  pointwise [k0_pay7]

theorem pay1_at (v : Vec Ideal S128x5504 .fp8e5m2) (j : S1x128x5504.Idx) : k0_pay1 (F := Ideal) v j = v (ix2 (j 1) (j 2)) := by
  pointwise [k0_pay1]
theorem pay2_at (v : Vec Ideal S128x5504 .fp8e5m2) (j : S1x128x5504.Idx) : k0_pay2 (F := Ideal) v j = v (ix2 (j 1) (j 2)) := by
  pointwise [k0_pay2]
theorem pay5_at (v : Vec Ideal S128x5504 .f32) (n : Elt Ideal .f32) (j : S1x128x5504.Idx) : k0_pay5 (F := Ideal) v n j = k0_pay3 (F := Ideal) v n (ix2 (j 1) (j 2)) := by
  pointwise [k0_pay5]
theorem pay6_at (n : Elt Ideal .f32) (v : Vec Ideal S128x5504 .f32) (j : S1x128x5504.Idx) : k0_pay6 (F := Ideal) n v j = k0_pay4 (F := Ideal) n v (ix2 (j 1) (j 2)) := by
  pointwise [k0_pay6]

/-! ## The grid -/

theorem crd0 : ∀ t : Fin cfg0.N, (grid0.coords t 0).val = t.val / 8 := by decide +kernel
theorem crd1 : ∀ t : Fin cfg0.N, (grid0.coords t 1).val = t.val % 8 := by decide +kernel
theorem off1 : ∀ t : Fin cfg0.N, k0_off1 (grid0.coords t) = ![t.val / 8 % 2, 128 * (t.val % 8), 0] := by decide +kernel
theorem off2 : ∀ t : Fin cfg0.N, k0_off2 (grid0.coords t) = ![t.val / 8 % 2, 128 * (t.val % 8), 5504] := by decide +kernel
theorem off3 : ∀ t : Fin cfg0.N, k0_off3 (grid0.coords t) = ![(t.val / 8 + 1) % 2, 0, 0] := by decide +kernel
theorem off4 : ∀ t : Fin cfg0.N, k0_off4 (grid0.coords t) = ![t.val / 8 % 2, 128 * (t.val % 8), 0] := by decide +kernel
theorem off5 : ∀ t : Fin cfg0.N, k0_off5 (grid0.coords t) = ![t.val / 8 % 2, 128 * (t.val % 8), 5504] := by decide +kernel
theorem off6 : ∀ t : Fin cfg0.N, k0_off6 (grid0.coords t) = ![(t.val / 8 + 1) % 2, 0, 0] := by decide +kernel
theorem cond1 : ∀ t : Fin cfg0.N, k0_cond1 (grid0.coords t) = 1#1 ↔ t.val < 8 := by decide +kernel
theorem cond2 : ∀ t : Fin cfg0.N, k0_cond2 (grid0.coords t) = 1#1 ↔ 8 ≤ t.val ∧ t.val < 64 := by decide +kernel
theorem cond3 : ∀ t : Fin cfg0.N, k0_cond3 (grid0.coords t) = 1#1 ↔ 64 ≤ t.val := by decide +kernel

/-! ## The scratch -/

/-- The scratch after a block of codes is put into slot `s` at rows `r` to `r + 127`. -/
def upd (s r : Nat) (cb : Vec Ideal S128x11008 .fp8e5m2) (z : Vec Ideal S2x1024x11008 .fp8e5m2) : Vec Ideal S2x1024x11008 .fp8e5m2 := fun y =>
  if h : (y 0 : Nat) = s ∧ r ≤ (y 1 : Nat) ∧ (y 1 : Nat) < r + 128 then cb (ix2 ⟨(y 1 : Nat) - r, by omega⟩ (y 2)) else z y

/-- A slot of the scratch. -/
def slot (s : Fin 2) (z : Vec Ideal S2x1024x11008 .fp8e5m2) : Vec Ideal S1024x11008 .fp8e5m2 := fun y => z (ix3 s (y 0) (y 1))

/-- Two stores of the halves of a block of codes leave the block. -/
theorem read_codes {M : Memref sig .tc .vmem S128x11008 .fp8e5m2} (f : M.view.ty.Contents (Elt Ideal)) (cb : Vec Ideal S128x11008 .fp8e5m2)
    (inb0 : ∀ a, (![0, 0] : Fin 2 → Nat) a + S128x5504.size a ≤ S128x11008.size a)
    (inb1 : ∀ a, (![0, 5504] : Fin 2 → Nat) a + S128x5504.size a ≤ S128x11008.size a)
    (w0 w1 : Vec Ideal S128x5504 .fp8e5m2)
    (h0 : ∀ (r : Fin 128) (k : Fin 5504), w0 (ix2 r k) = cb (ix2 r ⟨k, by omega⟩))
    (h1 : ∀ (r : Fin 128) (k : Fin 5504), w1 (ix2 r k) = cb (ix2 r ⟨5504 + k, by omega⟩)) :
    M.view.read (Elt Ideal) (M.view.writes (Elt Ideal) f [⟨Rect.unit (s := S128x11008) ![0, 5504] S128x5504.size inb1, w1⟩, ⟨Rect.unit (s := S128x11008) ![0, 0] S128x5504.size inb0, w0⟩]) = cb := by
  funext y
  have hy : (y 1 : Nat) < 11008 := (y 1).isLt
  by_cases h : (y 1 : Nat) < 5504
  · rw [View.read_writes_cons_unit_of_not_mem (off' := ![0, 5504]) M.view f inb1 w1 _ y rfl (1 : Fin 2) (Or.inl h)]
    refine (View.read_writes_cons_unit_of_mem (off' := ![0, 0]) M.view f inb0 w0 [] y (ix2 (y 0) ⟨y 1, h⟩) rfl ?_).trans ((h0 (y 0) ⟨y 1, h⟩).trans ?_)
    · intro a; fin_cases a
      · exact (Nat.zero_add _).symm
      · exact (Nat.zero_add _).symm
    · refine congrArg cb (funext fun a => Fin.ext ?_)
      fin_cases a <;> rfl
  · have hk : (y 1 : Nat) - 5504 < 5504 := by omega
    refine (View.read_writes_cons_unit_of_mem (off' := ![0, 5504]) M.view f inb1 w1 _ y (ix2 (y 0) ⟨(y 1 : Nat) - 5504, hk⟩) rfl ?_).trans ((h1 (y 0) ⟨(y 1 : Nat) - 5504, hk⟩).trans ?_)
    · intro a; fin_cases a
      · exact (Nat.zero_add _).symm
      · show (y 1 : Nat) = 5504 + ((y 1 : Nat) - 5504); omega
    · refine congrArg cb (funext fun a => Fin.ext ?_)
      fin_cases a
      · rfl
      · show 5504 + ((y 1 : Nat) - 5504) = (y 1 : Nat); omega

/-- Two stores of the halves of a block of codes into the scratch put the block there. -/
theorem read_scr {M : Memref sig .tc .vmem S2x1024x11008 .fp8e5m2} (hM : M.IsWhole) (z : Vec Ideal S2x1024x11008 .fp8e5m2) (cb : Vec Ideal S128x11008 .fp8e5m2)
    (s r : Nat) (o0 o1 : Fin 3 → Nat) (e0 : o0 = ![s, r, 0]) (e1 : o1 = ![s, r, 5504])
    (inb0 : ∀ a, o0 a + S1x128x5504.size a ≤ S2x1024x11008.size a)
    (inb1 : ∀ a, o1 a + S1x128x5504.size a ≤ S2x1024x11008.size a)
    (w0 w1 : Vec Ideal S1x128x5504 .fp8e5m2)
    (h0 : ∀ (r : Fin 128) (k : Fin 5504), w0 (ix3 0 r k) = cb (ix2 r ⟨k, by omega⟩))
    (h1 : ∀ (r : Fin 128) (k : Fin 5504), w1 (ix3 0 r k) = cb (ix2 r ⟨5504 + k, by omega⟩)) :
    M.view.read (Elt Ideal) (M.view.writes (Elt Ideal) (hM.unread z) [⟨Rect.unit (s := S2x1024x11008) o1 S1x128x5504.size inb1, w1⟩, ⟨Rect.unit (s := S2x1024x11008) o0 S1x128x5504.size inb0, w0⟩]) = upd s r cb z := by
  funext y
  have hy : (y 2 : Nat) < 11008 := (y 2).isLt
  unfold upd
  by_cases hw : (y 0 : Nat) = s ∧ r ≤ (y 1 : Nat) ∧ (y 1 : Nat) < r + 128
  · rw [dif_pos hw]
    have hr : (y 1 : Nat) - r < 128 := by omega
    by_cases h : (y 2 : Nat) < 5504
    · rw [View.read_writes_cons_unit_of_not_mem (off' := ![s, r, 5504]) M.view _ inb1 w1 _ y e1 (2 : Fin 3) (Or.inl h)]
      refine (View.read_writes_cons_unit_of_mem (off' := ![s, r, 0]) M.view _ inb0 w0 [] y (ix3 0 ⟨(y 1 : Nat) - r, hr⟩ ⟨y 2, h⟩) e0 ?_).trans ((h0 ⟨(y 1 : Nat) - r, hr⟩ ⟨y 2, h⟩).trans ?_)
      · intro a; fin_cases a
        · show (y 0 : Nat) = s + 0; omega
        · show (y 1 : Nat) = r + ((y 1 : Nat) - r); omega
        · exact (Nat.zero_add _).symm
      · refine congrArg cb (funext fun a => Fin.ext ?_)
        fin_cases a <;> rfl
    · have hk : (y 2 : Nat) - 5504 < 5504 := by omega
      refine (View.read_writes_cons_unit_of_mem (off' := ![s, r, 5504]) M.view _ inb1 w1 _ y (ix3 0 ⟨(y 1 : Nat) - r, hr⟩ ⟨(y 2 : Nat) - 5504, hk⟩) e1 ?_).trans ((h1 ⟨(y 1 : Nat) - r, hr⟩ ⟨(y 2 : Nat) - 5504, hk⟩).trans ?_)
      · intro a; fin_cases a
        · show (y 0 : Nat) = s + 0; omega
        · show (y 1 : Nat) = r + ((y 1 : Nat) - r); omega
        · show (y 2 : Nat) = 5504 + ((y 2 : Nat) - 5504); omega
      · exact congrArg (fun q : Fin 11008 => cb (ix2 ⟨(y 1 : Nat) - r, hr⟩ q)) (Fin.ext (Nat.add_sub_cancel' (Nat.le_of_not_lt h)))
  · rw [dif_neg hw]
    have hm : (y 0 : Nat) ≠ s ∨ (y 1 : Nat) < r ∨ r + 128 ≤ (y 1 : Nat) := by omega
    have miss : ∀ (o : Fin 3 → Nat) (k : Nat) (he : o = ![s, r, k]) (inb : ∀ a, o a + S1x128x5504.size a ≤ S2x1024x11008.size a) (w : Vec Ideal S1x128x5504 .fp8e5m2)
        (L : List (View.Piece (Elt Ideal) S2x1024x11008 .fp8e5m2)),
        M.view.read (Elt Ideal) (M.view.writes (Elt Ideal) (hM.unread z) (⟨Rect.unit (s := S2x1024x11008) o S1x128x5504.size inb, w⟩ :: L)) y
          = M.view.read (Elt Ideal) (M.view.writes (Elt Ideal) (hM.unread z) L) y := by
      intro o k he inb w L
      rcases hm with h | h | h
      · rcases Nat.lt_or_gt_of_ne h with h | h
        · exact View.read_writes_cons_unit_of_not_mem (off' := ![s, r, k]) M.view _ inb w L y he (0 : Fin 3) (Or.inl h)
        · exact View.read_writes_cons_unit_of_not_mem (off' := ![s, r, k]) M.view _ inb w L y he (0 : Fin 3) (Or.inr h)
      · exact View.read_writes_cons_unit_of_not_mem (off' := ![s, r, k]) M.view _ inb w L y he (1 : Fin 3) (Or.inl h)
      · exact View.read_writes_cons_unit_of_not_mem (off' := ![s, r, k]) M.view _ inb w L y he (1 : Fin 3) (Or.inr h)
    rw [miss _ _ e1 inb1, miss _ _ e0 inb0]
    exact congrFun (hM.read_unread z) y

/-- A left column of a block of codes. -/
theorem half0 (x0 : Vec Ideal S1x1 .f32) (x3 : Vec Ideal S128x5504 .f32) (x4 : Vec Ideal S128x11008 .bf16) (n : Elt Ideal .f32)
    (g u : Vec Ideal S128x5504 .bf16) (a : Vec Ideal S128x5504 .f32) (hn : n = x0 (ix2 0 0))
    (hg : ∀ (r : Fin 128) (k : Fin 5504), g (ix2 r k) = x4 (ix2 r ⟨k, by omega⟩))
    (hu : ∀ (r : Fin 128) (k : Fin 5504), u (ix2 r k) = x4 (ix2 r ⟨5504 + k, by omega⟩)) (ha : a = x3) (r : Fin 128) (k : Fin 5504) :
    Common.gateC n (a (ix2 r k)) (g (ix2 r k)) (u (ix2 r k)) = Common.codesV x0 x3 x4 (ix2 r ⟨k, by omega⟩) := by
  rw [hn, ha, hg, hu]
  exact (Common.codesV_left x0 x3 x4 r k).symm

/-- A right column of a block of codes. -/
theorem half1 (x0 : Vec Ideal S1x1 .f32) (x3 : Vec Ideal S128x5504 .f32) (x4 : Vec Ideal S128x11008 .bf16) (n : Elt Ideal .f32)
    (g : Vec Ideal S128x5504 .bf16) (a : Vec Ideal S128x5504 .f32) (hn : n = x0 (ix2 0 0))
    (hg : ∀ (r : Fin 128) (k : Fin 5504), g (ix2 r k) = x4 (ix2 r ⟨k, by omega⟩)) (ha : a = x3) (r : Fin 128) (k : Fin 5504) :
    Common.upC n (a (ix2 r k)) (g (ix2 r k)) = Common.codesV x0 x3 x4 (ix2 r ⟨5504 + k, by omega⟩) := by
  rw [hn, ha, hg]
  exact (Common.codesV_right x0 x3 x4 r k).symm

/-- The scaled product of a slot with a block of weights. -/
theorem prod_eq (x1 x2 : Vec Ideal S1x1 .f32) (z : Vec Ideal S2x1024x11008 .fp8e5m2) (x5 : Vec Ideal S512x11008 .fp8e4m3) (s : Fin 2)
    (p : Vec Ideal S1024x512 .bf16) (y1 y2 : Elt Ideal .f32) (v : Vec Ideal S1x1024x11008 .fp8e5m2) (w : Vec Ideal S512x11008 .fp8e4m3)
    (hp : ∀ j, p j = (∑ k : Fin 11008, v (ix3 0 (j 0) k) * w (ix2 (j 1) k)) * (y1 * y2))
    (h1 : y1 = x1 (ix2 0 0)) (h2 : y2 = x2 (ix2 0 0)) (hv : ∀ (r : Fin 1024) (k : Fin 11008), v (ix3 0 r k) = z (ix3 s r k)) (hw : w = x5) :
    p = Common.nprod x1 x2 (slot s z) x5 := by
  funext j
  rw [hp, h1, h2, hw]
  unfold Common.nprod slot
  exact congrArg (fun q : EReal => q * (x1 (ix2 0 0) * x2 (ix2 0 0))) (Finset.sum_congr rfl fun k _ => congrArg (fun q : EReal => q * x5 (ix2 (j 1) k)) (hv (j 0) k))

/-- A load of a scalar. -/
theorem scalar_at {M : Memref sig .tc .smem S1x1 .f32} (h : M.IsWhole) (X : Vec Ideal S1x1 .f32) (inb : ∀ a, (![0, 0] : Fin 2 → Nat) a + S1x1.size a ≤ S1x1.size a)
    (j : S1x1.Idx) : View.readAt (Elt Ideal) M.view (Rect.unit (s := S1x1) ![0, 0] S1x1.size inb).toLoadRect (h.unread X) j = X (ix2 0 0) :=
  (congrFun (Common.readAt_whole h X Common.zz2 inb) j).trans (congrArg X (Common.idx11 _))

/-- A load of the left half of a block of gates and ups. -/
theorem left_at {M : Memref sig .tc .vmem S128x11008 .bf16} (h : M.IsWhole) (X : Vec Ideal S128x11008 .bf16)
    (inb : ∀ a, (![0, 0] : Fin 2 → Nat) a + S128x5504.size a ≤ S128x11008.size a) (r : Fin 128) (k : Fin 5504) :
    View.readAt (Elt Ideal) M.view (Rect.unit (s := S128x11008) ![0, 0] S128x5504.size inb).toLoadRect (h.unread X) (ix2 r k) = X (ix2 r ⟨k, by omega⟩) :=
  Common.readAt_at h X inb rfl _ _ fun a => by
    fin_cases a
    · exact (Nat.zero_add _).symm
    · exact (Nat.zero_add _).symm

/-- A load of the right half. -/
theorem right_at {M : Memref sig .tc .vmem S128x11008 .bf16} (h : M.IsWhole) (X : Vec Ideal S128x11008 .bf16)
    (inb : ∀ a, (![0, 5504] : Fin 2 → Nat) a + S128x5504.size a ≤ S128x11008.size a) (r : Fin 128) (k : Fin 5504) :
    View.readAt (Elt Ideal) M.view (Rect.unit (s := S128x11008) ![0, 5504] S128x5504.size inb).toLoadRect (h.unread X) (ix2 r k) = X (ix2 r ⟨5504 + k, by omega⟩) :=
  Common.readAt_at h X inb rfl _ _ fun a => by
    fin_cases a
    · exact (Nat.zero_add _).symm
    · rfl

/-- A load of a slot. -/
theorem slot_at {M : Memref sig .tc .vmem S2x1024x11008 .fp8e5m2} (h : M.IsWhole) (z : Vec Ideal S2x1024x11008 .fp8e5m2) (s : Fin 2) {o : Fin 3 → Nat} (e : o = ![(s : Nat), 0, 0])
    (inb : ∀ a, o a + S1x1024x11008.size a ≤ S2x1024x11008.size a) (r : Fin 1024) (k : Fin 11008) :
    View.readAt (Elt Ideal) M.view (Rect.unit (s := S2x1024x11008) o S1x1024x11008.size inb).toLoadRect (h.unread z) (ix3 0 r k) = z (ix3 s r k) :=
  Common.readAt_at h z inb e _ _ fun a => by
    fin_cases a
    · rfl
    · exact (Nat.zero_add _).symm
    · exact (Nat.zero_add _).symm

set_option maxHeartbeats 4000000 in
/-- The first round: codes only. -/
theorem run_A (c : Dev nD) (t : Fin cfg0.N) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S128x5504 .f32) (harg5 : arg5.IsWhole) (arg6 : Memref sig .tc .vmem S128x11008 .bf16) (harg6 : arg6.IsWhole) (arg7 : Memref sig .tc .vmem S512x11008 .fp8e4m3) (harg7 : arg7.IsWhole) (arg8 : Memref sig .tc .vmem S128x11008 .fp8e5m2) (harg8 : arg8.IsWhole) (arg9 : Memref sig .tc .vmem S1024x512 .bf16) (harg9 : arg9.IsWhole) (arg10 : Memref sig .tc .vmem S2x1024x11008 .fp8e5m2) (harg10 : arg10.IsWhole)
    (h1 : k0_cond1 (grid0.coords t) = 1#1) (h2 : ¬ k0_cond2 (grid0.coords t) = 1#1) (h3 : ¬ k0_cond3 (grid0.coords t) = 1#1)
    (x0 x1 x2 : Vec Ideal S1x1 .f32) (x3 : Vec Ideal S128x5504 .f32) (x4 : Vec Ideal S128x11008 .bf16) (x5 : Vec Ideal S512x11008 .fp8e4m3) (y9 : Vec Ideal S1024x512 .bf16) (z : Vec Ideal S2x1024x11008 .fp8e5m2) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare y9 ∗ owns (c : Thread nD τ) arg10 fullShare z
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (Common.codesV x0 x3 x4) ∗ owns (c : Thread nD τ) arg9 fullShare y9 ∗ owns (c : Thread nD τ) arg10 fullShare (upd (t.val / 8 % 2) (128 * (t.val % 8)) (Common.codesV x0 x3 x4) z)) -∗ K ⟨⟩))
      ⊢ wp frame (wpE (defs₀ (F := Ideal)) Variants.none c none) E (cc0_dX (grid0.coords t) arg2 harg2 arg3 harg3 arg4 harg4 arg5 harg5 arg6 harg6 arg7 harg7 arg8 harg8 arg9 harg9 arg10 harg10) K := by
  simp only [cc0_dX_eq_skeleton]; unfold cc0_dX_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8
  sl_exec (disch := first | sl_exact h1 | sl_exact h2 | sl_exact h3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    refine read_codes _ _ _ _ _ _ (fun r k => ?_) (fun r k => ?_)
    · exact (pay10_at _ _ _ _ _).trans (half0 x0 x3 x4 _ _ _ _ (scalar_at harg2 x0 _ _) (left_at harg6 x4 _) (right_at harg6 x4 _) (Common.readAt_whole harg5 x3 Common.zz2 _) r k)
    · exact (pay11_at _ _ _ _).trans (half1 x0 x3 x4 _ _ _ (scalar_at harg2 x0 _ _) (left_at harg6 x4 _) (Common.readAt_whole harg5 x3 Common.zz2 _) r k)
  isplitl [H7]
  · iexists _; isplitr
    swap; · iexact H7
    ipureintro
    exact hf7
  iexists _; isplitr
  swap; · iexact H8
  ipureintro
  refine read_scr harg10 z _ _ _ _ _ (off1 t) (off2 t) _ _ _ _ (fun r k => ?_) (fun r k => ?_)
  · exact (pay1_at _ _).trans ((pay10_at _ _ _ _ _).trans (half0 x0 x3 x4 _ _ _ _ (scalar_at harg2 x0 _ _) (left_at harg6 x4 _) (right_at harg6 x4 _) (Common.readAt_whole harg5 x3 Common.zz2 _) r k))
  · exact (pay2_at _ _).trans ((pay11_at _ _ _ _).trans (half1 x0 x3 x4 _ _ _ (scalar_at harg2 x0 _ _) (left_at harg6 x4 _) (Common.readAt_whole harg5 x3 Common.zz2 _) r k))

set_option maxHeartbeats 4000000 in
/-- A middle round: the product of the slot filled before, then codes. -/
theorem run_B (c : Dev nD) (t : Fin cfg0.N) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S128x5504 .f32) (harg5 : arg5.IsWhole) (arg6 : Memref sig .tc .vmem S128x11008 .bf16) (harg6 : arg6.IsWhole) (arg7 : Memref sig .tc .vmem S512x11008 .fp8e4m3) (harg7 : arg7.IsWhole) (arg8 : Memref sig .tc .vmem S128x11008 .fp8e5m2) (harg8 : arg8.IsWhole) (arg9 : Memref sig .tc .vmem S1024x512 .bf16) (harg9 : arg9.IsWhole) (arg10 : Memref sig .tc .vmem S2x1024x11008 .fp8e5m2) (harg10 : arg10.IsWhole)
    (h1 : ¬ k0_cond1 (grid0.coords t) = 1#1) (h2 : k0_cond2 (grid0.coords t) = 1#1) (h3 : ¬ k0_cond3 (grid0.coords t) = 1#1)
    (x0 x1 x2 : Vec Ideal S1x1 .f32) (x3 : Vec Ideal S128x5504 .f32) (x4 : Vec Ideal S128x11008 .bf16) (x5 : Vec Ideal S512x11008 .fp8e4m3)  (z : Vec Ideal S2x1024x11008 .fp8e5m2) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare z
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (Common.codesV x0 x3 x4) ∗ owns (c : Thread nD τ) arg9 fullShare (Common.nprod x1 x2 (slot (⟨(t.val / 8 + 1) % 2, Nat.mod_lt _ (by decide)⟩ : Fin 2) z) x5) ∗ owns (c : Thread nD τ) arg10 fullShare (upd (t.val / 8 % 2) (128 * (t.val % 8)) (Common.codesV x0 x3 x4) z)) -∗ K ⟨⟩))
      ⊢ wp frame (wpE (defs₀ (F := Ideal)) Variants.none c none) E (cc0_dX (grid0.coords t) arg2 harg2 arg3 harg3 arg4 harg4 arg5 harg5 arg6 harg6 arg7 harg7 arg8 harg8 arg9 harg9 arg10 harg10) K := by
  simp only [cc0_dX_eq_skeleton]; unfold cc0_dX_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8
  sl_exec (disch := first | sl_exact h1 | sl_exact h2 | sl_exact h3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    refine read_codes _ _ _ _ _ _ (fun r k => ?_) (fun r k => ?_)
    · exact (pay3_at _ _ _ _ _).trans (half0 x0 x3 x4 _ _ _ _ (scalar_at harg2 x0 _ _) (left_at harg6 x4 _) (right_at harg6 x4 _) (Common.readAt_whole harg5 x3 Common.zz2 _) r k)
    · exact (pay4_at _ _ _ _).trans (half1 x0 x3 x4 _ _ _ (scalar_at harg2 x0 _ _) (left_at harg6 x4 _) (Common.readAt_whole harg5 x3 Common.zz2 _) r k)
  isplitl [H7]
  · iexists _; isplitr
    swap; · iexact H7
    ipureintro
    rw [Common.read_writes_whole _ _ Common.zz2]
    exact prod_eq x1 x2 z x5 _ _ _ _ _ _ (pay12_at _ _ _ _) (scalar_at harg3 x1 _ _) (scalar_at harg4 x2 _ _) (slot_at harg10 z _ (off3 t) _) (Common.readAt_whole harg7 x5 Common.zz2 _)
  iexists _; isplitr
  swap; · iexact H8
  ipureintro
  refine read_scr harg10 z _ _ _ _ _ (off4 t) (off5 t) _ _ _ _ (fun r k => ?_) (fun r k => ?_)
  · exact (pay5_at _ _ _).trans ((pay3_at _ _ _ _ _).trans (half0 x0 x3 x4 _ _ _ _ (scalar_at harg2 x0 _ _) (left_at harg6 x4 _) (right_at harg6 x4 _) (Common.readAt_whole harg5 x3 Common.zz2 _) r k))
  · exact (pay6_at _ _ _).trans ((pay4_at _ _ _ _).trans (half1 x0 x3 x4 _ _ _ (scalar_at harg2 x0 _ _) (left_at harg6 x4 _) (Common.readAt_whole harg5 x3 Common.zz2 _) r k))

set_option maxHeartbeats 4000000 in
/-- The last round: the product only. -/
theorem run_C (c : Dev nD) (t : Fin cfg0.N) (arg2 : Memref sig .tc .smem S1x1 .f32) (harg2 : arg2.IsWhole) (arg3 : Memref sig .tc .smem S1x1 .f32) (harg3 : arg3.IsWhole) (arg4 : Memref sig .tc .smem S1x1 .f32) (harg4 : arg4.IsWhole) (arg5 : Memref sig .tc .vmem S128x5504 .f32) (harg5 : arg5.IsWhole) (arg6 : Memref sig .tc .vmem S128x11008 .bf16) (harg6 : arg6.IsWhole) (arg7 : Memref sig .tc .vmem S512x11008 .fp8e4m3) (harg7 : arg7.IsWhole) (arg8 : Memref sig .tc .vmem S128x11008 .fp8e5m2) (harg8 : arg8.IsWhole) (arg9 : Memref sig .tc .vmem S1024x512 .bf16) (harg9 : arg9.IsWhole) (arg10 : Memref sig .tc .vmem S2x1024x11008 .fp8e5m2) (harg10 : arg10.IsWhole)
    (h1 : ¬ k0_cond1 (grid0.coords t) = 1#1) (h2 : ¬ k0_cond2 (grid0.coords t) = 1#1) (h3 : k0_cond3 (grid0.coords t) = 1#1)
    (x0 x1 x2 : Vec Ideal S1x1 .f32) (x3 : Vec Ideal S128x5504 .f32) (x4 : Vec Ideal S128x11008 .bf16) (x5 : Vec Ideal S512x11008 .fp8e4m3) (y8 : Vec Ideal S128x11008 .fp8e5m2) (z : Vec Ideal S2x1024x11008 .fp8e5m2) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y8 ∗ (∃ d, owns (c : Thread nD τ) arg9 fullShare d) ∗ owns (c : Thread nD τ) arg10 fullShare z
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare y8 ∗ owns (c : Thread nD τ) arg9 fullShare (Common.nprod x1 x2 (slot (⟨(t.val / 8 + 1) % 2, Nat.mod_lt _ (by decide)⟩ : Fin 2) z) x5) ∗ owns (c : Thread nD τ) arg10 fullShare z) -∗ K ⟨⟩))
      ⊢ wp frame (wpE (defs₀ (F := Ideal)) Variants.none c none) E (cc0_dX (grid0.coords t) arg2 harg2 arg3 harg3 arg4 harg4 arg5 harg5 arg6 harg6 arg7 harg7 arg8 harg8 arg9 harg9 arg10 harg10) K := by
  simp only [cc0_dX_eq_skeleton]; unfold cc0_dX_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hf8
  sl_exec (disch := first | sl_exact h1 | sl_exact h2 | sl_exact h3)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr
    swap; · iexact H6
    ipureintro
    exact hf6
  isplitl [H7]
  · iexists _; isplitr
    swap; · iexact H7
    ipureintro
    rw [Common.read_writes_whole _ _ Common.zz2]
    exact prod_eq x1 x2 z x5 _ _ _ _ _ _ (pay7_at _ _ _ _) (scalar_at harg3 x1 _ _) (scalar_at harg4 x2 _ _) (slot_at harg10 z _ (off6 t) _) (Common.readAt_whole harg7 x5 Common.zz2 _)
  iexists _; isplitr
  swap; · iexact H8
  ipureintro
  exact hf8

end Cert.DXIdeal.Body
end
-- ==== Proof.DXRun.lean ====
/-
  The run of `DX` over the extended reals: the invariant of the scratch buffer, the proof data, and the two result
  arrays after the last write-back.
-/
module

public import proofs.«01_k».proof.Proof.DXValue

@[expose] public section

set_option maxRecDepth 16384

noncomputable section

namespace Cert.DXIdeal.Body

open Cert.DXIdeal Cert.DXIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## Rows of the codes and what the scratch holds -/

/-- `M` rows of the codes from row `b` on (row numbers past the end wrap). -/
def rowsOf (M : Nat) (C : Vec Ideal S8192x11008 .fp8e5m2) (b : Nat) : Vec Ideal ⟨2, ![M, 11008]⟩ .fp8e5m2 :=
  fun y => C (ix2 ⟨(b + (y 0 : Nat)) % 8192, Nat.mod_lt _ (by decide)⟩ (y 1))

/-- Before point `n` the scratch holds, of the rows done so far, those of the current round of 1024 and of the round
    before it. -/
def Holds (C : Vec Ideal S8192x11008 .fp8e5m2) (n : Nat) (z : Vec Ideal S2x1024x11008 .fp8e5m2) : Prop :=
  ∀ R : Fin 8192, (R : Nat) < 128 * n → 1024 * (n / 8) ≤ (R : Nat) + 1024 → ∀ k : Fin 11008,
    z (ix3 ⟨(R : Nat) / 1024 % 2, Nat.mod_lt _ (by decide)⟩ ⟨(R : Nat) % 1024, Nat.mod_lt _ (by decide)⟩ k) = C (ix2 R k)

theorem holds_zero (C : Vec Ideal S8192x11008 .fp8e5m2) (z : Vec Ideal S2x1024x11008 .fp8e5m2) : Holds C 0 z :=
  fun R h => absurd h (by omega)

theorem holds_succ (C : Vec Ideal S8192x11008 .fp8e5m2) (n : Nat) (hn : 64 ≤ n) (z : Vec Ideal S2x1024x11008 .fp8e5m2)
    (h : Holds C n z) : Holds C (n + 1) z := fun R _ h2 k =>
  h R (by have := R.isLt; omega) (by omega) k

theorem holds_upd (C : Vec Ideal S8192x11008 .fp8e5m2) (n : Nat) (hn : n < 64) (z : Vec Ideal S2x1024x11008 .fp8e5m2)
    (h : Holds C n z) : Holds C (n + 1) (upd (n / 8 % 2) (128 * (n % 8)) (rowsOf 128 C (128 * min n 63)) z) := by
  intro R h1 h2 k
  unfold upd
  by_cases hR : 128 * n ≤ (R : Nat)
  · have hw : (R : Nat) / 1024 % 2 = n / 8 % 2 ∧ 128 * (n % 8) ≤ (R : Nat) % 1024 ∧ (R : Nat) % 1024 < 128 * (n % 8) + 128 := by omega
    refine (dif_pos hw).trans ?_
    refine congrArg (fun q : Fin 8192 => C (ix2 q k)) (Fin.ext ?_)
    show (128 * min n 63 + ((R : Nat) % 1024 - 128 * (n % 8))) % 8192 = (R : Nat)
    omega
  · have hw : ¬ ((R : Nat) / 1024 % 2 = n / 8 % 2 ∧ 128 * (n % 8) ≤ (R : Nat) % 1024 ∧ (R : Nat) % 1024 < 128 * (n % 8) + 128) := by omega
    exact (dif_neg hw).trans (h R (by omega) (by omega) k)

theorem slot_eq (C : Vec Ideal S8192x11008 .fp8e5m2) (n : Nat) (h8 : 8 ≤ n) (hn : n < 72) (z : Vec Ideal S2x1024x11008 .fp8e5m2)
    (h : Holds C n z) : slot (⟨(n / 8 + 1) % 2, Nat.mod_lt _ (by decide)⟩ : Fin 2) z = rowsOf 1024 C (1024 * (n / 8 - 1)) := by
  funext y
  have hy : (y 0 : Nat) < 1024 := (y 0).isLt
  have hR : 1024 * (n / 8 - 1) + (y 0 : Nat) < 8192 := by omega
  refine Eq.trans (congrArg₂ (fun (a : Fin 2) (b : Fin 1024) => z (ix3 a b (y 1))) (Fin.ext ?_) (Fin.ext ?_))
    ((h ⟨1024 * (n / 8 - 1) + (y 0 : Nat), hR⟩ (by show 1024 * (n / 8 - 1) + (y 0 : Nat) < _; omega) (by show _ ≤ 1024 * (n / 8 - 1) + (y 0 : Nat) + 1024; omega) (y 1)).trans
      (congrArg (fun q : Fin 8192 => C (ix2 q (y 1))) (Fin.ext ?_)))
  · show (n / 8 + 1) % 2 = (1024 * (n / 8 - 1) + (y 0 : Nat)) / 1024 % 2
    omega
  · show (y 0 : Nat) = (1024 * (n / 8 - 1) + (y 0 : Nat)) % 1024
    omega
  · show 1024 * (n / 8 - 1) + (y 0 : Nat) = (1024 * (n / 8 - 1) + (y 0 : Nat)) % 8192
    omega

/-! ## Blocks -/

theorem idx0_0 : ∀ t : Fin cfg0.N, win0_0.index t 0 = 0 := by decide +kernel
theorem idx0_1 : ∀ t : Fin cfg0.N, win0_0.index t 1 = 0 := by decide +kernel
theorem idx1_0 : ∀ t : Fin cfg0.N, win0_1.index t 0 = 0 := by decide +kernel
theorem idx1_1 : ∀ t : Fin cfg0.N, win0_1.index t 1 = 0 := by decide +kernel
theorem idx2_0 : ∀ t : Fin cfg0.N, win0_2.index t 0 = 0 := by decide +kernel
theorem idx2_1 : ∀ t : Fin cfg0.N, win0_2.index t 1 = 0 := by decide +kernel
theorem idx3_0 : ∀ t : Fin cfg0.N, win0_3.index t 0 = min t.val 63 := by decide +kernel
theorem idx3_1 : ∀ t : Fin cfg0.N, win0_3.index t 1 = 0 := by decide +kernel
theorem idx4_0 : ∀ t : Fin cfg0.N, win0_4.index t 0 = min t.val 63 := by decide +kernel
theorem idx4_1 : ∀ t : Fin cfg0.N, win0_4.index t 1 = 0 := by decide +kernel
theorem idx5_0 : ∀ t : Fin cfg0.N, win0_5.index t 0 = if t.val < 8 then 0 else t.val % 8 := by decide +kernel
theorem idx5_1 : ∀ t : Fin cfg0.N, win0_5.index t 1 = 0 := by decide +kernel
theorem idx6_0 : ∀ t : Fin cfg0.N, win0_6.index t 0 = min t.val 63 := by decide +kernel
theorem idx6_1 : ∀ t : Fin cfg0.N, win0_6.index t 1 = 0 := by decide +kernel
theorem idx7_0 : ∀ t : Fin cfg0.N, win0_7.index t 0 = t.val / 8 - 1 := by decide +kernel
theorem idx7_1 : ∀ t : Fin cfg0.N, win0_7.index t 1 = if t.val < 8 then 0 else t.val % 8 := by decide +kernel

theorem iblk_0 (c : Dev nD) (t : Fin cfg0.N) : iblk m c 0 t = m ((c.tc : Thread nD τ).loc main_arg0) := by
  funext j
  blk_point [iblk, V, idx0_0, idx0_1]
theorem iblk_1 (c : Dev nD) (t : Fin cfg0.N) : iblk m c 1 t = m ((c.tc : Thread nD τ).loc main_arg1) := by
  funext j
  blk_point [iblk, V, idx1_0, idx1_1]
theorem iblk_2 (c : Dev nD) (t : Fin cfg0.N) : iblk m c 2 t = m ((c.tc : Thread nD τ).loc main_arg2) := by
  funext j
  blk_point [iblk, V, idx2_0, idx2_1]
theorem iblk_3 (c : Dev nD) (t : Fin cfg0.N) (r : Fin 128) (k : Fin 5504) (R : Fin 8192) (hR : (R : Nat) = min t.val 63 * 128 + r) :
    (iblk m c 3 t : Vec Ideal S128x5504 .f32) (ix2 r k) = m ((c.tc : Thread nD τ).loc main_arg3) (ix2 R k) := by
  blk_point [iblk, V, idx3_0, idx3_1]
theorem iblk_4 (c : Dev nD) (t : Fin cfg0.N) (r : Fin 128) (k : Fin 11008) (R : Fin 8192) (hR : (R : Nat) = min t.val 63 * 128 + r) :
    (iblk m c 4 t : Vec Ideal S128x11008 .bf16) (ix2 r k) = m ((c.tc : Thread nD τ).loc main_arg4) (ix2 R k) := by
  blk_point [iblk, V, idx4_0, idx4_1]
theorem iblk_5 (c : Dev nD) (t : Fin cfg0.N) (r : Fin 512) (k : Fin 11008) (R : Fin 4096) (hR : (R : Nat) = (if t.val < 8 then 0 else t.val % 8) * 512 + r) :
    (iblk m c 5 t : Vec Ideal S512x11008 .fp8e4m3) (ix2 r k) = m ((c.tc : Thread nD τ).loc main_arg5) (ix2 R k) := by
  blk_point [iblk, V, idx5_0, idx5_1]

/-- The codes of the whole arrays. -/
def codes (c : Dev nD) : Vec Ideal S8192x11008 .fp8e5m2 :=
  Common.codesV (m ((c.tc : Thread nD τ).loc main_arg0)) (m ((c.tc : Thread nD τ).loc main_arg3)) (m ((c.tc : Thread nD τ).loc main_arg4))

/-- The block of codes of a point. -/
def cblk (C : Vec Ideal S8192x11008 .fp8e5m2) (t : Fin cfg0.N) : Vec Ideal S128x11008 .fp8e5m2 := rowsOf 128 C (128 * min t.val 63)

/-- Codes of a block of rows are a block of rows of the codes. -/
theorem codes_block (n n' : Vec Ideal S1x1 .f32) (a : Vec Ideal S128x5504 .f32) (g : Vec Ideal S128x11008 .bf16)
    (A : Vec Ideal S8192x5504 .f32) (G : Vec Ideal S8192x11008 .bf16) (b : Nat) (hb : b ≤ 63) (hn : n = n')
    (ha : ∀ (r : Fin 128) (k : Fin 5504) (R : Fin 8192), (R : Nat) = b * 128 + r → a (ix2 r k) = A (ix2 R k))
    (hg : ∀ (r : Fin 128) (k : Fin 11008) (R : Fin 8192), (R : Nat) = b * 128 + r → g (ix2 r k) = G (ix2 R k)) :
    Common.codesV n a g = rowsOf 128 (Common.codesV n' A G) (128 * b) := by
  funext y
  have hy : (y 0 : Nat) < 128 := (y 0).isLt
  have e : (128 * b + (y 0 : Nat)) % 8192 = b * 128 + (y 0 : Nat) := by omega
  unfold rowsOf Common.codesV
  rw [hn]
  by_cases h : (y 1 : Nat) < 5504
  · refine (dif_pos h).trans (Eq.trans ?_ (dif_pos h).symm)
    rw [ha (y 0) _ ⟨(128 * b + (y 0 : Nat)) % 8192, Nat.mod_lt _ (by decide)⟩ e, hg (y 0) _ ⟨(128 * b + (y 0 : Nat)) % 8192, Nat.mod_lt _ (by decide)⟩ e,
      hg (y 0) _ ⟨(128 * b + (y 0 : Nat)) % 8192, Nat.mod_lt _ (by decide)⟩ e]
    rfl
  · refine (dif_neg h).trans (Eq.trans ?_ (dif_neg h).symm)
    rw [ha (y 0) _ ⟨(128 * b + (y 0 : Nat)) % 8192, Nat.mod_lt _ (by decide)⟩ e, hg (y 0) _ ⟨(128 * b + (y 0 : Nat)) % 8192, Nat.mod_lt _ (by decide)⟩ e]
    rfl

theorem cblk_eq (c : Dev nD) (t : Fin cfg0.N) :
    Common.codesV (iblk m c 0 t) (iblk m c 3 t) (iblk m c 4 t) = cblk (codes m c) t :=
  codes_block _ _ _ _ _ _ _ (Nat.min_le_right _ _) (iblk_0 m c t) (iblk_3 m c t) (iblk_4 m c t)

/-! ## The proof data -/

/-- The scratch buffer, whole. -/
abbrev scr : Memref sig .tc .vmem S2x1024x11008 .fp8e5m2 := Memref.whole cc0_scratch0

/-- What the launch hands the region beside the windows: the scratch buffer at anything, the generator register at some state. -/
theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- The invariant before point `n`. -/
def PhiS (c : Dev nD) (n : Nat) : sProp 𝕄 :=
  iprop(iprop(∃ z, ⌜Holds (codes m c) n z⌝ ∗ owns (c : Thread nD τ) scr fullShare z) ∗ (∃ r, prngReg c r))

/-- The product of a point: the rows of the round before with a block of the weights. -/
def pblk (c : Dev nD) (t : Fin cfg0.N) : Vec Ideal S1024x512 .bf16 :=
  Common.nprod (iblk m c 1 t) (iblk m c 2 t) (rowsOf 1024 (codes m c) (1024 * (t.val / 8 - 1))) (iblk m c 5 t)

/-- The proof data: arrays as the region finds them, the inputs' buffers at their blocks, the results' at a block of
    codes and at a block of the product. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => cblk (codes m c) t
    | ⟨7, _⟩ => pblk m c t
  Φ t := PhiS m c t.val
  q _ := fullShare
  owed _ := 0

/-- The body table's row at a point is the body there. -/
theorem defs₀_row (t : Fin cfg0.N) :
    defs₀ (F := Ideal) .tc cfg0.body (cfg0.bodyArgs t (cfg0.slots t)) = bodyAt0 t := by
  unfold defs₀; rw [Defs.onTc_tc]

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = cblk (codes m c) t := by dsimp only [dats]
theorem after_7 (c : Dev nD) (t : Fin cfg0.N) : (dats m 0 c).after 7 t = pblk m c t := by dsimp only [dats]
theorem Phi_castSucc (c : Dev nD) (t : Fin cfg0.N) : (dats m 0 c).Φ t.castSucc = PhiS m c t.val := by dsimp only [dats]; rfl
theorem Phi_succ (c : Dev nD) (t : Fin cfg0.N) : (dats m 0 c).Φ t.succ = PhiS m c (t.val + 1) := by dsimp only [dats]; rfl

/-! ## Which points leave a result alone, and which write it back -/

theorem idle6 : ∀ t : Fin cfg0.N, cfg0.idle 6 (grid0.coords t) = decide (64 ≤ t.val) := by decide +kernel
theorem idle7 : ∀ t : Fin cfg0.N, cfg0.idle 7 (grid0.coords t) = decide (t.val < 8) := by decide +kernel
theorem flush6 : ∀ t : Fin cfg0.N, (cfg0.win 6).flush t = decide (t.val < 63 ∨ t.val = 71) := by decide +kernel
theorem flush7 : ∀ t : Fin cfg0.N, (cfg0.win 7).flush t = decide (8 ≤ t.val) := by decide +kernel
theorem fetch6 : ∀ t : Fin cfg0.N, (cfg0.win 6).fetch t = false := by decide +kernel

theorem leaves6 (c : Dev nD) (t : Fin cfg0.N) (h : t.val < 64) :
    (dats m 0 c).leavesExact 6 t = owns (c : Thread nD τ) (win0_6.stage (cfg0.slots t 6)) fullShare ((dats m 0 c).after 6 t) := by
  unfold Dat.leavesExact; rw [show cfg0.idle 6 (cfg0.grid.coords t) = false from (idle6 t).trans (decide_eq_false (by omega))]
theorem leaves7 (c : Dev nD) (t : Fin cfg0.N) (h : 8 ≤ t.val) :
    (dats m 0 c).leavesExact 7 t = owns (c : Thread nD τ) (win0_7.stage (cfg0.slots t 7)) fullShare ((dats m 0 c).after 7 t) := by
  unfold Dat.leavesExact; rw [show cfg0.idle 7 (cfg0.grid.coords t) = false from (idle7 t).trans (decide_eq_false (by omega))]

theorem cblk_last (C : Vec Ideal S8192x11008 .fp8e5m2) (t t' : Fin cfg0.N) (h : 63 ≤ t.val) (h' : 63 ≤ t'.val) : cblk C t = cblk C t' := by
  unfold cblk; rw [Nat.min_eq_right h, Nat.min_eq_right h']

/-- In the last round the codes' buffer still holds the last block of codes. -/
theorem before_6 (c : Dev nD) (t : Fin cfg0.N) (h : 64 ≤ t.val) (d) : (dats m 0 c).before 6 t d = cblk (codes m c) t := by
  have key : ∀ q, ∀ t : Fin cfg0.N, t.val = 64 + q → (dats m 0 c).before 6 t d = cblk (codes m c) t := by
    intro q
    induction q with
    | zero =>
      intro t ht
      have hN : t.val < 72 := lt_of_lt_of_eq t.isLt (show cfg0.N = 72 from N_0)
      obtain ⟨p, hp⟩ : ∃ p : Fin cfg0.N, p = ⟨t.val - 1, Nat.lt_of_le_of_lt (Nat.sub_le _ _) t.isLt⟩ := ⟨_, rfl⟩
      have hp' : p.val = t.val - 1 := congrArg Fin.val hp
      rw [Dat.before_of_pos (dats m 0 c) 6 t (by omega) (fetch6 t) d, ← hp, flush6, if_neg (by rw [decide_eq_true_eq]; omega)]
      unfold Dat.left
      rw [show cfg0.idle 6 (cfg0.grid.coords p) = false from (idle6 p).trans (decide_eq_false (by omega))]
      exact (after_6 m c p).trans (cblk_last _ _ _ (by omega) (by omega))
    | succ q ih =>
      intro t ht
      have hN : t.val < 72 := lt_of_lt_of_eq t.isLt (show cfg0.N = 72 from N_0)
      obtain ⟨p, hp⟩ : ∃ p : Fin cfg0.N, p = ⟨t.val - 1, Nat.lt_of_le_of_lt (Nat.sub_le _ _) t.isLt⟩ := ⟨_, rfl⟩
      have hp' : p.val = t.val - 1 := congrArg Fin.val hp
      rw [Dat.before_of_pos (dats m 0 c) 6 t (by omega) (fetch6 t) d, ← hp, flush6, if_neg (by rw [decide_eq_true_eq]; omega)]
      unfold Dat.left
      rw [show cfg0.idle 6 (cfg0.grid.coords p) = true from (idle6 p).trans (decide_eq_true (by omega))]
      exact (ih p (by omega)).trans (cblk_last _ _ _ (by omega) (by omega))
  exact key (t.val - 64) t (by omega)

/-- So the last round may hand it back as it found it. -/
theorem leaves6_last (c : Dev nD) (t : Fin cfg0.N) (h : 64 ≤ t.val) :
    owns (c : Thread nD τ) (win0_6.stage (cfg0.slots t 6)) fullShare (cblk (codes m c) t) ⊢ ((dats m 0 c).leavesExact 6 t : sProp 𝕄) := by
  by_cases h' : t.val = 71
  · rw [← after_6 m c t]
    unfold Dat.leavesExact
    rw [show cfg0.idle 6 (cfg0.grid.coords t) = true from (idle6 t).trans (decide_eq_true h),
      show (cfg0.win 6).flush t = true from (flush6 t).trans (decide_eq_true (Or.inr h'))]
  · rw [Dat.leavesExact_idle (dats m 0 c) 6 t ((idle6 t).trans (decide_eq_true h)) ((flush6 t).trans (decide_eq_false (by omega)))]
    iintro H
    iexists (cblk (codes m c) t)
    rw [before_6 m c t h]
    iexact H

theorem condA (t : Fin cfg0.N) (h : t.val < 8) : k0_cond1 (grid0.coords t) = 1#1 ∧ ¬ k0_cond2 (grid0.coords t) = 1#1 ∧ ¬ k0_cond3 (grid0.coords t) = 1#1 := by
  rw [cond1, cond2, cond3]; omega
theorem condB (t : Fin cfg0.N) (h : 8 ≤ t.val) (h' : t.val < 64) : ¬ k0_cond1 (grid0.coords t) = 1#1 ∧ k0_cond2 (grid0.coords t) = 1#1 ∧ ¬ k0_cond3 (grid0.coords t) = 1#1 := by
  rw [cond1, cond2, cond3]; omega
theorem condC (t : Fin cfg0.N) (h : 64 ≤ t.val) : ¬ k0_cond1 (grid0.coords t) = 1#1 ∧ ¬ k0_cond2 (grid0.coords t) = 1#1 ∧ k0_cond3 (grid0.coords t) = 1#1 := by
  rw [cond1, cond2, cond3]; omega

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 4000000 in
theorem sound_A (c : Dev nD) (t : Fin cfg0.N) (h : t.val < 8) :
    bodyPre m c t ⊢ wp frame (wpE (defs₀ (F := Ideal)) Variants.none c none) Set.univ (bodyAt0 t) (fun _ => bodyPost m c t) := by
  have hN : t.val < 72 := lt_of_lt_of_eq t.isLt (show cfg0.N = 72 from N_0)
  have e0 : cblk (codes m c) t = Common.codesV (iblk m c 0 t) (iblk m c 3 t) (iblk m c 4 t) := (cblk_eq m c t).symm
  unfold bodyPre bodyPost bodyAt0
  rw [show (dats m 0 c).owesAt () t.succ = (dats m 0 c).owesAt () t.castSucc from rfl,
    Phi_castSucc, Phi_succ]
  rw [show (dats m 0 c).leavesExact 0 t = owns (c : Thread nD τ) (win0_0.stage (cfg0.slots t 0)) fullShare ((dats m 0 c).after 0 t) from rfl]
  rw [show (dats m 0 c).leavesExact 1 t = owns (c : Thread nD τ) (win0_1.stage (cfg0.slots t 1)) fullShare ((dats m 0 c).after 1 t) from rfl]
  rw [show (dats m 0 c).leavesExact 2 t = owns (c : Thread nD τ) (win0_2.stage (cfg0.slots t 2)) fullShare ((dats m 0 c).after 2 t) from rfl]
  rw [show (dats m 0 c).leavesExact 3 t = owns (c : Thread nD τ) (win0_3.stage (cfg0.slots t 3)) fullShare ((dats m 0 c).after 3 t) from rfl]
  rw [show (dats m 0 c).leavesExact 4 t = owns (c : Thread nD τ) (win0_4.stage (cfg0.slots t 4)) fullShare ((dats m 0 c).after 4 t) from rfl]
  rw [show (dats m 0 c).leavesExact 5 t = owns (c : Thread nD τ) (win0_5.stage (cfg0.slots t 5)) fullShare ((dats m 0 c).after 5 t) from rfl]
  rw [leaves6 m c t (by omega), after_6]
  rw [Dat.leavesExact_idle (dats m 0 c) 7 t ((idle7 t).trans (decide_eq_true h)) ((flush7 t).trans (decide_eq_false (by omega)))]
  rw [after_0, after_1, after_2, after_3, after_4, after_5]
  unfold PhiS
  iintro ⟨⟨⟨%z, %hz, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before0_0_of m (dats m 0 c) (A_eq m c 0) (after_0 m c) t d0, before0_1_of m (dats m 0 c) (A_eq m c 1) (after_1 m c) t d1, before0_2_of m (dats m 0 c) (A_eq m c 2) (after_2 m c) t d2, before0_3_of m (dats m 0 c) (A_eq m c 3) (after_3 m c) t d3, before0_4_of m (dats m 0 c) (A_eq m c 4) (after_4 m c) t d4, before0_5_of m (dats m 0 c) (A_eq m c 5) (after_5 m c) t d5]
  have hc := condA t h
  iapply (run_A c t _ _ _ _ _ _ _ _ _ _ _ _ _ _ _ _ _ _ hc.1 hc.2.1 hc.2.2 (iblk m c 0 t) (iblk m c 1 t) (iblk m c 2 t) (iblk m c 3 t) (iblk m c 4 t) (iblk m c 5 t) _ z Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [HS]; · iexact HS
  iintro ⟨H0, H1, H2, H3, H4, H5, H6, H7, HS⟩
  isplitl [HS Hg]
  · isplitl [HS]
    · iexists (upd (t.val / 8 % 2) (128 * (t.val % 8)) (Common.codesV (iblk m c 0 t) (iblk m c 3 t) (iblk m c 4 t)) z)
      isplitr
      · ipureintro; rw [← e0]; exact holds_upd (codes m c) t.val (by omega) z hz
      · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · rw [e0]; iexact H6
  iexists _; iexact H7

set_option maxHeartbeats 4000000 in
theorem sound_B (c : Dev nD) (t : Fin cfg0.N) (h : 8 ≤ t.val) (h' : t.val < 64) :
    bodyPre m c t ⊢ wp frame (wpE (defs₀ (F := Ideal)) Variants.none c none) Set.univ (bodyAt0 t) (fun _ => bodyPost m c t) := by
  have hN : t.val < 72 := lt_of_lt_of_eq t.isLt (show cfg0.N = 72 from N_0)
  have e0 : cblk (codes m c) t = Common.codesV (iblk m c 0 t) (iblk m c 3 t) (iblk m c 4 t) := (cblk_eq m c t).symm
  unfold bodyPre bodyPost bodyAt0
  rw [show (dats m 0 c).owesAt () t.succ = (dats m 0 c).owesAt () t.castSucc from rfl,
    Phi_castSucc, Phi_succ]
  rw [show (dats m 0 c).leavesExact 0 t = owns (c : Thread nD τ) (win0_0.stage (cfg0.slots t 0)) fullShare ((dats m 0 c).after 0 t) from rfl]
  rw [show (dats m 0 c).leavesExact 1 t = owns (c : Thread nD τ) (win0_1.stage (cfg0.slots t 1)) fullShare ((dats m 0 c).after 1 t) from rfl]
  rw [show (dats m 0 c).leavesExact 2 t = owns (c : Thread nD τ) (win0_2.stage (cfg0.slots t 2)) fullShare ((dats m 0 c).after 2 t) from rfl]
  rw [show (dats m 0 c).leavesExact 3 t = owns (c : Thread nD τ) (win0_3.stage (cfg0.slots t 3)) fullShare ((dats m 0 c).after 3 t) from rfl]
  rw [show (dats m 0 c).leavesExact 4 t = owns (c : Thread nD τ) (win0_4.stage (cfg0.slots t 4)) fullShare ((dats m 0 c).after 4 t) from rfl]
  rw [show (dats m 0 c).leavesExact 5 t = owns (c : Thread nD τ) (win0_5.stage (cfg0.slots t 5)) fullShare ((dats m 0 c).after 5 t) from rfl]
  rw [leaves6 m c t (by omega), after_6]
  rw [leaves7 m c t (by omega), after_7]
  rw [after_0, after_1, after_2, after_3, after_4, after_5]
  unfold PhiS
  iintro ⟨⟨⟨%z, %hz, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before0_0_of m (dats m 0 c) (A_eq m c 0) (after_0 m c) t d0, before0_1_of m (dats m 0 c) (A_eq m c 1) (after_1 m c) t d1, before0_2_of m (dats m 0 c) (A_eq m c 2) (after_2 m c) t d2, before0_3_of m (dats m 0 c) (A_eq m c 3) (after_3 m c) t d3, before0_4_of m (dats m 0 c) (A_eq m c 4) (after_4 m c) t d4, before0_5_of m (dats m 0 c) (A_eq m c 5) (after_5 m c) t d5]
  have hc := condB t h h'
  iapply (run_B c t _ _ _ _ _ _ _ _ _ _ _ _ _ _ _ _ _ _ hc.1 hc.2.1 hc.2.2 (iblk m c 0 t) (iblk m c 1 t) (iblk m c 2 t) (iblk m c 3 t) (iblk m c 4 t) (iblk m c 5 t) z Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS]; · iexact HS
  iintro ⟨H0, H1, H2, H3, H4, H5, H6, H7, HS⟩
  isplitl [HS Hg]
  · isplitl [HS]
    · iexists (upd (t.val / 8 % 2) (128 * (t.val % 8)) (Common.codesV (iblk m c 0 t) (iblk m c 3 t) (iblk m c 4 t)) z)
      isplitr
      · ipureintro; rw [← e0]; exact holds_upd (codes m c) t.val (by omega) z hz
      · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · rw [e0]; iexact H6
  unfold pblk; rw [← slot_eq (codes m c) t.val (by omega) (by omega) z hz]; iexact H7

set_option maxHeartbeats 4000000 in
theorem sound_C (c : Dev nD) (t : Fin cfg0.N) (h : 64 ≤ t.val) :
    bodyPre m c t ⊢ wp frame (wpE (defs₀ (F := Ideal)) Variants.none c none) Set.univ (bodyAt0 t) (fun _ => bodyPost m c t) := by
  have hN : t.val < 72 := lt_of_lt_of_eq t.isLt (show cfg0.N = 72 from N_0)
  have e0 : cblk (codes m c) t = Common.codesV (iblk m c 0 t) (iblk m c 3 t) (iblk m c 4 t) := (cblk_eq m c t).symm
  unfold bodyPre bodyPost bodyAt0
  rw [show (dats m 0 c).owesAt () t.succ = (dats m 0 c).owesAt () t.castSucc from rfl,
    Phi_castSucc, Phi_succ]
  rw [show (dats m 0 c).leavesExact 0 t = owns (c : Thread nD τ) (win0_0.stage (cfg0.slots t 0)) fullShare ((dats m 0 c).after 0 t) from rfl]
  rw [show (dats m 0 c).leavesExact 1 t = owns (c : Thread nD τ) (win0_1.stage (cfg0.slots t 1)) fullShare ((dats m 0 c).after 1 t) from rfl]
  rw [show (dats m 0 c).leavesExact 2 t = owns (c : Thread nD τ) (win0_2.stage (cfg0.slots t 2)) fullShare ((dats m 0 c).after 2 t) from rfl]
  rw [show (dats m 0 c).leavesExact 3 t = owns (c : Thread nD τ) (win0_3.stage (cfg0.slots t 3)) fullShare ((dats m 0 c).after 3 t) from rfl]
  rw [show (dats m 0 c).leavesExact 4 t = owns (c : Thread nD τ) (win0_4.stage (cfg0.slots t 4)) fullShare ((dats m 0 c).after 4 t) from rfl]
  rw [show (dats m 0 c).leavesExact 5 t = owns (c : Thread nD τ) (win0_5.stage (cfg0.slots t 5)) fullShare ((dats m 0 c).after 5 t) from rfl]
  rw [leaves7 m c t (by omega), after_7]
  rw [after_0, after_1, after_2, after_3, after_4, after_5]
  unfold PhiS
  iintro ⟨⟨⟨%z, %hz, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before0_0_of m (dats m 0 c) (A_eq m c 0) (after_0 m c) t d0, before0_1_of m (dats m 0 c) (A_eq m c 1) (after_1 m c) t d1, before0_2_of m (dats m 0 c) (A_eq m c 2) (after_2 m c) t d2, before0_3_of m (dats m 0 c) (A_eq m c 3) (after_3 m c) t d3, before0_4_of m (dats m 0 c) (A_eq m c 4) (after_4 m c) t d4, before0_5_of m (dats m 0 c) (A_eq m c 5) (after_5 m c) t d5]
  have hc := condC t h
  iapply (run_C c t _ _ _ _ _ _ _ _ _ _ _ _ _ _ _ _ _ _ hc.1 hc.2.1 hc.2.2 (iblk m c 0 t) (iblk m c 1 t) (iblk m c 2 t) (iblk m c 3 t) (iblk m c 4 t) (iblk m c 5 t) _ z Set.univ _)
  isplitl [H0]; · iexact H0
  isplitl [H1]; · iexact H1
  isplitl [H2]; · iexact H2
  isplitl [H3]; · iexact H3
  isplitl [H4]; · iexact H4
  isplitl [H5]; · iexact H5
  isplitl [H6]; · rw [before_6 m c t h]; iexact H6
  isplitl [H7]; · iexists _; iexact H7
  isplitl [HS]; · iexact HS
  iintro ⟨H0, H1, H2, H3, H4, H5, H6, H7, HS⟩
  isplitl [HS Hg]
  · isplitl [HS]
    · iexists z
      isplitr
      · ipureintro; exact holds_succ (codes m c) t.val (by omega) z hz
      · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves6_last m c t h); iexact H6
  unfold pblk; rw [← slot_eq (codes m c) t.val (by omega) (by omega) z hz]; iexact H7

theorem sound_body (c : Dev nD) (t : Fin cfg0.N) :
    bodyPre m c t ⊢ wp frame (wpE (defs₀ (F := Ideal)) Variants.none c none) Set.univ (bodyAt0 t) (fun _ => bodyPost m c t) := by
  by_cases h : t.val < 8
  · exact sound_A m c t h
  · by_cases h' : t.val < 64
    · exact sound_B m c t (by omega) h'
    · exact sound_C m c t (by omega)

/-- The body obligation. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ ((dats m 0 c).Φ 0 : sProp 𝕄) := by
  rw [show (dats m 0 c).Φ 0 = PhiS m c 0 from by dsimp only [dats]; rfl, PhiA_eq]
  unfold PhiS
  iintro ⟨⟨%z, HS⟩, Hg⟩
  isplitl [HS]
  · iexists z
    isplitr
    · ipureintro; exact holds_zero _ z
    · iexact HS
  iexact Hg

theorem hout (c : Dev nD) : (dats m 0 c).Φ (Fin.last cfg0.N) ⊢ (Pipeline.ΦA spec0 c : sProp 𝕄) := by
  rw [show (dats m 0 c).Φ (Fin.last cfg0.N) = PhiS m c cfg0.N from by dsimp only [dats]; rfl, PhiA_eq]
  unfold PhiS
  iintro ⟨⟨%z, -, HS⟩, Hg⟩
  isplitl [HS]
  · iexists z; iexact HS
  iexact Hg

set_option backward.isDefEq.respectTransparency.types false in
/-- The run, with every counter at zero at the end. -/
theorem run_main : θ_run defs (onTc (τ := τ) (main (F := Ideal))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-! ## The result arrays -/

theorem emb6_0 (t : Fin cfg0.N) (y : (win0_6.xblock (grid0.coords t)).Idx) :
    ((win0_6.blk t).view.emb y 0 : Nat) = min t.val 63 * 128 + (y 0 : Nat) :=
  (Window.rect_emb_val win0_6 t y 0 rfl).trans (congrArg (fun n => n * 128 + (y 0 : Nat)) (idx6_0 t))
theorem emb6_1 (t : Fin cfg0.N) (y : (win0_6.xblock (grid0.coords t)).Idx) :
    ((win0_6.blk t).view.emb y 1 : Nat) = (y 1 : Nat) :=
  (Window.rect_emb_val win0_6 t y 1 rfl).trans ((congrArg (fun n => n * 11008 + (y 1 : Nat)) (idx6_1 t)).trans (by rw [Nat.zero_mul, Nat.zero_add]))
theorem emb7_0 (t : Fin cfg0.N) (y : (win0_7.xblock (grid0.coords t)).Idx) :
    ((win0_7.blk t).view.emb y 0 : Nat) = (t.val / 8 - 1) * 1024 + (y 0 : Nat) :=
  (Window.rect_emb_val win0_7 t y 0 rfl).trans (congrArg (fun n => n * 1024 + (y 0 : Nat)) (idx7_0 t))
theorem emb7_1 (t : Fin cfg0.N) (y : (win0_7.xblock (grid0.coords t)).Idx) :
    ((win0_7.blk t).view.emb y 1 : Nat) = (if t.val < 8 then 0 else t.val % 8) * 512 + (y 1 : Nat) :=
  (Window.rect_emb_val win0_7 t y 1 rfl).trans (congrArg (fun n => n * 512 + (y 1 : Nat)) (idx7_1 t))

/-- A row of a block of codes. -/
theorem rowsOf_at (M : Nat) (C : Vec Ideal S8192x11008 .fp8e5m2) (b : Nat) (j : (⟨2, ![M, 11008]⟩ : Shape).Idx) (i : S8192x11008.Idx)
    (h0 : (i 0 : Nat) = b + (j 0 : Nat)) (h1 : (i 1 : Nat) = (j 1 : Nat)) : rowsOf M C b j = C i := by
  have hi : (i 0 : Nat) < 8192 := (i 0).isLt
  unfold rowsOf
  refine congrArg C (funext fun a => Fin.ext ?_)
  fin_cases a
  · show (b + (j 0 : Nat)) % 8192 = (i 0 : Nat)
    omega
  · exact h1.symm

/-- An element of a block of the product. -/
theorem nprod_at (s0 s1 u0 u1 : Vec Ideal S1x1 .f32) (C : Vec Ideal S8192x11008 .fp8e5m2) (b : Nat) (w : Vec Ideal S512x11008 .fp8e4m3) (W : Vec Ideal S4096x11008 .fp8e4m3)
    (e : Nat) (h0 : s0 = u0) (h1 : s1 = u1) (hw : ∀ (r : Fin 512) (k : Fin 11008) (R : Fin 4096), (R : Nat) = e * 512 + r → w (ix2 r k) = W (ix2 R k))
    (j : S1024x512.Idx) (i : S8192x4096.Idx) (hi0 : (i 0 : Nat) = b + (j 0 : Nat)) (hi1 : (i 1 : Nat) = e * 512 + (j 1 : Nat)) :
    Common.nprod s0 s1 (rowsOf 1024 C b) w j = Common.nprod u0 u1 C W i := by
  subst h0; subst h1
  unfold Common.nprod
  refine congrArg (fun q : EReal => q * (s0 (ix2 0 0) * s1 (ix2 0 0))) (Finset.sum_congr rfl fun k _ => ?_)
  exact congrArg₂ (fun p q : EReal => p * q) (rowsOf_at 1024 C b (ix2 (j 0) k) (ix2 (i 0) k) hi0 rfl) (hw (j 1) k (i 1) hi1)

/-- The codes after the last write-back. -/
theorem arr_codes (c : Dev nD) : (dats m 0 c).arrAt 6 cfg0.N = codes m c := by
  refine Dat.arrAt_eq_of_covers (dats m 0 c) 6 _ (by decide +kernel) fun t _ y => ?_
  rw [after_6]
  exact rowsOf_at 128 (codes m c) _ _ _ ((emb6_0 t y).trans (by rw [Nat.mul_comm])) (emb6_1 t y)

/-- The product after the last write-back. -/
theorem arr_prod (c : Dev nD) : (dats m 0 c).arrAt 7 cfg0.N
    = Common.nprod (m ((c.tc : Thread nD τ).loc main_arg1)) (m ((c.tc : Thread nD τ).loc main_arg2)) (codes m c) (m ((c.tc : Thread nD τ).loc main_arg5)) := by
  refine Dat.arrAt_eq_of_covers (dats m 0 c) 7 _ (by decide +kernel) fun t _ y => ?_
  rw [after_7]
  exact nprod_at _ _ _ _ (codes m c) _ _ _ _ (iblk_1 m c t) (iblk_2 m c t) (iblk_5 m c t) _ _ ((emb7_0 t y).trans (by rw [Nat.mul_comm])) (emb7_1 t y)

/-- Every run ends with the codes and the scaled product, the arguments kept and every counter at zero. -/
theorem run : θ_run defs (onTc (τ := τ) (main (F := Ideal))) ⟨m, fun _ => 0, ρ⟩ (fun r => (∀ c : Dev nD,
      r.2.mem ((c.tc : Thread nD τ).loc main_v0_0) = codes m c
      ∧ r.2.mem ((c.tc : Thread nD τ).loc main_v0_1) = Common.nprod (m ((c.tc : Thread nD τ).loc main_arg1)) (m ((c.tc : Thread nD τ).loc main_arg2)) (codes m c) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨((h.1 c).1 6).trans (arr_codes m c), ((h.1 c).1 7).trans (arr_prod m c),
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3)),
      ((h.1 c).1 4).trans (((dats m 0 c).arrAt_in 4 rfl _).trans (A_eq m c 4)),
      ((h.1 c).1 5).trans (((dats m 0 c).arrAt_in 5 rfl _).trans (A_eq m c 5))⟩, h.2⟩)
    (run_main m ρ)

end Cert.DXIdeal.Body
end
-- ==== Proof.DXRefValue.lean ====
/-
  The value of the reference `DXRefIdeal` over the extended reals: one grid point that reads the whole arrays and writes
  the codes `Common.codesV` and the scaled product `Common.nprod` of the codes with the weights.
-/
module

public import proofs.«01_k».proof.Proof.Common
public import proofs.«01_k».proof.Proof.Gen.DXRefIdeal.Value

@[expose] public section

set_option maxRecDepth 16384

noncomputable section

namespace Cert.DXRefIdeal.Body

open Cert.DXRefIdeal Cert.DXRefIdeal.Gen
open Idealize.ShloMosaic Idealize.ShloMosaic.TcCoe
open Idealize.SL Idealize.SL.Sem
open Idealize.ShloMosaic.Pipeline (Dat Window)

variable (m : (ℓ : Loc nD τ sig) → Buf (Elt Ideal) ℓ) (ρ : Dev nD → PrngReg)

theorem idx0_0 : ∀ t : Fin cfg0.N, win0_0.index t 0 = 0 := by decide +kernel
theorem idx0_1 : ∀ t : Fin cfg0.N, win0_0.index t 1 = 0 := by decide +kernel
theorem idx1_0 : ∀ t : Fin cfg0.N, win0_1.index t 0 = 0 := by decide +kernel
theorem idx1_1 : ∀ t : Fin cfg0.N, win0_1.index t 1 = 0 := by decide +kernel
theorem idx2_0 : ∀ t : Fin cfg0.N, win0_2.index t 0 = 0 := by decide +kernel
theorem idx2_1 : ∀ t : Fin cfg0.N, win0_2.index t 1 = 0 := by decide +kernel
theorem idx3_0 : ∀ t : Fin cfg0.N, win0_3.index t 0 = 0 := by decide +kernel
theorem idx3_1 : ∀ t : Fin cfg0.N, win0_3.index t 1 = 0 := by decide +kernel
theorem idx4_0 : ∀ t : Fin cfg0.N, win0_4.index t 0 = 0 := by decide +kernel
theorem idx4_1 : ∀ t : Fin cfg0.N, win0_4.index t 1 = 0 := by decide +kernel
theorem idx5_0 : ∀ t : Fin cfg0.N, win0_5.index t 0 = 0 := by decide +kernel
theorem idx5_1 : ∀ t : Fin cfg0.N, win0_5.index t 1 = 0 := by decide +kernel
theorem idx6_0 : ∀ t : Fin cfg0.N, win0_6.index t 0 = 0 := by decide +kernel
theorem idx6_1 : ∀ t : Fin cfg0.N, win0_6.index t 1 = 0 := by decide +kernel
theorem idx7_0 : ∀ t : Fin cfg0.N, win0_7.index t 0 = 0 := by decide +kernel
theorem idx7_1 : ∀ t : Fin cfg0.N, win0_7.index t 1 = 0 := by decide +kernel

theorem iblk_0 (c : Dev nD) (t : Fin cfg0.N) : iblk m c 0 t = m ((c.tc : Thread nD τ).loc main_arg0) := by
  funext j
  blk_point [iblk, V, idx0_0, idx0_1]
theorem iblk_1 (c : Dev nD) (t : Fin cfg0.N) : iblk m c 1 t = m ((c.tc : Thread nD τ).loc main_arg1) := by
  funext j
  blk_point [iblk, V, idx1_0, idx1_1]
theorem iblk_2 (c : Dev nD) (t : Fin cfg0.N) : iblk m c 2 t = m ((c.tc : Thread nD τ).loc main_arg2) := by
  funext j
  blk_point [iblk, V, idx2_0, idx2_1]
theorem iblk_3 (c : Dev nD) (t : Fin cfg0.N) : iblk m c 3 t = m ((c.tc : Thread nD τ).loc main_arg3) := by
  funext j
  blk_point [iblk, V, idx3_0, idx3_1]
theorem iblk_4 (c : Dev nD) (t : Fin cfg0.N) : iblk m c 4 t = m ((c.tc : Thread nD τ).loc main_arg4) := by
  funext j
  blk_point [iblk, V, idx4_0, idx4_1]
theorem iblk_5 (c : Dev nD) (t : Fin cfg0.N) : iblk m c 5 t = m ((c.tc : Thread nD τ).loc main_arg5) := by
  funext j
  blk_point [iblk, V, idx5_0, idx5_1]

theorem emb6_0 (t : Fin cfg0.N) (y : (win0_6.xblock (grid0.coords t)).Idx) :
    ((win0_6.blk t).view.emb y 0 : Nat) = (y 0 : Nat) :=
  Window.rect_emb_val_of_index_zero win0_6 t 0 (idx6_0 t) y
theorem emb6_1 (t : Fin cfg0.N) (y : (win0_6.xblock (grid0.coords t)).Idx) :
    ((win0_6.blk t).view.emb y 1 : Nat) = (y 1 : Nat) :=
  Window.rect_emb_val_of_index_zero win0_6 t 1 (idx6_1 t) y
theorem emb7_0 (t : Fin cfg0.N) (y : (win0_7.xblock (grid0.coords t)).Idx) :
    ((win0_7.blk t).view.emb y 0 : Nat) = (y 0 : Nat) :=
  Window.rect_emb_val_of_index_zero win0_7 t 0 (idx7_0 t) y
theorem emb7_1 (t : Fin cfg0.N) (y : (win0_7.xblock (grid0.coords t)).Idx) :
    ((win0_7.blk t).view.emb y 1 : Nat) = (y 1 : Nat) :=
  Window.rect_emb_val_of_index_zero win0_7 t 1 (idx7_1 t) y

/-- The codes of the whole arrays. -/
def codes (c : Dev nD) : Vec Ideal S8192x11008 .fp8e5m2 :=
  Common.codesV (m ((c.tc : Thread nD τ).loc main_arg0)) (m ((c.tc : Thread nD τ).loc main_arg3)) (m ((c.tc : Thread nD τ).loc main_arg4))

/-- A column of the codes the reference stores. -/
theorem pay1_left (g u : Vec Ideal S8192x5504 .bf16) (a : Vec Ideal S8192x5504 .f32) (n : Elt Ideal .f32) (r : Fin 8192) (k : Fin 5504) :
    k0_pay1 g u a a n (ix2 r ⟨k, by omega⟩) = Common.gateC n (a (ix2 r k)) (g (ix2 r k)) (u (ix2 r k)) := by
  unfold Common.gateC Common.clipG Common.cst
  pointwise [k0_pay1]

theorem pay1_right (g u : Vec Ideal S8192x5504 .bf16) (a : Vec Ideal S8192x5504 .f32) (n : Elt Ideal .f32) (r : Fin 8192) (k : Fin 5504) :
    k0_pay1 g u a a n (ix2 r ⟨5504 + k, by omega⟩) = Common.upC n (a (ix2 r k)) (g (ix2 r k)) := by
  unfold Common.upC Common.clipG Common.cst
  pointwise [k0_pay1]

/-- A code index is in the left half or in the right one. -/
theorem ext_halves (p q : Vec Ideal S8192x11008 .fp8e5m2) (h0 : ∀ (r : Fin 8192) (k : Fin 5504), p (ix2 r ⟨k, by omega⟩) = q (ix2 r ⟨k, by omega⟩))
    (h1 : ∀ (r : Fin 8192) (k : Fin 5504), p (ix2 r ⟨5504 + k, by omega⟩) = q (ix2 r ⟨5504 + k, by omega⟩)) : p = q := by
  funext y
  have hy : (y 1 : Nat) < 11008 := (y 1).isLt
  have split : ∀ k : Fin 11008, y 1 = k → y = ix2 (y 0) k := by
    intro k hk
    funext a
    fin_cases a
    · rfl
    · exact hk
  by_cases h : (y 1 : Nat) < 5504
  · rw [split ⟨(⟨y 1, h⟩ : Fin 5504), hy⟩ rfl]
    exact h0 (y 0) ⟨y 1, h⟩
  · have hk : (y 1 : Nat) - 5504 < 5504 := by omega
    rw [split ⟨5504 + ((⟨(y 1 : Nat) - 5504, hk⟩ : Fin 5504) : Nat), by show 5504 + ((y 1 : Nat) - 5504) < 11008; omega⟩
      (Fin.ext (by show (y 1 : Nat) = 5504 + ((y 1 : Nat) - 5504); omega))]
    exact h1 (y 0) ⟨(y 1 : Nat) - 5504, hk⟩

/-- The codes the reference stores, at the arrays. -/
theorem pay1_eq (x0 : Vec Ideal S1x1 .f32) (x3 : Vec Ideal S8192x5504 .f32) (x4 : Vec Ideal S8192x11008 .bf16)
    (g u : Vec Ideal S8192x5504 .bf16) (a a' : Vec Ideal S8192x5504 .f32) (n : Elt Ideal .f32) (hn : n = x0 (ix2 0 0))
    (hg : ∀ (r : Fin 8192) (k : Fin 5504), g (ix2 r k) = x4 (ix2 r ⟨k, by omega⟩))
    (hu : ∀ (r : Fin 8192) (k : Fin 5504), u (ix2 r k) = x4 (ix2 r ⟨5504 + k, by omega⟩)) (ha : a = x3) (ha' : a' = x3) :
    k0_pay1 g u a a' n = Common.codesV x0 x3 x4 := by
  subst hn; subst ha; subst ha'
  refine ext_halves _ _ (fun r k => ?_) (fun r k => ?_)
  · rw [pay1_left, Common.codesV_left, hg, hu]
  · rw [pay1_right, Common.codesV_right, hg]

/-- The product the reference stores. -/
theorem pay2_eq (x1 x2 : Vec Ideal S1x1 .f32) (x5 : Vec Ideal S4096x11008 .fp8e4m3) (C : Vec Ideal S8192x11008 .fp8e5m2)
    (g u : Vec Ideal S8192x5504 .bf16) (a a' : Vec Ideal S8192x5504 .f32) (n : Elt Ideal .f32) (w : Vec Ideal S4096x11008 .fp8e4m3) (y1 y2 : Elt Ideal .f32)
    (hC : k0_pay1 g u a a' n = C) (hw : w = x5) (h1 : y1 = x1 (ix2 0 0)) (h2 : y2 = x2 (ix2 0 0)) :
    k0_pay2 g u a a' n w y1 y2 = Common.nprod x1 x2 C x5 := by
  subst hw; subst h1; subst h2
  funext j
  unfold Common.nprod k0_pay2
  simp only [hC]
  pointwise []

/-- Parts of the gates and ups as loaded. -/
theorem left_at {M : Memref sig .tc .vmem S8192x11008 .bf16} (h : M.IsWhole) (X : Vec Ideal S8192x11008 .bf16)
    (inb : ∀ a, (![0, 0] : Fin 2 → Nat) a + S8192x5504.size a ≤ S8192x11008.size a) (r : Fin 8192) (k : Fin 5504) :
    View.readAt (Elt Ideal) M.view (Rect.unit (s := S8192x11008) ![0, 0] S8192x5504.size inb).toLoadRect (h.unread X) (ix2 r k) = X (ix2 r ⟨k, by omega⟩) :=
  Common.readAt_at h X inb rfl _ _ fun a => by
    fin_cases a
    · exact (Nat.zero_add _).symm
    · exact (Nat.zero_add _).symm

theorem right_at {M : Memref sig .tc .vmem S8192x11008 .bf16} (h : M.IsWhole) (X : Vec Ideal S8192x11008 .bf16)
    (inb : ∀ a, (![0, 5504] : Fin 2 → Nat) a + S8192x5504.size a ≤ S8192x11008.size a) (r : Fin 8192) (k : Fin 5504) :
    View.readAt (Elt Ideal) M.view (Rect.unit (s := S8192x11008) ![0, 5504] S8192x5504.size inb).toLoadRect (h.unread X) (ix2 r k) = X (ix2 r ⟨5504 + k, by omega⟩) :=
  Common.readAt_at h X inb rfl _ _ fun a => by
    fin_cases a
    · exact (Nat.zero_add _).symm
    · rfl

/-- What the one point leaves in the codes' buffer. -/
theorem outs1 (c : Dev nD) (t : Fin cfg0.N) : (outsAt0 m c t).1 = codes m c := by
  unfold outsAt0
  dsimp only
  frame_out
  rw [iblk_0, iblk_3, iblk_4]
  exact pay1_eq _ _ _ _ _ _ _ _ ((congrFun ((hs0_0 t).read_unread _) _).trans (congrArg _ (Common.idx11 _))) (left_at (hs0_4 t) _ _) (right_at (hs0_4 t) _ _) ((hs0_3 t).read_unread _) ((hs0_3 t).read_unread _)

/-- What it leaves in the product's buffer. -/
theorem outs2 (c : Dev nD) (t : Fin cfg0.N) : (outsAt0 m c t).2
    = Common.nprod (m ((c.tc : Thread nD τ).loc main_arg1)) (m ((c.tc : Thread nD τ).loc main_arg2)) (codes m c) (m ((c.tc : Thread nD τ).loc main_arg5)) := by
  unfold outsAt0
  dsimp only
  frame_out
  rw [iblk_0, iblk_1, iblk_2, iblk_3, iblk_4, iblk_5]
  exact pay2_eq _ _ _ _ _ _ _ _ _ _ _ _ (pay1_eq _ _ _ _ _ _ _ _ ((congrFun ((hs0_0 t).read_unread _) _).trans (congrArg _ (Common.idx11 _))) (left_at (hs0_4 t) _ _) (right_at (hs0_4 t) _ _) ((hs0_3 t).read_unread _) ((hs0_3 t).read_unread _))
    ((hs0_5 t).read_unread _) ((congrFun ((hs0_1 t).read_unread _) _).trans (congrArg _ (Common.idx11 _)))
    ((congrFun ((hs0_2 t).read_unread _) _).trans (congrArg _ (Common.idx11 _)))

/-- The codes after the run. -/
theorem arr_codes (c : Dev nD) : (dats m 0 c).arrAt 6 cfg0.N = codes m c := by
  refine Dat.arrAt_eq_of_covers (dats m 0 c) 6 _ (by decide +kernel) fun t _ y => ?_
  rw [after0_6, outs1]
  have e : win0_6.xinj (grid0.coords t) y = (win0_6.blk t).view.emb y := by
    refine funext fun a => Fin.ext ?_
    fin_cases a
    · exact (emb6_0 t y).symm
    · exact (emb6_1 t y).symm
  exact congrArg (codes m c) e

/-- The product after the run. -/
theorem arr_prod (c : Dev nD) : (dats m 0 c).arrAt 7 cfg0.N
    = Common.nprod (m ((c.tc : Thread nD τ).loc main_arg1)) (m ((c.tc : Thread nD τ).loc main_arg2)) (codes m c) (m ((c.tc : Thread nD τ).loc main_arg5)) := by
  refine Dat.arrAt_eq_of_covers (dats m 0 c) 7 _ (by decide +kernel) fun t _ y => ?_
  rw [after0_7, outs2]
  have e : win0_7.xinj (grid0.coords t) y = (win0_7.blk t).view.emb y := by
    refine funext fun a => Fin.ext ?_
    fin_cases a
    · exact (emb7_0 t y).symm
    · exact (emb7_1 t y).symm
  exact congrArg (Common.nprod (m ((c.tc : Thread nD τ).loc main_arg1)) (m ((c.tc : Thread nD τ).loc main_arg2)) (codes m c) (m ((c.tc : Thread nD τ).loc main_arg5))) e

/-- Every run ends with the codes and the scaled product, the arguments kept. -/
theorem run : θ_run defs (onTc (τ := τ) (main (F := Ideal))) ⟨m, fun _ => 0, ρ⟩ (fun r => ∀ c : Dev nD,
      r.2.mem ((c.tc : Thread nD τ).loc main_v0_0) = codes m c
      ∧ r.2.mem ((c.tc : Thread nD τ).loc main_v0_1) = Common.nprod (m ((c.tc : Thread nD τ).loc main_arg1)) (m ((c.tc : Thread nD τ).loc main_arg2)) (codes m c) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (arr_codes m c), (h c).2.1.trans (arr_prod m c), (h c).2.2⟩) (Value.run_blocks m ρ)

end Cert.DXRefIdeal.Body
end
-- ==== Proof.DXClaims.lean ====
/-
  The claims on the gradient of the input: the frames at every float instance and over the extended reals, and the
  kernel's two results, the codes and the scaled product, equal to the reference's.
-/
module

public import proofs.«01_k».proof.Defs
public import proofs.«01_k».proof.Proof.DXBody
public import proofs.«01_k».proof.Proof.DXRun
public import proofs.«01_k».proof.Proof.DXRefValue

@[expose] public section

noncomputable section

namespace Cert.DXClaims

open Idealize.ShloMosaic Idealize.ShloMosaic.TcCoe Idealize.SL.Sem

theorem frame : quiescent_DX (hDX := Cert.DX.Gen.facts) := fun m ρ _ => Cert.DX.Body.frame m ρ

theorem frameIdeal : quiescent_DXIdeal (hDXIdeal := Cert.DXIdeal.Gen.facts) := fun m ρ _ =>
  (θ_run _ _ _).mono (fun r h => ⟨fun c => (h.1 c).2.2, h.2⟩) (Cert.DXIdeal.Body.run m ρ)

theorem algebraic : algebraic_DXIdeal_DXRefIdeal (hDXIdeal := Cert.DXIdeal.Gen.facts) (hDXRefIdeal := Cert.DXRefIdeal.Gen.facts) :=
  fun m g m' g' _ hag => by
    refine ⟨_, _, (θ_run _ _ _).mono (fun r h c => h.1 c) (Cert.DXIdeal.Body.run m g),
      (θ_run _ _ _).mono (fun r h c => ⟨(h c).1.trans ?_, (h c).2.1.trans ?_, (h c).2.2⟩) (Cert.DXRefIdeal.Body.run m' g')⟩
    · obtain ⟨h0, h1, h2, h3, h4, h5⟩ := hag c
      unfold Cert.DXRefIdeal.Body.codes Cert.DXIdeal.Body.codes
      rw [h0, h3, h4]
    · obtain ⟨h0, h1, h2, h3, h4, h5⟩ := hag c
      unfold Cert.DXRefIdeal.Body.codes Cert.DXIdeal.Body.codes
      rw [h0, h1, h2, h3, h4, h5]

end Cert.DXClaims
end
-- ==== Proof.PowScale.lean ====
/-
  The power of two that scales a quantised array, over the extended reals: the smallest power of two above a quotient `q`,
  found in two ways. One counts how many of zero and the powers of two from 2^-126 to 2^112 are at most `q` and builds
  the float from the count; the other takes the least power of two above `q`.
-/
module

public import Idealize.ShloMosaic.Lib.Tactic
public import Idealize.ShloMosaic.Lib.Pipeline.ValueKit
public import Idealize.ShloMosaic.Lib.IndicatorCount

@[expose] public section

noncomputable section

namespace Cert.PowScale

open Idealize.ShloMosaic

/-- A power of two. -/
def pow2 (n : ℤ) : EReal := (((2 : ℝ) ^ n : ℝ) : EReal)

/-- The float with exponent field `i` and no significand bits: zero, then the powers of two from 2^-126 on. -/
def tab (i : ℕ) : EReal := if i = 0 then 0 else pow2 ((i : ℤ) - 127)

theorem ofBits_tab (i : ℕ) (h : i < 255) : Ideal.ofBits .f32 (BitVec.ofNat 32 (i * 2 ^ 23)) = tab i := by
  have hn : (BitVec.ofNat 32 (i * 2 ^ 23)).toNat = i * 2 ^ 23 := by
    rw [BitVec.toNat_ofNat]; exact Nat.mod_eq_of_lt (by omega)
  have he : ((BitVec.ofNat 32 (i * 2 ^ 23)).extractLsb' 23 8).toNat = i := by
    rw [BitVec.extractLsb'_toNat, hn, Nat.shiftRight_eq_div_pow]; omega
  have hf : ((BitVec.ofNat 32 (i * 2 ^ 23)).extractLsb' 0 23).toNat = 0 := by
    rw [BitVec.extractLsb'_toNat, hn, Nat.shiftRight_eq_div_pow]; omega
  have hs : ((BitVec.ofNat 32 (i * 2 ^ 23)).extractLsb' (8 + 23) 1 == 1#1) = false := by
    rw [beq_eq_false_iff_ne]
    intro hc
    have := congrArg BitVec.toNat hc
    rw [BitVec.extractLsb'_toNat, hn, Nat.shiftRight_eq_div_pow] at this
    have h1 : (1#1 : BitVec 1).toNat = 1 := rfl
    rw [h1] at this
    omega
  show Ideal.ieee 8 23 (BitVec.ofNat 32 (i * 2 ^ 23)) = tab i
  unfold Ideal.ieee
  dsimp only
  rw [he, hf, hs, if_neg (show ¬ i = 2 ^ 8 - 1 by omega)]
  unfold tab
  by_cases h0 : i = 0
  · rw [if_pos h0, if_pos h0]
    simp
  · rw [if_neg h0, if_neg h0]
    unfold pow2
    refine congrArg _ ?_
    have e : ((i : ℤ) - 127) = 23 + ((i : ℤ) - (2 ^ (8 - 1) - 1) - (23 : ℕ)) := by norm_num
    rw [e, zpow_add₀ (by norm_num : (2 : ℝ) ≠ 0)]
    norm_num

theorem pow2_pos (n : ℤ) : 0 < pow2 n := by
  unfold pow2; exact EReal.coe_pos.2 (by positivity)

theorem pow2_lt {a b : ℤ} (h : a < b) : pow2 a < pow2 b :=
  EReal.coe_lt_coe_iff.2 (zpow_lt_zpow_right₀ (by norm_num) h)

theorem tab_lt {i j : ℕ} (h : i < j) : tab i < tab j := by
  unfold tab
  by_cases h0 : i = 0
  · rw [if_pos h0, if_neg (by omega)]; exact pow2_pos _
  · rw [if_neg h0, if_neg (by omega)]; exact pow2_lt (by omega)

theorem tab_le {i j : ℕ} (h : i ≤ j) : tab i ≤ tab j := by
  rcases Nat.lt_or_eq_of_le h with h | h
  · exact (tab_lt h).le
  · rw [h]

/-- The last of the first 240 entries that is at most `q`. -/
def fld (q : EReal) : ℕ := Nat.findGreatest (fun i => tab i ≤ q) 239

theorem fld_le (q : EReal) : fld q ≤ 239 := Nat.findGreatest_le 239

theorem tab_fld {q : EReal} (hq : 0 ≤ q) : tab (fld q) ≤ q :=
  Nat.findGreatest_spec (P := fun i => tab i ≤ q) (Nat.zero_le 239) (show tab 0 ≤ q by unfold tab; rwa [if_pos rfl])

theorem le_fld {q : EReal} (hq : 0 ≤ q) {i : ℕ} (hi : i ≤ 239) : tab i ≤ q ↔ i ≤ fld q :=
  ⟨fun h => Nat.le_findGreatest hi h, fun h => (tab_le h).trans (tab_fld hq)⟩

/-- The scale of a quotient `q`. -/
def scaleOf (q : EReal) : EReal := if fld q = 0 then 1 else tab (fld q + 1)

/-- Its inverse. -/
def invOf (q : EReal) : EReal := if fld q = 0 then 1 else tab (253 - fld q)

theorem tab_127 : tab 127 = 1 := by
  unfold tab pow2
  rw [if_neg (by decide)]
  norm_num

/-- How many of the table's entries are at most `q`, as a word. -/
def count (q : EReal) : BitVec 32 :=
  Finset.fold IntOp.addi (0#32) (fun x : Fin 1 × Fin 240 =>
    BitVec.setWidth 32 (BitVec.ofBool (decide (Ideal.ofBits FTy.f32 (IntOp.shli ArithUnit.vector (BitVec.ofNat 32 ↑x.2) 23#32) ≤ q)))) Finset.univ

theorem entry_bits : ∀ i : Fin 240, IntOp.shli ArithUnit.vector (BitVec.ofNat 32 ↑i) 23#32 = BitVec.ofNat 32 ((i : ℕ) * 2 ^ 23) := by
  decide +kernel

theorem card_below : ∀ k : Fin 241, (Finset.univ.filter fun i : Fin 240 => (i : ℕ) < (k : ℕ)).card = (k : ℕ) := by
  decide +kernel

theorem count_eq {q : EReal} (hq : 0 ≤ q) : count q = BitVec.ofNat 32 (fld q + 1) := by
  unfold count
  rw [IndicatorCount.fold_addi_setWidth_eq_card]
  refine congrArg _ ?_
  have e : (Finset.univ.filter fun x : Fin 1 × Fin 240 =>
      BitVec.ofBool (decide (Ideal.ofBits FTy.f32 (IntOp.shli ArithUnit.vector (BitVec.ofNat 32 ↑x.2) 23#32) ≤ q)) = 1#1)
      = (Finset.univ : Finset (Fin 1)) ×ˢ (Finset.univ.filter fun i : Fin 240 => (i : ℕ) < fld q + 1) := by
    ext x
    have hx : (x.2 : ℕ) ≤ 239 := Nat.le_of_lt_succ x.2.isLt
    simp only [Finset.mem_filter, Finset.mem_univ, true_and, Finset.mem_product, entry_bits]
    rw [ofBits_tab _ (by omega), Nat.lt_succ_iff, ← le_fld hq hx]
    by_cases h : tab ↑x.2 ≤ q
    · simp [h]
    · simp [h]
  rw [e, Finset.card_product, Finset.card_univ, Fintype.card_fin, one_mul]
  have := fld_le q
  exact card_below ⟨fld q + 1, by omega⟩

/-- The bits the scale is built from. -/
theorem scale_bits : ∀ f : Fin 240, Scalar.shli (Scalar.addi (Scalar.select (Scalar.cmpi CmpIPredicate.eq (Scalar.subi (BitVec.ofNat 32 ((f : ℕ) + 1)) 1#32) 0#32)
      (0#32) (Scalar.subi (Scalar.subi (BitVec.ofNat 32 ((f : ℕ) + 1)) 1#32) 126#32)) 127#32) 23#32
    = BitVec.ofNat 32 ((if (f : ℕ) = 0 then 127 else (f : ℕ) + 1) * 2 ^ 23) := by
  decide +kernel

theorem inv_bits : ∀ f : Fin 240, Scalar.shli (Scalar.subi 127#32 (Scalar.select (Scalar.cmpi CmpIPredicate.eq (Scalar.subi (BitVec.ofNat 32 ((f : ℕ) + 1)) 1#32) 0#32)
      (0#32) (Scalar.subi (Scalar.subi (BitVec.ofNat 32 ((f : ℕ) + 1)) 1#32) 126#32))) 23#32
    = BitVec.ofNat 32 ((if (f : ℕ) = 0 then 127 else 253 - (f : ℕ)) * 2 ^ 23) := by
  decide +kernel

/-- The scale built from the count. -/
theorem scale_count {q : EReal} (hq : 0 ≤ q) : Ideal.ofBits FTy.f32 (Scalar.shli (Scalar.addi (Scalar.select (Scalar.cmpi CmpIPredicate.eq (Scalar.subi (count q) 1#32) 0#32)
      (0#32) (Scalar.subi (Scalar.subi (count q) 1#32) 126#32)) 127#32) 23#32) = scaleOf q := by
  have := fld_le q
  rw [count_eq hq]
  refine (congrArg (Ideal.ofBits FTy.f32) (scale_bits ⟨fld q, by omega⟩)).trans ?_
  unfold scaleOf
  by_cases h : fld q = 0
  · rw [if_pos h, if_pos h, ofBits_tab _ (by omega), tab_127]
  · rw [if_neg h, if_neg h, ofBits_tab _ (by show fld q + 1 < 255; omega)]

theorem inv_count {q : EReal} (hq : 0 ≤ q) : Ideal.ofBits FTy.f32 (Scalar.shli (Scalar.subi 127#32 (Scalar.select (Scalar.cmpi CmpIPredicate.eq (Scalar.subi (count q) 1#32) 0#32)
      (0#32) (Scalar.subi (Scalar.subi (count q) 1#32) 126#32))) 23#32) = invOf q := by
  have := fld_le q
  rw [count_eq hq]
  refine (congrArg (Ideal.ofBits FTy.f32) (inv_bits ⟨fld q, by omega⟩)).trans ?_
  unfold invOf
  by_cases h : fld q = 0
  · rw [if_pos h, if_pos h, ofBits_tab _ (by omega), tab_127]
  · rw [if_neg h, if_neg h, ofBits_tab _ (by show 253 - fld q < 255; omega)]

theorem ofBits_125 : Ideal.ofBits FTy.f32 1123680256#32 = ((125 : ℝ) : EReal) := by
  simp [Ideal.ofBits, Ideal.ieee, -EReal.coe_mul]; norm_num

theorem ofBits_top : Ideal.ofBits FTy.f32 2139095040#32 = ⊤ := by
  simp [Ideal.ofBits, Ideal.ieee]

/-- A power of two of the reference's table. -/
theorem exp2_entry (i : Fin 239) : (FloatOps.exp2 (F := Ideal) (φ := .f32) (FloatOps.sitofp (F := Ideal) FTy.f32 (BitVec.ofNat 32 ↑i) - Ideal.ofBits FTy.f32 1123680256#32 : EReal) : EReal)
    = tab (i + 2) := by
  rw [ofBits_125]
  have hi : (BitVec.ofNat 32 (i : ℕ)).toInt = (i : ℕ) := by
    have := i.isLt
    rw [BitVec.toInt_eq_toNat_of_lt (by rw [BitVec.toNat_ofNat]; omega), BitVec.toNat_ofNat]
    omega
  have e : (FloatOps.sitofp (F := Ideal) FTy.f32 (BitVec.ofNat 32 ↑i) : EReal) = (((i : ℕ) : ℝ) : EReal) := by
    show (((BitVec.ofNat 32 (i : ℕ)).toInt : ℝ) : EReal) = _
    rw [hi]; norm_cast
  rw [e, ← EReal.coe_sub]
  show Ideal.exp2 _ = _
  rw [Ideal.exp2_coe]
  unfold tab pow2
  rw [if_neg (by omega)]
  refine congrArg _ ?_
  show (2 : ℝ) ^ (((i : ℕ) : ℝ) - 125) = _
  rw [← Real.rpow_intCast]
  refine congrArg _ ?_
  push_cast
  ring

/-- The least power of two above `q`. -/
theorem scale_min {q : EReal} (hq : 0 ≤ q) :
    (if q < Ideal.ofBits FTy.f32 8388608#32 then (1 : EReal) else
      Finset.fold min (Ideal.ofBits FTy.f32 2139095040#32)
        (fun x : Fin 1 × Fin 239 =>
          if q < FloatOps.exp2 (F := Ideal) (φ := .f32) (FloatOps.sitofp (F := Ideal) FTy.f32 (BitVec.ofNat 32 ↑x.2) - Ideal.ofBits FTy.f32 1123680256#32 : EReal) then
            FloatOps.exp2 (F := Ideal) (φ := .f32) (FloatOps.sitofp (F := Ideal) FTy.f32 (BitVec.ofNat 32 ↑x.2) - Ideal.ofBits FTy.f32 1123680256#32 : EReal)
          else Ideal.ofBits FTy.f32 2013265920#32)
        Finset.univ) = scaleOf q := by
  have hl := fld_le q
  have e1 : Ideal.ofBits FTy.f32 8388608#32 = tab 1 := ofBits_tab 1 (by omega)
  have e240 : Ideal.ofBits FTy.f32 2013265920#32 = tab 240 := ofBits_tab 240 (by omega)
  rw [e1, e240, ofBits_top]
  simp only [exp2_entry]
  unfold scaleOf
  by_cases h : q < tab 1
  · have h0 : fld q = 0 := by
      by_contra hne
      exact absurd ((le_fld hq (by omega)).2 (Nat.one_le_iff_ne_zero.2 hne)) (not_le.2 h)
    rw [if_pos h, if_pos h0]
  · have h1 : 1 ≤ fld q := (le_fld hq (by omega)).1 (not_lt.1 h)
    rw [if_neg h, if_neg (by omega)]
    refine le_antisymm ?_ ?_
    · refine (Finset.fold_min_le _).2 (.inr ⟨(0, ⟨fld q - 1, by omega⟩), Finset.mem_univ _, ?_⟩)
      show (if q < tab (fld q - 1 + 2) then tab (fld q - 1 + 2) else tab 240) ≤ tab (fld q + 1)
      rw [show fld q - 1 + 2 = fld q + 1 by omega]
      by_cases hlt : q < tab (fld q + 1)
      · rw [if_pos hlt]
      · rw [if_neg hlt]
        by_cases h239 : fld q = 239
        · rw [h239]
        · exact absurd ((le_fld hq (by omega)).1 (not_lt.1 hlt)) (by omega)
    · refine (Finset.le_fold_min _).2 ⟨le_top, fun x _ => ?_⟩
      have hx := x.2.isLt
      by_cases hlt : q < tab (x.2 + 2)
      · rw [if_pos hlt]
        refine tab_le ?_
        by_cases hb : (x.2 : ℕ) + 2 ≤ 239
        · have : ¬ (x.2 : ℕ) + 2 ≤ fld q := fun hc => absurd ((le_fld hq hb).2 hc) (not_le.2 hlt)
          omega
        · omega
      · rw [if_neg hlt]
        exact tab_le (by omega)

/-- One over the scale is the inverse scale. -/
theorem one_div_scale (q : EReal) : Ideal.div 1 (scaleOf q) = invOf q := by
  have hl := fld_le q
  have hd : ∀ n : ℤ, Ideal.div 1 (pow2 n) = pow2 (-n) := fun n => by
    unfold Ideal.div
    rw [if_neg (pow2_pos n).ne', one_mul]
    unfold pow2
    rw [← EReal.coe_inv, zpow_neg]
  unfold scaleOf invOf
  by_cases h : fld q = 0
  · rw [if_pos h, if_pos h, ← tab_127]
    have := hd 0
    unfold pow2 at this
    rw [tab_127]
    simpa using this
  · rw [if_neg h, if_neg h]
    unfold tab
    rw [if_neg (by omega), if_neg (by omega), hd]
    refine congrArg pow2 ?_
    omega

/-- The quotient of a nonnegative maximum is nonnegative. -/
theorem quot_nonneg {a : EReal} (ha : 0 ≤ a) : 0 ≤ a * Ideal.ofBits FTy.f32 932333861#32 := by
  refine mul_nonneg ha ?_
  simp [Ideal.ofBits, Ideal.ieee, -EReal.coe_mul]

/-- The absolute value. -/
abbrev absE (x : EReal) : EReal := max x (-x)

theorem absE_nonneg (x : EReal) : 0 ≤ absE x := by
  rcases le_total 0 x with h | h
  · exact le_max_of_le_left h
  · exact le_max_of_le_right (by rw [← neg_zero]; exact EReal.neg_le_neg_iff.2 h)

theorem ofBits_bot : Ideal.ofBits FTy.f32 4286578688#32 = ⊥ := by
  simp [Ideal.ofBits, Ideal.ieee]

theorem ofBits_bot16 : Ideal.ofBits FTy.bf16 65408#16 = ⊥ := by
  simp [Ideal.ofBits, Ideal.ieee]

/-- The largest absolute value of an array. -/
def amax {M N : Nat} (v : Fin M → Fin N → EReal) : EReal := Finset.fold max ⊥ (fun x : Fin M × Fin N => absE (v x.1 x.2)) Finset.univ

theorem amax_le {M N : Nat} {v : Fin M → Fin N → EReal} {B : EReal} : amax v ≤ B ↔ ∀ r c, absE (v r c) ≤ B :=
  (Finset.fold_max_le B).trans ⟨fun h r c => h.2 (r, c) (Finset.mem_univ _), fun h => ⟨bot_le, fun x _ => h x.1 x.2⟩⟩

theorem amax_nonneg {M N : Nat} (v : Fin M → Fin N → EReal) (r : Fin M) (c : Fin N) : 0 ≤ amax v :=
  (absE_nonneg (v r c)).trans (amax_le.1 le_rfl r c)

/-- The quotient of an array: its largest absolute value over 57344, by the single-precision constant nearest 1/57344. -/
def quot {M N : Nat} (v : Fin M → Fin N → EReal) : EReal := amax v * Ideal.ofBits FTy.f32 932333861#32

end Cert.PowScale

end
-- ==== Proof.ScaleValue.lean ====
/-
  The value of `ScaleIdeal` over the extended reals. Point `t` of the grid folds 512 rows of the array into sixteen rows of
  running maxima of absolute values, row `r` into row `r mod 16`; the last point turns the largest of them into the scale
  and the inverse scale.
-/
module

public import proofs.«01_k».proof.Proof.Common
public import proofs.«01_k».proof.Proof.PowScale
public import proofs.«01_k».proof.Proof.Gen.ScaleIdeal.Value

@[expose] public section

set_option maxRecDepth 16384

noncomputable section

namespace Cert.ScaleIdeal.Body

open Cert.ScaleIdeal Cert.ScaleIdeal.Gen
open Idealize.ShloMosaic Idealize.ShloMosaic.TcCoe
open Idealize.SL Idealize.SL.Sem
open Idealize.ShloMosaic.Pipeline (Dat Window)

variable (m : (ℓ : Loc nD τ sig) → Buf (Elt Ideal) ℓ) (ρ : Dev nD → PrngReg)

/-- The array. -/
abbrev arg (c : Dev nD) : Vec Ideal S8192x4096 .bf16 := m ((c.tc : Thread nD τ).loc main_arg0)

/-- The quotient of the array. -/
def quot (c : Dev nD) : EReal := PowScale.quot fun (r : Fin 8192) (k : Fin 4096) => arg m c (ix2 r k)

theorem idx0_0 : ∀ t : Fin cfg0.N, win0_0.index t 0 = t.val := by decide +kernel
theorem idx0_1 : ∀ t : Fin cfg0.N, win0_0.index t 1 = 0 := by decide +kernel

/-- An element of the block point `t` reads. -/
theorem iblk_0 (c : Dev nD) (t : Fin cfg0.N) (r : Fin 512) (k : Fin 4096) (R : Fin 8192) (hR : (R : Nat) = t.val * 512 + r) :
    (iblk m c 0 t : Vec Ideal S512x4096 .bf16) (ix2 r k) = arg m c (ix2 R k) := by
  blk_point [iblk, V, idx0_0, idx0_1]

theorem pay1_at (s : Fin 16) (k : Fin 4096) : k0_pay1 (F := Ideal) (ix2 s k) = 0 := by
  pointwise [k0_pay1]

theorem pay2_at (v : Vec Ideal S512x4096 .bf16) (w : Vec Ideal S16x4096 .bf16) (s : Fin 16) (k : Fin 4096) :
    k0_pay2 v w (ix2 s k) = max (w (ix2 s k)) (Finset.fold max ⊥ (fun x : Fin 32 => PowScale.absE (v (ix2 ⟨(x : Nat) * 16 + s, by omega⟩ k))) Finset.univ) := by
  pointwise [k0_pay2]
  rw [PowScale.ofBits_bot16]
  rfl

/-- The scale and the inverse scale the last point stores, of the running maxima. -/
theorem pay3_eq (v : Vec Ideal S16x4096 .bf16) (q : EReal) (hq : 0 ≤ q)
    (h : Finset.fold max ⊥ (fun x : Fin 16 × Fin 4096 => v (ix2 x.1 x.2)) Finset.univ * Ideal.ofBits FTy.f32 932333861#32 = q) :
    k0_pay3 v = PowScale.scaleOf q := by
  pointwise [k0_pay3]
  rw [PowScale.ofBits_bot, h]
  exact PowScale.scale_count hq

theorem pay4_eq (v : Vec Ideal S16x4096 .bf16) (q : EReal) (hq : 0 ≤ q)
    (h : Finset.fold max ⊥ (fun x : Fin 16 × Fin 4096 => v (ix2 x.1 x.2)) Finset.univ * Ideal.ofBits FTy.f32 932333861#32 = q) :
    k0_pay4 v = PowScale.invOf q := by
  pointwise [k0_pay4]
  rw [PowScale.ofBits_bot, h]
  exact PowScale.inv_count hq

/-- What the running maxima hold once the rows below `n` are folded in. -/
def Holds (c : Dev nD) (n : Nat) (acc : Vec Ideal S16x4096 .bf16) : Prop :=
  ∀ (s : Fin 16) (k : Fin 4096) (B : EReal), acc (ix2 s k) ≤ B ↔ 0 ≤ B ∧ ∀ r : Fin 8192, (r : Nat) < n → (r : Nat) % 16 = s → PowScale.absE (arg m c (ix2 r k)) ≤ B

theorem holds_zero (c : Dev nD) : Holds m c 0 (k0_pay1 (F := Ideal)) := fun s k B => by
  rw [pay1_at]
  exact ⟨fun h => ⟨h, fun r hr => absurd hr (Nat.not_lt_zero _)⟩, fun h => h.1⟩

theorem holds_step (c : Dev nD) (t : Fin cfg0.N) (acc : Vec Ideal S16x4096 .bf16) (h : Holds m c (t.val * 512) acc) :
    Holds m c ((t.val + 1) * 512) (k0_pay2 (iblk m c 0 t : Vec Ideal S512x4096 .bf16) acc) := fun s k B => by
  have hN : t.val < 16 := lt_of_lt_of_eq t.isLt N_0
  rw [pay2_at, max_le_iff, h s k B, Finset.fold_max_le]
  constructor
  · rintro ⟨⟨h0, h1⟩, -, h2⟩
    refine ⟨h0, fun r hr hs => ?_⟩
    by_cases hlt : (r : Nat) < t.val * 512
    · exact h1 r hlt hs
    · have hx : ((r : Nat) - t.val * 512) / 16 < 32 := by omega
      have := h2 ⟨((r : Nat) - t.val * 512) / 16, hx⟩ (Finset.mem_univ _)
      rwa [iblk_0 m c t _ k r (by show (r : Nat) = t.val * 512 + (((r : Nat) - t.val * 512) / 16 * 16 + s); omega)] at this
  · rintro ⟨h0, h1⟩
    refine ⟨⟨h0, fun r hr hs => h1 r (by omega) hs⟩, bot_le, fun x _ => ?_⟩
    have hx := x.isLt
    have hs := s.isLt
    rw [iblk_0 m c t _ k ⟨t.val * 512 + ((x : Nat) * 16 + s), by omega⟩ rfl]
    exact h1 _ (by show t.val * 512 + ((x : Nat) * 16 + s) < _; omega) (by show (t.val * 512 + ((x : Nat) * 16 + s)) % 16 = s; omega)

/-- The largest of the running maxima, once all rows are folded in. -/
theorem holds_amax (c : Dev nD) (acc : Vec Ideal S16x4096 .bf16) (h : Holds m c 8192 acc) :
    Finset.fold max ⊥ (fun x : Fin 16 × Fin 4096 => acc (ix2 x.1 x.2)) Finset.univ * Ideal.ofBits FTy.f32 932333861#32 = quot m c := by
  refine congrArg (· * Ideal.ofBits FTy.f32 932333861#32) (eq_of_forall_ge_iff fun B => ?_)
  rw [Finset.fold_max_le, PowScale.amax_le]
  constructor
  · rintro ⟨-, h1⟩ r k
    exact ((h ⟨(r : Nat) % 16, Nat.mod_lt _ (by decide)⟩ k B).1 (h1 (_, k) (Finset.mem_univ _))).2 r r.isLt rfl
  · intro h1
    exact ⟨bot_le, fun x _ => (h x.1 x.2 B).2 ⟨(PowScale.absE_nonneg _).trans (h1 0 x.2), fun r _ _ => h1 r x.2⟩⟩

/-- What a point leaves in the running maxima. -/
theorem scratch_A (c : Dev nD) (t : Fin cfg0.N) (h0 : t.val % 16 = 0) (h1 : ¬ t.val % 16 = 15) :
    (outsAt0 m c t.val t.isLt).2.2 = k0_pay2 (iblk m c 0 t : Vec Ideal S512x4096 .bf16) (k0_pay1 (F := Ideal)) := by
  rw [outsAt0_A m c t h0 h1]
  dsimp only
  frame_out

theorem scratch_B (c : Dev nD) (t : Fin cfg0.N) (h0 : ¬ t.val % 16 = 0) (h1 : ¬ t.val % 16 = 15) :
    (outsAt0 m c t.val t.isLt).2.2 = k0_pay2 (iblk m c 0 t : Vec Ideal S512x4096 .bf16) (outsAt0 m c (t.val - 1) (by omega)).2.2 := by
  rw [outsAt0_B m c t h0 h1]
  dsimp only
  frame_out
  exact congrArg (k0_pay2 (iblk m c 0 t)) ((Memref.isWhole_whole cc0_scratch0).read_unread _)

/-- What the last point leaves in the two results' buffers. -/
theorem outs_C (c : Dev nD) (t : Fin cfg0.N) (h0 : ¬ t.val % 16 = 0) (h1 : t.val % 16 = 15) :
    (outsAt0 m c t.val t.isLt).1 = fun _ => k0_pay3 (k0_pay2 (iblk m c 0 t : Vec Ideal S512x4096 .bf16) (outsAt0 m c (t.val - 1) (by omega)).2.2) := by
  rw [outsAt0_C m c t h0 h1]
  dsimp only
  frame_out
  exact funext fun _ => congrArg (fun z => k0_pay3 (k0_pay2 (iblk m c 0 t) z)) ((Memref.isWhole_whole cc0_scratch0).read_unread _)

theorem outs_C' (c : Dev nD) (t : Fin cfg0.N) (h0 : ¬ t.val % 16 = 0) (h1 : t.val % 16 = 15) :
    (outsAt0 m c t.val t.isLt).2.1 = fun _ => k0_pay4 (k0_pay2 (iblk m c 0 t : Vec Ideal S512x4096 .bf16) (outsAt0 m c (t.val - 1) (by omega)).2.2) := by
  rw [outsAt0_C m c t h0 h1]
  dsimp only
  frame_out
  exact funext fun _ => congrArg (fun z => k0_pay4 (k0_pay2 (iblk m c 0 t) z)) ((Memref.isWhole_whole cc0_scratch0).read_unread _)

/-- The running maxima after point `n`, for all points but the last. -/
theorem holds_after (c : Dev nD) : ∀ (n : Nat) (hn : n < cfg0.N), n < 15 → Holds m c ((n + 1) * 512) (outsAt0 m c n hn).2.2
  | 0, hn, _ => by
    have e := scratch_A m c ⟨0, hn⟩ rfl (by show ¬ 0 % 16 = 15; decide)
    have h := holds_step m c ⟨0, hn⟩ _ (by simpa using holds_zero m c)
    rw [← e] at h
    exact h
  | n + 1, hn, h15 => by
    have e := scratch_B m c ⟨n + 1, hn⟩ (by show ¬ (n + 1) % 16 = 0; omega) (by show ¬ (n + 1) % 16 = 15; omega)
    have h := holds_step m c ⟨n + 1, hn⟩ _ (holds_after c n (by omega) (by omega))
    exact (congrArg (Holds m c ((n + 1 + 1) * 512)) e).mpr h

theorem quot_nonneg (c : Dev nD) : 0 ≤ quot m c :=
  PowScale.quot_nonneg (PowScale.amax_nonneg _ ⟨0, Nat.zero_lt_succ _⟩ ⟨0, Nat.zero_lt_succ _⟩)

/-- The last of the running maxima. -/
theorem holds_last (c : Dev nD) (t : Fin cfg0.N) (h1 : t.val % 16 = 15) :
    Holds m c 8192 (k0_pay2 (iblk m c 0 t : Vec Ideal S512x4096 .bf16) (outsAt0 m c (t.val - 1) (by omega)).2.2) := by
  have hN : t.val < 16 := lt_of_lt_of_eq t.isLt N_0
  have ht : t.val = 15 := by omega
  have h := holds_after m c (t.val - 1) (by omega) (by omega)
  have h' := holds_step m c t _ (by rwa [show (t.val - 1 + 1) * 512 = t.val * 512 by omega] at h)
  rwa [show (t.val + 1) * 512 = 8192 by omega] at h'

theorem flush1 : ∀ t : Fin cfg0.N, (cfg0.win 1).flush t = true → t.val % 16 = 15 := by decide +kernel
theorem flush2 : ∀ t : Fin cfg0.N, (cfg0.win 2).flush t = true → t.val % 16 = 15 := by decide +kernel

/-- The scale after the run. -/
theorem arr_scale (c : Dev nD) : (dats m 0 c).arrAt 1 cfg0.N = fun _ => PowScale.scaleOf (quot m c) := by
  refine Dat.arrAt_eq_of_covers (dats m 0 c) 1 _ (by decide +kernel) fun t hf y => ?_
  have h1 := flush1 t hf
  rw [after0_1, outs_C m c t (by omega) h1, pay3_eq _ _ (quot_nonneg m c) (holds_amax m c _ (holds_last m c t h1))]
  generalize PowScale.scaleOf _ = s
  rfl

/-- The inverse scale after the run. -/
theorem arr_inv (c : Dev nD) : (dats m 0 c).arrAt 2 cfg0.N = fun _ => PowScale.invOf (quot m c) := by
  refine Dat.arrAt_eq_of_covers (dats m 0 c) 2 _ (by decide +kernel) fun t hf y => ?_
  have h1 := flush2 t hf
  rw [after0_2, outs_C' m c t (by omega) h1, pay4_eq _ _ (quot_nonneg m c) (holds_amax m c _ (holds_last m c t h1))]
  generalize PowScale.invOf _ = s
  rfl

/-- Every run ends with the scale and the inverse scale, the argument kept. -/
theorem run : θ_run defs (onTc (τ := τ) (main (F := Ideal))) ⟨m, fun _ => 0, ρ⟩ (fun r => ∀ c : Dev nD,
      r.2.mem ((c.tc : Thread nD τ).loc main_v0_0) = (fun _ => PowScale.scaleOf (quot m c))
      ∧ r.2.mem ((c.tc : Thread nD τ).loc main_v0_1) = (fun _ => PowScale.invOf (quot m c))
      ∧ r.2.mem ((c.tc : Thread nD τ).loc main_arg0) = m ((c.tc : Thread nD τ).loc main_arg0)) :=
  (θ_run defs _ _).mono (fun r h c => ⟨(h c).1.trans (arr_scale m c), (h c).2.1.trans (arr_inv m c), (h c).2.2⟩) (Value.run_blocks m ρ)

end Cert.ScaleIdeal.Body
end
-- ==== Proof.ScaleRefValue.lean ====
/-
  The value of the reference `ScaleRefIdeal` over the extended reals: one grid point that reads the whole array and writes
  the scale and the inverse scale of its largest absolute value.
-/
module

public import proofs.«01_k».proof.Proof.Common
public import proofs.«01_k».proof.Proof.PowScale
public import proofs.«01_k».proof.Proof.Gen.ScaleRefIdeal.Value

@[expose] public section

set_option maxRecDepth 16384

noncomputable section

namespace Cert.ScaleRefIdeal.Body

open Cert.ScaleRefIdeal Cert.ScaleRefIdeal.Gen
open Idealize.ShloMosaic Idealize.ShloMosaic.TcCoe
open Idealize.SL Idealize.SL.Sem
open Idealize.ShloMosaic.Pipeline (Dat Window)

variable (m : (ℓ : Loc nD τ sig) → Buf (Elt Ideal) ℓ) (ρ : Dev nD → PrngReg)

theorem idx0_0 : ∀ t : Fin cfg0.N, win0_0.index t 0 = 0 := by decide +kernel
theorem idx0_1 : ∀ t : Fin cfg0.N, win0_0.index t 1 = 0 := by decide +kernel

theorem iblk_0 (c : Dev nD) (t : Fin cfg0.N) : iblk m c 0 t = m ((c.tc : Thread nD τ).loc main_arg0) := by
  funext j
  blk_point [iblk, V, idx0_0, idx0_1]

/-- The quotient of the array. -/
def quot (c : Dev nD) : EReal := PowScale.quot fun (r : Fin 8192) (k : Fin 4096) => (m ((c.tc : Thread nD τ).loc main_arg0) : Vec Ideal S8192x4096 .bf16) (ix2 r k)

/-- The scale the reference stores. -/
theorem pay1_eq (v : Vec Ideal S8192x4096 .bf16) : k0_pay1 v = PowScale.scaleOf (PowScale.quot fun (r : Fin 8192) (k : Fin 4096) => v (ix2 r k)) := by
  have hq : 0 ≤ PowScale.quot fun (r : Fin 8192) (k : Fin 4096) => (v (ix2 r k) : EReal) :=
    PowScale.quot_nonneg (PowScale.amax_nonneg _ ⟨0, Nat.zero_lt_succ _⟩ ⟨0, Nat.zero_lt_succ _⟩)
  rw [← PowScale.scale_min hq]
  unfold PowScale.quot PowScale.amax
  rw [← PowScale.ofBits_bot]
  pointwise [k0_pay1]
  generalize v = w
  rfl

theorem pay2_eq (v : Vec Ideal S8192x4096 .bf16) : k0_pay2 v = PowScale.invOf (PowScale.quot fun (r : Fin 8192) (k : Fin 4096) => v (ix2 r k)) := by
  unfold k0_pay2
  rw [pay1_eq, ← PowScale.one_div_scale]
  generalize PowScale.scaleOf _ = s
  show Ideal.div (Ideal.ofBits FTy.f32 0x3F800000#32) s = Ideal.div 1 s
  rw [Ideal.ofBits_one_f32]

theorem outs1 (c : Dev nD) (t : Fin cfg0.N) : (outsAt0 m c t).1 = fun _ => PowScale.scaleOf (quot m c) := by
  unfold outsAt0
  dsimp only
  frame_out
  rw [iblk_0]
  exact funext fun _ => (congrArg k0_pay1 ((hs0_0 t).read_unread _)).trans (pay1_eq _)

theorem outs2 (c : Dev nD) (t : Fin cfg0.N) : (outsAt0 m c t).2 = fun _ => PowScale.invOf (quot m c) := by
  unfold outsAt0
  dsimp only
  frame_out
  rw [iblk_0]
  exact funext fun _ => (congrArg k0_pay2 ((hs0_0 t).read_unread _)).trans (pay2_eq _)

/-- The scale after the run. -/
theorem arr_scale (c : Dev nD) : (dats m 0 c).arrAt 1 cfg0.N = fun _ => PowScale.scaleOf (quot m c) := by
  refine Dat.arrAt_eq_of_covers (dats m 0 c) 1 _ (by decide +kernel) fun t _ y => ?_
  rw [after0_1, outs1]
  generalize PowScale.scaleOf _ = s
  rfl

/-- The inverse scale after the run. -/
theorem arr_inv (c : Dev nD) : (dats m 0 c).arrAt 2 cfg0.N = fun _ => PowScale.invOf (quot m c) := by
  refine Dat.arrAt_eq_of_covers (dats m 0 c) 2 _ (by decide +kernel) fun t _ y => ?_
  rw [after0_2, outs2]
  generalize PowScale.invOf _ = s
  rfl

/-- Every run ends with the scale and the inverse scale, the argument kept. -/
theorem run : θ_run defs (onTc (τ := τ) (main (F := Ideal))) ⟨m, fun _ => 0, ρ⟩ (fun r => ∀ c : Dev nD,
      r.2.mem ((c.tc : Thread nD τ).loc main_v0_0) = (fun _ => PowScale.scaleOf (quot m c))
      ∧ r.2.mem ((c.tc : Thread nD τ).loc main_v0_1) = (fun _ => PowScale.invOf (quot m c))
      ∧ r.2.mem ((c.tc : Thread nD τ).loc main_arg0) = m ((c.tc : Thread nD τ).loc main_arg0)) :=
  (θ_run defs _ _).mono (fun r h c => ⟨(h c).1.trans (arr_scale m c), (h c).2.1.trans (arr_inv m c), (h c).2.2⟩) (Value.run_blocks m ρ)

end Cert.ScaleRefIdeal.Body
end
-- ==== Proof.ScaleClaims.lean ====
/-
  The claim on the scale of the incoming gradient: the kernel's two results, the power-of-two scale and its inverse,
  equal to the reference's.
-/
module

public import proofs.«01_k».proof.Defs
public import proofs.«01_k».proof.Proof.ScaleValue
public import proofs.«01_k».proof.Proof.ScaleRefValue

@[expose] public section

set_option maxRecDepth 16384

noncomputable section

namespace Cert.ScaleClaims

open Idealize.ShloMosaic Idealize.ShloMosaic.TcCoe Idealize.SL.Sem

theorem algebraic : algebraic_ScaleIdeal_ScaleRefIdeal (hScaleIdeal := Cert.ScaleIdeal.Gen.facts) (hScaleRefIdeal := Cert.ScaleRefIdeal.Gen.facts) :=
  fun m g m' g' _ hag => by
    refine ⟨_, _, Cert.ScaleIdeal.Body.run m g,
      (θ_run _ _ _).mono (fun r h c => ⟨(h c).1.trans ?_, (h c).2.1.trans ?_, (h c).2.2⟩) (Cert.ScaleRefIdeal.Body.run m' g')⟩
    · have h0 := hag c
      unfold Cert.ScaleRefIdeal.Body.quot Cert.ScaleIdeal.Body.quot Cert.ScaleIdeal.Body.arg
      rw [h0]
      generalize m _ = w
      rfl
    · have h0 := hag c
      unfold Cert.ScaleRefIdeal.Body.quot Cert.ScaleIdeal.Body.quot Cert.ScaleIdeal.Body.arg
      rw [h0]
      generalize m _ = w
      rfl

end Cert.ScaleClaims
end
-- ==== Proof.DACommon.lean ====
/-
  What the kernel producing the codes of the incoming gradient computes, on whole arrays over the extended reals: the codes,
  the gradient of the hidden activation, and the largest absolute value of the hidden gradient.
-/
module

public import proofs.«01_k».proof.Proof.Common
public import proofs.«01_k».proof.Proof.PowScale

@[expose] public section

noncomputable section

namespace Cert.DACommon

open Idealize.ShloMosaic

/-- The codes of an array: the clipped product with the inverse scale `n`. -/
def codesD {M : Nat} (n : EReal) (dy : Vec Ideal ⟨2, ![M, 4096]⟩ .bf16) : Vec Ideal ⟨2, ![M, 4096]⟩ .fp8e5m2 := fun i => Common.clipG (dy i * n)

/-- The product of `x` with `y` transposed, every element times `s`. -/
def prodA {M N : Nat} (s : EReal) (x : Vec Ideal ⟨2, ![M, 4096]⟩ .fp8e5m2) (y : Vec Ideal ⟨2, ![N, 4096]⟩ .fp8e4m3) : Vec Ideal ⟨2, ![M, N]⟩ .f32 := fun i =>
  (∑ k : Fin 4096, x (ix2 (i 0) k) * y (ix2 (i 1) k)) * s

/-- The gate gradient, of the incoming gradient `a` at gate `g` and up value `u`. -/
def gateD (a g u : EReal) : EReal := a * u * Ideal.logistic g * (1 + g * (1 - Ideal.logistic g))

/-- The up gradient. -/
def upD (a g : EReal) : EReal := a * g * Ideal.logistic g

/-- The larger of the two gradients' absolute values. -/
def big1 (a g u : EReal) : EReal := max (PowScale.absE (gateD a g u)) (PowScale.absE (upD a g))

/-- The same at row `r` and column `k` of the arrays. -/
def big {M : Nat} (A : Vec Ideal ⟨2, ![M, 5504]⟩ .f32) (gu : Vec Ideal ⟨2, ![M, 11008]⟩ .bf16) (r : Fin M) (k : Fin 5504) : EReal :=
  big1 (A (ix2 r k)) (gu (ix2 r ⟨k, by omega⟩)) (gu (ix2 r ⟨5504 + k, by omega⟩))

theorem big_nonneg {M : Nat} (A : Vec Ideal ⟨2, ![M, 5504]⟩ .f32) (gu : Vec Ideal ⟨2, ![M, 11008]⟩ .bf16) (r : Fin M) (k : Fin 5504) : 0 ≤ big A gu r k :=
  (PowScale.absE_nonneg _).trans (le_max_left _ _)

/-- The largest absolute value of the hidden gradient. -/
def bigMax {M : Nat} (A : Vec Ideal ⟨2, ![M, 5504]⟩ .f32) (gu : Vec Ideal ⟨2, ![M, 11008]⟩ .bf16) : EReal :=
  Finset.fold max ⊥ (fun x : Fin M × Fin 5504 => big A gu x.1 x.2) Finset.univ

theorem bigMax_le {M : Nat} {A : Vec Ideal ⟨2, ![M, 5504]⟩ .f32} {gu : Vec Ideal ⟨2, ![M, 11008]⟩ .bf16} {B : EReal} :
    bigMax A gu ≤ B ↔ ∀ r k, big A gu r k ≤ B :=
  (Finset.fold_max_le B).trans ⟨fun h r k => h.2 (r, k) (Finset.mem_univ _), fun h => ⟨bot_le, fun x _ => h x.1 x.2⟩⟩

theorem bigMax_nonneg {M : Nat} (A : Vec Ideal ⟨2, ![M, 5504]⟩ .f32) (gu : Vec Ideal ⟨2, ![M, 11008]⟩ .bf16) (r : Fin M) (k : Fin 5504) : 0 ≤ bigMax A gu :=
  (big_nonneg A gu r k).trans (bigMax_le.1 le_rfl r k)

/-- It over 57344, by the single-precision constant nearest 1/57344. -/
def quotA {M : Nat} (A : Vec Ideal ⟨2, ![M, 5504]⟩ .f32) (gu : Vec Ideal ⟨2, ![M, 11008]⟩ .bf16) : EReal := bigMax A gu * Ideal.ofBits FTy.f32 932333861#32

theorem quotA_nonneg (A : Vec Ideal ⟨2, ![8192, 5504]⟩ .f32) (gu : Vec Ideal ⟨2, ![8192, 11008]⟩ .bf16) : 0 ≤ quotA A gu :=
  PowScale.quot_nonneg (bigMax_nonneg A gu ⟨0, Nat.zero_lt_succ _⟩ ⟨0, Nat.zero_lt_succ _⟩)

/-- An index of the concatenation is in the left half or in the right one. -/
theorem amax_halves (v : Fin 8192 → Fin 11008 → EReal) (A : Vec Ideal ⟨2, ![8192, 5504]⟩ .f32) (gu : Vec Ideal ⟨2, ![8192, 11008]⟩ .bf16)
    (h0 : ∀ (r : Fin 8192) (k : Fin 5504), v r ⟨k, by omega⟩ = gateD (A (ix2 r k)) (gu (ix2 r ⟨k, by omega⟩)) (gu (ix2 r ⟨5504 + k, by omega⟩)))
    (h1 : ∀ (r : Fin 8192) (k : Fin 5504), v r ⟨5504 + k, by omega⟩ = upD (A (ix2 r k)) (gu (ix2 r ⟨k, by omega⟩))) : PowScale.amax v = bigMax A gu := by
  refine eq_of_forall_ge_iff fun B => ?_
  rw [PowScale.amax_le, bigMax_le]
  constructor
  · intro h r k
    have e0 := h r ⟨k, by omega⟩
    have e1 := h r ⟨5504 + k, by omega⟩
    rw [h0] at e0
    rw [h1] at e1
    exact max_le e0 e1
  · intro h r k
    by_cases hk : (k : Nat) < 5504
    · have e := (le_max_left _ _).trans (h r ⟨k, hk⟩)
      rw [← h0] at e
      exact e
    · have hk' : (k : Nat) - 5504 < 5504 := by omega
      have e := (le_max_right _ _).trans (h r ⟨(k : Nat) - 5504, hk'⟩)
      rw [← h1] at e
      have : (⟨5504 + ((⟨(k : Nat) - 5504, hk'⟩ : Fin 5504) : Nat), by show 5504 + ((k : Nat) - 5504) < 11008; omega⟩ : Fin 11008) = k :=
        Fin.ext (by show 5504 + ((k : Nat) - 5504) = k; omega)
      rwa [this] at e

end Cert.DACommon

end
-- ==== Proof.DAChunk.lean ====
/-
  The blocks and the column chunks of `DAIdeal` over the extended reals. Point `t` of the grid stores the codes of 256 rows
  and, in eleven column chunks, their product, and folds the absolute values of the hidden gradient's 256 rows into eight
  rows of running maxima, row `r` into row `r mod 8`; here each chunk is the part of one function at its columns.
-/
module

public import Idealize.ShloMosaic.Lib.Pipeline.ReadBack
public import proofs.«01_k».proof.Proof.DACommon
public import proofs.«01_k».proof.Proof.Gen.DAIdeal.Value

@[expose] public section

set_option maxRecDepth 16384

noncomputable section

namespace Cert.DAIdeal.Body

open Cert.DAIdeal Cert.DAIdeal.Gen
open Idealize.ShloMosaic Idealize.ShloMosaic.TcCoe
open Idealize.SL Idealize.SL.Sem
open Idealize.ShloMosaic.Pipeline (Dat Window)

variable (m : (ℓ : Loc nD τ sig) → Buf (Elt Ideal) ℓ) (ρ : Dev nD → PrngReg)

theorem idx0_0 : ∀ t : Fin cfg0.N, win0_0.index t 0 = 0 := by decide +kernel
theorem idx0_1 : ∀ t : Fin cfg0.N, win0_0.index t 1 = 0 := by decide +kernel
theorem idx1_0 : ∀ t : Fin cfg0.N, win0_1.index t 0 = 0 := by decide +kernel
theorem idx1_1 : ∀ t : Fin cfg0.N, win0_1.index t 1 = 0 := by decide +kernel
theorem idx2_0 : ∀ t : Fin cfg0.N, win0_2.index t 0 = 0 := by decide +kernel
theorem idx2_1 : ∀ t : Fin cfg0.N, win0_2.index t 1 = 0 := by decide +kernel
theorem idx3_0 : ∀ t : Fin cfg0.N, win0_3.index t 0 = t.val := by decide +kernel
theorem idx3_1 : ∀ t : Fin cfg0.N, win0_3.index t 1 = 0 := by decide +kernel
theorem idx4_0 : ∀ t : Fin cfg0.N, win0_4.index t 0 = 0 := by decide +kernel
theorem idx4_1 : ∀ t : Fin cfg0.N, win0_4.index t 1 = 0 := by decide +kernel
theorem idx5_0 : ∀ t : Fin cfg0.N, win0_5.index t 0 = t.val := by decide +kernel
theorem idx5_1 : ∀ t : Fin cfg0.N, win0_5.index t 1 = 0 := by decide +kernel
theorem idx6_0 : ∀ t : Fin cfg0.N, win0_6.index t 0 = t.val := by decide +kernel
theorem idx6_1 : ∀ t : Fin cfg0.N, win0_6.index t 1 = 0 := by decide +kernel
theorem idx7_0 : ∀ t : Fin cfg0.N, win0_7.index t 0 = t.val := by decide +kernel
theorem idx7_1 : ∀ t : Fin cfg0.N, win0_7.index t 1 = 0 := by decide +kernel

theorem iblk_0 (c : Dev nD) (t : Fin cfg0.N) : iblk m c 0 t = m ((c.tc : Thread nD τ).loc main_arg0) := by
  funext j
  blk_point [iblk, V, idx0_0, idx0_1]
theorem iblk_1 (c : Dev nD) (t : Fin cfg0.N) : iblk m c 1 t = m ((c.tc : Thread nD τ).loc main_arg1) := by
  funext j
  blk_point [iblk, V, idx1_0, idx1_1]
theorem iblk_2 (c : Dev nD) (t : Fin cfg0.N) : iblk m c 2 t = m ((c.tc : Thread nD τ).loc main_arg2) := by
  funext j
  blk_point [iblk, V, idx2_0, idx2_1]
theorem iblk_4 (c : Dev nD) (t : Fin cfg0.N) : iblk m c 4 t = m ((c.tc : Thread nD τ).loc main_arg4) := by
  funext j
  blk_point [iblk, V, idx4_0, idx4_1]

/-- The blocks of rows point `t` reads. -/
theorem iblk_3 (c : Dev nD) (t : Fin cfg0.N) (r : Fin 256) (k : Fin 4096) (R : Fin 8192) (hR : (R : Nat) = t.val * 256 + r) :
    (iblk m c 3 t : Vec Ideal S256x4096 .bf16) (ix2 r k) = (m ((c.tc : Thread nD τ).loc main_arg3) : Vec Ideal S8192x4096 .bf16) (ix2 R k) := by
  blk_point [iblk, V, idx3_0, idx3_1]
theorem iblk_5 (c : Dev nD) (t : Fin cfg0.N) (r : Fin 256) (k : Fin 11008) (R : Fin 8192) (hR : (R : Nat) = t.val * 256 + r) :
    (iblk m c 5 t : Vec Ideal S256x11008 .bf16) (ix2 r k) = (m ((c.tc : Thread nD τ).loc main_arg5) : Vec Ideal S8192x11008 .bf16) (ix2 R k) := by
  blk_point [iblk, V, idx5_0, idx5_1]

theorem emb6_0 (t : Fin cfg0.N) (y : (win0_6.xblock (grid0.coords t)).Idx) :
    ((win0_6.blk t).view.emb y 0 : Nat) = t.val * 256 + (y 0 : Nat) := by
  refine (Window.rect_emb_val win0_6 t y 0 rfl).trans ?_
  rw [idx6_0]
  rfl
theorem emb6_1 (t : Fin cfg0.N) (y : (win0_6.xblock (grid0.coords t)).Idx) :
    ((win0_6.blk t).view.emb y 1 : Nat) = (y 1 : Nat) :=
  Window.rect_emb_val_of_index_zero win0_6 t 1 (idx6_1 t) y
theorem emb7_0 (t : Fin cfg0.N) (y : (win0_7.xblock (grid0.coords t)).Idx) :
    ((win0_7.blk t).view.emb y 0 : Nat) = t.val * 256 + (y 0 : Nat) := by
  refine (Window.rect_emb_val win0_7 t y 0 rfl).trans ?_
  rw [idx7_0]
  rfl
theorem emb7_1 (t : Fin cfg0.N) (y : (win0_7.xblock (grid0.coords t)).Idx) :
    ((win0_7.blk t).view.emb y 1 : Nat) = (y 1 : Nat) :=
  Window.rect_emb_val_of_index_zero win0_7 t 1 (idx7_1 t) y

/-- The one entry of a scalar argument. -/
abbrev sc (v : Vec Ideal S1x1 .f32) : EReal := v (ix2 0 0)

/-- The codes of the whole array. -/
def codes (c : Dev nD) : Vec Ideal S8192x4096 .fp8e5m2 :=
  DACommon.codesD (sc (m ((c.tc : Thread nD τ).loc main_arg1))) (m ((c.tc : Thread nD τ).loc main_arg3))

/-- The whole product. -/
def prod (c : Dev nD) : Vec Ideal S8192x5504 .f32 :=
  DACommon.prodA (sc (m ((c.tc : Thread nD τ).loc main_arg0)) * sc (m ((c.tc : Thread nD τ).loc main_arg2))) (codes m c) (m ((c.tc : Thread nD τ).loc main_arg4))

/-- The quotient of the whole hidden gradient. -/
def quot (c : Dev nD) : EReal := DACommon.quotA (prod m c) (m ((c.tc : Thread nD τ).loc main_arg5))

/-- The codes of the block point `t` reads. -/
def bcodes (c : Dev nD) (t : Fin cfg0.N) : Vec Ideal S256x4096 .fp8e5m2 :=
  DACommon.codesD (sc (m ((c.tc : Thread nD τ).loc main_arg1))) (iblk m c 3 t)

/-- Its product. -/
def bprod (c : Dev nD) (t : Fin cfg0.N) : Vec Ideal S256x5504 .f32 :=
  DACommon.prodA (sc (m ((c.tc : Thread nD τ).loc main_arg0)) * sc (m ((c.tc : Thread nD τ).loc main_arg2))) (bcodes m c t) (m ((c.tc : Thread nD τ).loc main_arg4))

/-- The codes a point stores. -/
theorem pay5_eq (v : Vec Ideal S256x4096 .bf16) (n : Elt Ideal .f32) : k0_pay5 v n = DACommon.codesD n v := by
  funext i
  unfold DACommon.codesD Common.clipG Common.cst
  pointwise [k0_pay5]

/-- A chunk of the product. -/
theorem pay17_at (s : Elt Ideal .f32) (C : Vec Ideal S256x4096 .fp8e5m2) (w : Vec Ideal S512x4096 .fp8e4m3) (r : Fin 256) (j : Fin 512) :
    k0_pay17 s C w (ix2 r j) = (∑ k : Fin 4096, C (ix2 r k) * w (ix2 j k)) * s := by
  pointwise [k0_pay17]

theorem pay45_at (s : Elt Ideal .f32) (C : Vec Ideal S256x4096 .fp8e5m2) (w : Vec Ideal S384x4096 .fp8e4m3) (r : Fin 256) (j : Fin 384) :
    k0_pay45 s C w (ix2 r j) = (∑ k : Fin 4096, C (ix2 r k) * w (ix2 j k)) * s := by
  pointwise [k0_pay45]

/-- A chunk of the running maxima. -/
theorem pay19_at (s : Elt Ideal .f32) (C : Vec Ideal S256x4096 .fp8e5m2) (w : Vec Ideal S512x4096 .fp8e4m3) (g u : Vec Ideal S256x512 .bf16) (a : Vec Ideal S8x512 .f32)
    (i : Fin 8) (j : Fin 512) :
    k0_pay19 (k0_pay18 s C w g u) a (ix2 i j) = max (a (ix2 i j)) (Finset.fold max ⊥ (fun q : Fin 32 =>
      DACommon.big1 (k0_pay17 s C w (ix2 ⟨(q : Nat) * 8 + i, by omega⟩ j)) (g (ix2 ⟨(q : Nat) * 8 + i, by omega⟩ j)) (u (ix2 ⟨(q : Nat) * 8 + i, by omega⟩ j))) Finset.univ) := by
  unfold k0_pay19 k0_pay18
  generalize k0_pay17 s C w = A
  pointwise []
  rw [PowScale.ofBits_bot]
  rfl

theorem pay46_at (s : Elt Ideal .f32) (C : Vec Ideal S256x4096 .fp8e5m2) (w : Vec Ideal S384x4096 .fp8e4m3) (g u : Vec Ideal S256x384 .bf16) (a : Vec Ideal S8x384 .f32)
    (i : Fin 8) (j : Fin 384) :
    k0_pay1 (k0_pay46 s C w g u a) (ix2 i j) = max (a (ix2 i j)) (Finset.fold max ⊥ (fun q : Fin 32 =>
      DACommon.big1 (k0_pay45 s C w (ix2 ⟨(q : Nat) * 8 + i, by omega⟩ j)) (g (ix2 ⟨(q : Nat) * 8 + i, by omega⟩ j)) (u (ix2 ⟨(q : Nat) * 8 + i, by omega⟩ j))) Finset.univ) := by
  unfold k0_pay1 k0_pay46
  generalize k0_pay45 s C w = A
  pointwise []
  rw [PowScale.ofBits_bot]
  rfl

/-- What a point makes of the running maxima `acc`. -/
def stepV (A : Vec Ideal S256x5504 .f32) (gu : Vec Ideal S256x11008 .bf16) (acc : Vec Ideal S8x5504 .f32) : Vec Ideal S8x5504 .f32 := fun i =>
  max (acc i) (Finset.fold max ⊥ (fun q : Fin 32 => DACommon.big A gu ⟨(q : Nat) * 8 + (i 0 : Nat), by have : (i 0 : Nat) < 8 := (i 0).isLt; omega⟩ (i 1)) Finset.univ)

/-- An index built of two coordinates is the index it stands for. -/
theorem ix2_of {a b : Nat} (y : (⟨2, ![a, b]⟩ : Shape).Idx) (p : Fin a) (q : Fin b) (hp : (y 0 : Nat) = p) (hq : (y 1 : Nat) = q) : y = ix2 p q := by
  funext d; apply Fin.ext
  match d with
  | ⟨0, _⟩ => exact hp
  | ⟨1, _⟩ => exact hq

/-- A chunk of 512 columns of the product is the part of the product at its columns. -/
theorem prod512 (o : Nat) (s : Elt Ideal .f32) (C : Vec Ideal S256x4096 .fp8e5m2) (x4 : Vec Ideal S5504x4096 .fp8e4m3)
    (h4 : ∀ a, (![o, 0] : Fin 2 → Nat) a + S512x4096.size a ≤ S5504x4096.size a) (h7 : ∀ a, (![0, o] : Fin 2 → Nat) a + S256x512.size a ≤ S256x5504.size a)
    (x : S256x512.Idx) :
    k0_pay17 s C (View.ld x4 (Rect.unit (s := S5504x4096) ![o, 0] S512x4096.size h4)) x = DACommon.prodA s C x4 ((Rect.unit (s := S256x5504) ![0, o] S256x512.size h7).emb x) := by
  have ho : o + 512 ≤ 5504 := h4 0
  have hx0 : (x 0 : Nat) < 256 := (x 0).isLt
  have hx1 : (x 1 : Nat) < 512 := (x 1).isLt
  have ex : x = ix2 (⟨x 0, hx0⟩ : Fin 256) (⟨x 1, hx1⟩ : Fin 512) := ix2_of x _ _ rfl rfl
  have ey : (Rect.unit (s := S256x5504) ![0, o] S256x512.size h7).emb x = ix2 (⟨x 0, hx0⟩ : Fin 256) (⟨o + x 1, by omega⟩ : Fin 5504) :=
    ix2_of _ _ _ (by show 0 + 1 * (x 0 : Nat) = x 0; omega) (by show o + 1 * (x 1 : Nat) = o + x 1; omega)
  rw [ey]
  conv_lhs => rw [ex]
  rw [pay17_at]
  refine congrArg (· * s) (Finset.sum_congr rfl fun k _ => congrArg (C _ * ·) ?_)
  exact View.ld_unit_apply_of x4 _ _ _ _ _ fun a => by
    fin_cases a
    · rfl
    · exact (Nat.zero_add _).symm

/-- A chunk of 512 columns of the running maxima, likewise. -/
theorem max512 (o o' : Nat) (ho' : o' = 5504 + o) (s : Elt Ideal .f32) (C : Vec Ideal S256x4096 .fp8e5m2) (x4 : Vec Ideal S5504x4096 .fp8e4m3)
    (x5 : Vec Ideal S256x11008 .bf16) (acc : Vec Ideal S8x5504 .f32)
    (h4 : ∀ a, (![o, 0] : Fin 2 → Nat) a + S512x4096.size a ≤ S5504x4096.size a) (h5 : ∀ a, (![0, o] : Fin 2 → Nat) a + S256x512.size a ≤ S256x11008.size a)
    (h6 : ∀ a, (![0, o'] : Fin 2 → Nat) a + S256x512.size a ≤ S256x11008.size a) (h8 : ∀ a, (![0, o] : Fin 2 → Nat) a + S8x512.size a ≤ S8x5504.size a)
    (x : S8x512.Idx) :
    k0_pay19 (k0_pay18 s C (View.ld x4 (Rect.unit (s := S5504x4096) ![o, 0] S512x4096.size h4)) (View.ld x5 (Rect.unit (s := S256x11008) ![0, o] S256x512.size h5)) (View.ld x5 (Rect.unit (s := S256x11008) ![0, o'] S256x512.size h6))) (View.ld acc (Rect.unit (s := S8x5504) ![0, o] S8x512.size h8)) x
      = stepV (DACommon.prodA s C x4) x5 acc ((Rect.unit (s := S8x5504) ![0, o] S8x512.size h8).emb x) := by
  subst ho'
  have ho : o + 512 ≤ 5504 := h4 0
  have hx0 : (x 0 : Nat) < 8 := (x 0).isLt
  have hx1 : (x 1 : Nat) < 512 := (x 1).isLt
  have ex : x = ix2 (⟨x 0, hx0⟩ : Fin 8) (⟨x 1, hx1⟩ : Fin 512) := ix2_of x _ _ rfl rfl
  have ey : (Rect.unit (s := S8x5504) ![0, o] S8x512.size h8).emb x = ix2 (⟨x 0, hx0⟩ : Fin 8) (⟨o + x 1, by omega⟩ : Fin 5504) :=
    ix2_of _ _ _ (by show 0 + 1 * (x 0 : Nat) = x 0; omega) (by show o + 1 * (x 1 : Nat) = o + x 1; omega)
  rw [ey]
  conv_lhs => rw [ex]
  rw [pay19_at]
  refine congrArg₂ max ?_ (congrArg (fun f => Finset.fold max ⊥ f Finset.univ) (funext fun q => ?_))
  · exact View.ld_unit_apply_of acc _ _ _ _ _ fun a => by
      fin_cases a
      · exact (Nat.zero_add _).symm
      · rfl
  · refine congr (congrArg₂ DACommon.big1 ?_ ?_) ?_
    · rw [prod512 o s C x4 h4 (fun a => by
      fin_cases a
      · exact Nat.le_of_eq rfl
      · exact ho)]
      refine congrArg _ (ix2_of _ _ _ ?_ ?_)
      · exact (Nat.zero_add _).trans (Nat.one_mul _)
      · exact congrArg (o + ·) (Nat.one_mul _)
    · exact View.ld_unit_apply_of x5 _ _ _ _ _ fun a => by
        fin_cases a
        · exact (Nat.zero_add _).symm
        · rfl
    · exact View.ld_unit_apply_of x5 _ _ _ _ _ fun a => by
        fin_cases a
        · exact (Nat.zero_add _).symm
        · exact (Nat.add_assoc _ _ _).symm

/-- A chunk of 384 columns of the product is the part of the product at its columns. -/
theorem prod384 (o : Nat) (s : Elt Ideal .f32) (C : Vec Ideal S256x4096 .fp8e5m2) (x4 : Vec Ideal S5504x4096 .fp8e4m3)
    (h4 : ∀ a, (![o, 0] : Fin 2 → Nat) a + S384x4096.size a ≤ S5504x4096.size a) (h7 : ∀ a, (![0, o] : Fin 2 → Nat) a + S256x384.size a ≤ S256x5504.size a)
    (x : S256x384.Idx) :
    k0_pay45 s C (View.ld x4 (Rect.unit (s := S5504x4096) ![o, 0] S384x4096.size h4)) x = DACommon.prodA s C x4 ((Rect.unit (s := S256x5504) ![0, o] S256x384.size h7).emb x) := by
  have ho : o + 384 ≤ 5504 := h4 0
  have hx0 : (x 0 : Nat) < 256 := (x 0).isLt
  have hx1 : (x 1 : Nat) < 384 := (x 1).isLt
  have ex : x = ix2 (⟨x 0, hx0⟩ : Fin 256) (⟨x 1, hx1⟩ : Fin 384) := ix2_of x _ _ rfl rfl
  have ey : (Rect.unit (s := S256x5504) ![0, o] S256x384.size h7).emb x = ix2 (⟨x 0, hx0⟩ : Fin 256) (⟨o + x 1, by omega⟩ : Fin 5504) :=
    ix2_of _ _ _ (by show 0 + 1 * (x 0 : Nat) = x 0; omega) (by show o + 1 * (x 1 : Nat) = o + x 1; omega)
  rw [ey]
  conv_lhs => rw [ex]
  rw [pay45_at]
  refine congrArg (· * s) (Finset.sum_congr rfl fun k _ => congrArg (C _ * ·) ?_)
  exact View.ld_unit_apply_of x4 _ _ _ _ _ fun a => by
    fin_cases a
    · rfl
    · exact (Nat.zero_add _).symm

/-- A chunk of 384 columns of the running maxima, likewise. -/
theorem max384 (o o' : Nat) (ho' : o' = 5504 + o) (s : Elt Ideal .f32) (C : Vec Ideal S256x4096 .fp8e5m2) (x4 : Vec Ideal S5504x4096 .fp8e4m3)
    (x5 : Vec Ideal S256x11008 .bf16) (acc : Vec Ideal S8x5504 .f32)
    (h4 : ∀ a, (![o, 0] : Fin 2 → Nat) a + S384x4096.size a ≤ S5504x4096.size a) (h5 : ∀ a, (![0, o] : Fin 2 → Nat) a + S256x384.size a ≤ S256x11008.size a)
    (h6 : ∀ a, (![0, o'] : Fin 2 → Nat) a + S256x384.size a ≤ S256x11008.size a) (h8 : ∀ a, (![0, o] : Fin 2 → Nat) a + S8x384.size a ≤ S8x5504.size a)
    (x : S8x384.Idx) :
    k0_pay1 (k0_pay46 s C (View.ld x4 (Rect.unit (s := S5504x4096) ![o, 0] S384x4096.size h4)) (View.ld x5 (Rect.unit (s := S256x11008) ![0, o] S256x384.size h5)) (View.ld x5 (Rect.unit (s := S256x11008) ![0, o'] S256x384.size h6)) (View.ld acc (Rect.unit (s := S8x5504) ![0, o] S8x384.size h8))) x
      = stepV (DACommon.prodA s C x4) x5 acc ((Rect.unit (s := S8x5504) ![0, o] S8x384.size h8).emb x) := by
  subst ho'
  have ho : o + 384 ≤ 5504 := h4 0
  have hx0 : (x 0 : Nat) < 8 := (x 0).isLt
  have hx1 : (x 1 : Nat) < 384 := (x 1).isLt
  have ex : x = ix2 (⟨x 0, hx0⟩ : Fin 8) (⟨x 1, hx1⟩ : Fin 384) := ix2_of x _ _ rfl rfl
  have ey : (Rect.unit (s := S8x5504) ![0, o] S8x384.size h8).emb x = ix2 (⟨x 0, hx0⟩ : Fin 8) (⟨o + x 1, by omega⟩ : Fin 5504) :=
    ix2_of _ _ _ (by show 0 + 1 * (x 0 : Nat) = x 0; omega) (by show o + 1 * (x 1 : Nat) = o + x 1; omega)
  rw [ey]
  conv_lhs => rw [ex]
  rw [pay46_at]
  refine congrArg₂ max ?_ (congrArg (fun f => Finset.fold max ⊥ f Finset.univ) (funext fun q => ?_))
  · exact View.ld_unit_apply_of acc _ _ _ _ _ fun a => by
      fin_cases a
      · exact (Nat.zero_add _).symm
      · rfl
  · refine congr (congrArg₂ DACommon.big1 ?_ ?_) ?_
    · rw [prod384 o s C x4 h4 (fun a => by
      fin_cases a
      · exact Nat.le_of_eq rfl
      · exact ho)]
      refine congrArg _ (ix2_of _ _ _ ?_ ?_)
      · exact (Nat.zero_add _).trans (Nat.one_mul _)
      · exact congrArg (o + ·) (Nat.one_mul _)
    · exact View.ld_unit_apply_of x5 _ _ _ _ _ fun a => by
        fin_cases a
        · exact (Nat.zero_add _).symm
        · rfl
    · exact View.ld_unit_apply_of x5 _ _ _ _ _ fun a => by
        fin_cases a
        · exact (Nat.zero_add _).symm
        · exact (Nat.add_assoc _ _ _).symm

end Cert.DAIdeal.Body
end
-- ==== Proof.DAPoint.lean ====
/-
  What one point of `DAIdeal` leaves in each of its buffers.
-/
module

public import proofs.«01_k».proof.Proof.DAChunk

@[expose] public section

set_option maxRecDepth 16384

noncomputable section

namespace Cert.DAIdeal.Body

open Cert.DAIdeal Cert.DAIdeal.Gen
open Idealize.ShloMosaic Idealize.ShloMosaic.TcCoe
open Idealize.SL Idealize.SL.Sem
open Idealize.ShloMosaic.Pipeline (Dat Window)

variable (m : (ℓ : Loc nD τ sig) → Buf (Elt Ideal) ℓ) (ρ : Dev nD → PrngReg)

/-- Stores that are blocks of `G` and cover it leave `G`, over whatever was there. -/
theorem canon_of {s : Shape} {e : EltTy} (G : s.Idx → Elt Ideal e) {L L' : List (View.Piece (Elt Ideal) s e)} (h : View.PiecesOf G L) (g : Fin s.rank → Nat)
    (hc : View.Piece.tiledBy L g = true) : View.canon (L ++ L') = G :=
  funext fun y => View.canon_append_of_piecesOf G L' L h y (View.cover_of_tiledBy _ g hc y)

/-- The load of a scalar is its one entry. -/
theorem ld11 (v : Vec Ideal S1x1 .f32) (h : ∀ a, (![0, 0] : Fin 2 → Nat) a + (![1, 1] : Fin 2 → Nat) a ≤ S1x1.size a) (i : (Rect.unit (s := S1x1) ![0, 0] ![1, 1] h).shape.Idx) :
    View.ld v (Rect.unit (s := S1x1) ![0, 0] ![1, 1] h) i = v (ix2 0 0) :=
  congrArg v (Common.idx11 _)

/-- A scalar a point loads. -/
abbrev lds (v : Vec Ideal S1x1 .f32) : Elt Ideal .f32 :=
  View.ld v (Rect.unit (s := S1x1) ![0, 0] ![1, 1] inb_S1x1_S1x1_0_0) (Shape.Idx.first (lt_of_lt_of_eq Nat.zero_lt_one numel1_S1x1.symm))

/-- The codes a point computes of what it loads. -/
theorem pcodes_eq (c : Dev nD) (t : Fin cfg0.N) (n : Elt Ideal .f32) (hn : n = (iblk m c 1 t : Vec Ideal S1x1 .f32) (ix2 0 0)) :
    k0_pay5 (iblk m c 3 t) n = bcodes m c t := by
  refine (pay5_eq _ _).trans (congrArg (fun n => DACommon.codesD n (iblk m c 3 t)) (hn.trans ?_))
  rw [iblk_1]

/-- The product it computes. -/
theorem pprod_eq (c : Dev nD) (t : Fin cfg0.N) (s0 s2 n : Elt Ideal .f32) (h0 : s0 = (iblk m c 0 t : Vec Ideal S1x1 .f32) (ix2 0 0))
    (h2 : s2 = (iblk m c 2 t : Vec Ideal S1x1 .f32) (ix2 0 0)) (hn : n = (iblk m c 1 t : Vec Ideal S1x1 .f32) (ix2 0 0)) :
    DACommon.prodA (k0_pay6 s0 s2) (k0_pay5 (iblk m c 3 t) n) (iblk m c 4 t : Vec Ideal S5504x4096 .fp8e4m3) = bprod m c t := by
  rw [pcodes_eq m c t n hn, iblk_4, h0, h2, iblk_0, iblk_2]
  rfl

/-! ## The chunks' running maxima, however the kernel's text splits them -/

section chunks
variable (s p q : Elt Ideal .f32) (C : Vec Ideal S256x4096 .fp8e5m2) (w : Vec Ideal S512x4096 .fp8e4m3) (g u : Vec Ideal S256x512 .bf16) (a : Vec Ideal S8x512 .f32)

theorem chunk0 : k0_pay11 (k0_pay7 p q C w) (k0_pay8 g) (k0_pay9 g) (k0_pay10 p q C w g u) a = k0_pay19 (k0_pay18 (k0_pay6 p q) C w g u) a := rfl
theorem chunk512 : k0_pay16 (k0_pay12 s C w) (k0_pay13 g) (k0_pay14 g) (k0_pay15 s C w g u) a = k0_pay19 (k0_pay18 s C w g u) a := rfl
theorem chunk1536 : k0_pay22 (k0_pay21 s C w g u a) = k0_pay19 (k0_pay18 s C w g u) a := rfl
theorem chunk2048 : k0_pay24 s C w g u a = k0_pay19 (k0_pay18 s C w g u) a := rfl
theorem chunk2560 : k0_pay27 s (k0_pay25 C) w g u a = k0_pay19 (k0_pay18 s C w g u) a := rfl
theorem chunk3072 : k0_pay29 (k0_pay28 s C w) g u a = k0_pay19 (k0_pay18 s C w g u) a := rfl
theorem chunk3584 : k0_pay32 (k0_pay30 s C w) (k0_pay31 g) u a = k0_pay19 (k0_pay18 s C w g u) a := rfl
theorem chunk4096 : k0_pay38 (k0_pay33 s C w) (k0_pay34 g) (k0_pay35 g) (k0_pay36 s C w g u) (k0_pay37 g) a = k0_pay19 (k0_pay18 s C w g u) a := rfl
theorem chunk4608 : k0_pay44 (k0_pay42 s C w g u) (k0_pay43 s C w g) a = k0_pay19 (k0_pay18 s C w g u) a := rfl
end chunks

/-- The loads of a chunk of 512 columns: its weights, its gates or ups, its running maxima. -/
abbrev ldw (x4 : Vec Ideal S5504x4096 .fp8e4m3) (o : Nat) (h : ∀ a, (![o, 0] : Fin 2 → Nat) a + S512x4096.size a ≤ S5504x4096.size a) : Vec Ideal S512x4096 .fp8e4m3 :=
  View.ld x4 (Rect.unit (s := S5504x4096) ![o, 0] S512x4096.size h)
abbrev ldg (x5 : Vec Ideal S256x11008 .bf16) (o : Nat) (h : ∀ a, (![0, o] : Fin 2 → Nat) a + S256x512.size a ≤ S256x11008.size a) : Vec Ideal S256x512 .bf16 :=
  View.ld x5 (Rect.unit (s := S256x11008) ![0, o] S256x512.size h)
abbrev lda (acc : Vec Ideal S8x5504 .f32) (o : Nat) (h : ∀ a, (![0, o] : Fin 2 → Nat) a + S8x512.size a ≤ S8x5504.size a) : Vec Ideal S8x512 .f32 :=
  View.ld acc (Rect.unit (s := S8x5504) ![0, o] S8x512.size h)

section pieces
variable (p q : Elt Ideal .f32) (C : Vec Ideal S256x4096 .fp8e5m2) (x4 : Vec Ideal S5504x4096 .fp8e4m3) (x5 : Vec Ideal S256x11008 .bf16) (acc : Vec Ideal S8x5504 .f32)

/-- A point's store of 512 columns of the product. -/
abbrev prodP (o : Nat) (h4 : ∀ a, (![o, 0] : Fin 2 → Nat) a + S512x4096.size a ≤ S5504x4096.size a) (h7 : ∀ a, (![0, o] : Fin 2 → Nat) a + S256x512.size a ≤ S256x5504.size a) :
    View.Piece (Elt Ideal) S256x5504 .f32 :=
  ⟨Rect.unit (s := S256x5504) ![0, o] S256x512.size h7, k0_pay17 (k0_pay6 p q) C (ldw x4 o h4)⟩

/-- All its stores of the product, the last one first. -/
def prodPieces : List (View.Piece (Elt Ideal) S256x5504 .f32) :=
  [⟨Rect.unit (s := S256x5504) ![0, 5120] S256x384.size inb_S256x5504_S256x384_0_5120,
      k0_pay45 (k0_pay6 p q) C (View.ld x4 (Rect.unit (s := S5504x4096) ![5120, 0] S384x4096.size inb_S5504x4096_S384x4096_5120_0))⟩,
    prodP p q C x4 4608 inb_S5504x4096_S512x4096_4608_0 inb_S256x5504_S256x512_0_4608,
    prodP p q C x4 4096 inb_S5504x4096_S512x4096_4096_0 inb_S256x5504_S256x512_0_4096,
    prodP p q C x4 3584 inb_S5504x4096_S512x4096_3584_0 inb_S256x5504_S256x512_0_3584,
    prodP p q C x4 3072 inb_S5504x4096_S512x4096_3072_0 inb_S256x5504_S256x512_0_3072,
    prodP p q C x4 2560 inb_S5504x4096_S512x4096_2560_0 inb_S256x5504_S256x512_0_2560,
    prodP p q C x4 2048 inb_S5504x4096_S512x4096_2048_0 inb_S256x5504_S256x512_0_2048,
    prodP p q C x4 1536 inb_S5504x4096_S512x4096_1536_0 inb_S256x5504_S256x512_0_1536,
    prodP p q C x4 1024 inb_S5504x4096_S512x4096_1024_0 inb_S256x5504_S256x512_0_1024,
    prodP p q C x4 512 inb_S5504x4096_S512x4096_512_0 inb_S256x5504_S256x512_0_512,
    prodP p q C x4 0 inb_S5504x4096_S512x4096_0_0 inb_S256x5504_S256x512_0_0]

/-- They leave the product. -/
theorem prodPieces_canon {L' : List (View.Piece (Elt Ideal) S256x5504 .f32)} :
    View.canon (prodPieces p q C x4 ++ L') = DACommon.prodA (k0_pay6 p q) C x4 :=
  canon_of _ (L := prodPieces p q C x4) ⟨prod384 _ _ _ _ _ inb_S256x5504_S256x384_0_5120,
    prod512 _ _ _ _ _ inb_S256x5504_S256x512_0_4608,
    prod512 _ _ _ _ _ inb_S256x5504_S256x512_0_4096,
    prod512 _ _ _ _ _ inb_S256x5504_S256x512_0_3584,
    prod512 _ _ _ _ _ inb_S256x5504_S256x512_0_3072,
    prod512 _ _ _ _ _ inb_S256x5504_S256x512_0_2560,
    prod512 _ _ _ _ _ inb_S256x5504_S256x512_0_2048,
    prod512 _ _ _ _ _ inb_S256x5504_S256x512_0_1536,
    prod512 _ _ _ _ _ inb_S256x5504_S256x512_0_1024,
    prod512 _ _ _ _ _ inb_S256x5504_S256x512_0_512,
    prod512 _ _ _ _ _ inb_S256x5504_S256x512_0_0, trivial⟩ ![256, 128] (by sl_kernel_rfl)

/-- All its stores of the running maxima, the last one first. -/
def maxPieces : List (View.Piece (Elt Ideal) S8x5504 .f32) :=
  [⟨Rect.unit (s := S8x5504) ![0, 5120] S8x384.size inb_S8x5504_S8x384_0_5120,
      k0_pay1 (k0_pay46 (k0_pay6 p q) C (View.ld x4 (Rect.unit (s := S5504x4096) ![5120, 0] S384x4096.size inb_S5504x4096_S384x4096_5120_0))
        (View.ld x5 (Rect.unit (s := S256x11008) ![0, 5120] S256x384.size inb_S256x11008_S256x384_0_5120)) (View.ld x5 (Rect.unit (s := S256x11008) ![0, 10624] S256x384.size inb_S256x11008_S256x384_0_10624))
        (View.ld acc (Rect.unit (s := S8x5504) ![0, 5120] S8x384.size inb_S8x5504_S8x384_0_5120)))⟩,
    ⟨Rect.unit (s := S8x5504) ![0, 4608] S8x512.size inb_S8x5504_S8x512_0_4608,
      k0_pay44 (k0_pay42 (k0_pay6 p q) C (ldw x4 4608 inb_S5504x4096_S512x4096_4608_0) (ldg x5 4608 inb_S256x11008_S256x512_0_4608) (ldg x5 10112 inb_S256x11008_S256x512_0_10112)) (k0_pay43 (k0_pay6 p q) C (ldw x4 4608 inb_S5504x4096_S512x4096_4608_0) (ldg x5 4608 inb_S256x11008_S256x512_0_4608)) (lda acc 4608 inb_S8x5504_S8x512_0_4608)⟩,
    ⟨Rect.unit (s := S8x5504) ![0, 4096] S8x512.size inb_S8x5504_S8x512_0_4096,
      k0_pay38 (k0_pay33 (k0_pay6 p q) C (ldw x4 4096 inb_S5504x4096_S512x4096_4096_0)) (k0_pay34 (ldg x5 4096 inb_S256x11008_S256x512_0_4096)) (k0_pay35 (ldg x5 4096 inb_S256x11008_S256x512_0_4096)) (k0_pay36 (k0_pay6 p q) C (ldw x4 4096 inb_S5504x4096_S512x4096_4096_0) (ldg x5 4096 inb_S256x11008_S256x512_0_4096) (ldg x5 9600 inb_S256x11008_S256x512_0_9600)) (k0_pay37 (ldg x5 4096 inb_S256x11008_S256x512_0_4096)) (lda acc 4096 inb_S8x5504_S8x512_0_4096)⟩,
    ⟨Rect.unit (s := S8x5504) ![0, 3584] S8x512.size inb_S8x5504_S8x512_0_3584,
      k0_pay32 (k0_pay30 (k0_pay6 p q) C (ldw x4 3584 inb_S5504x4096_S512x4096_3584_0)) (k0_pay31 (ldg x5 3584 inb_S256x11008_S256x512_0_3584)) (ldg x5 9088 inb_S256x11008_S256x512_0_9088) (lda acc 3584 inb_S8x5504_S8x512_0_3584)⟩,
    ⟨Rect.unit (s := S8x5504) ![0, 3072] S8x512.size inb_S8x5504_S8x512_0_3072,
      k0_pay29 (k0_pay28 (k0_pay6 p q) C (ldw x4 3072 inb_S5504x4096_S512x4096_3072_0)) (ldg x5 3072 inb_S256x11008_S256x512_0_3072) (ldg x5 8576 inb_S256x11008_S256x512_0_8576) (lda acc 3072 inb_S8x5504_S8x512_0_3072)⟩,
    ⟨Rect.unit (s := S8x5504) ![0, 2560] S8x512.size inb_S8x5504_S8x512_0_2560,
      k0_pay27 (k0_pay6 p q) (k0_pay25 C) (ldw x4 2560 inb_S5504x4096_S512x4096_2560_0) (ldg x5 2560 inb_S256x11008_S256x512_0_2560) (ldg x5 8064 inb_S256x11008_S256x512_0_8064) (lda acc 2560 inb_S8x5504_S8x512_0_2560)⟩,
    ⟨Rect.unit (s := S8x5504) ![0, 2048] S8x512.size inb_S8x5504_S8x512_0_2048,
      k0_pay24 (k0_pay6 p q) C (ldw x4 2048 inb_S5504x4096_S512x4096_2048_0) (ldg x5 2048 inb_S256x11008_S256x512_0_2048) (ldg x5 7552 inb_S256x11008_S256x512_0_7552) (lda acc 2048 inb_S8x5504_S8x512_0_2048)⟩,
    ⟨Rect.unit (s := S8x5504) ![0, 1536] S8x512.size inb_S8x5504_S8x512_0_1536,
      k0_pay22 (k0_pay21 (k0_pay6 p q) C (ldw x4 1536 inb_S5504x4096_S512x4096_1536_0) (ldg x5 1536 inb_S256x11008_S256x512_0_1536) (ldg x5 7040 inb_S256x11008_S256x512_0_7040) (lda acc 1536 inb_S8x5504_S8x512_0_1536))⟩,
    ⟨Rect.unit (s := S8x5504) ![0, 1024] S8x512.size inb_S8x5504_S8x512_0_1024,
      k0_pay19 (k0_pay18 (k0_pay6 p q) C (ldw x4 1024 inb_S5504x4096_S512x4096_1024_0) (ldg x5 1024 inb_S256x11008_S256x512_0_1024) (ldg x5 6528 inb_S256x11008_S256x512_0_6528)) (lda acc 1024 inb_S8x5504_S8x512_0_1024)⟩,
    ⟨Rect.unit (s := S8x5504) ![0, 512] S8x512.size inb_S8x5504_S8x512_0_512,
      k0_pay16 (k0_pay12 (k0_pay6 p q) C (ldw x4 512 inb_S5504x4096_S512x4096_512_0)) (k0_pay13 (ldg x5 512 inb_S256x11008_S256x512_0_512)) (k0_pay14 (ldg x5 512 inb_S256x11008_S256x512_0_512)) (k0_pay15 (k0_pay6 p q) C (ldw x4 512 inb_S5504x4096_S512x4096_512_0) (ldg x5 512 inb_S256x11008_S256x512_0_512) (ldg x5 6016 inb_S256x11008_S256x512_0_6016)) (lda acc 512 inb_S8x5504_S8x512_0_512)⟩,
    ⟨Rect.unit (s := S8x5504) ![0, 0] S8x512.size inb_S8x5504_S8x512_0_0,
      k0_pay11 (k0_pay7 p q C (ldw x4 0 inb_S5504x4096_S512x4096_0_0)) (k0_pay8 (ldg x5 0 inb_S256x11008_S256x512_0_0)) (k0_pay9 (ldg x5 0 inb_S256x11008_S256x512_0_0)) (k0_pay10 p q C (ldw x4 0 inb_S5504x4096_S512x4096_0_0) (ldg x5 0 inb_S256x11008_S256x512_0_0) (ldg x5 5504 inb_S256x11008_S256x512_0_5504)) (lda acc 0 inb_S8x5504_S8x512_0_0)⟩]

/-- Each of them is a block of what the point makes of the running maxima. -/
theorem maxPieces_of : View.PiecesOf (stepV (DACommon.prodA (k0_pay6 p q) C x4) x5 acc) (maxPieces p q C x4 x5 acc) :=
  ⟨max384 5120 10624 rfl _ _ _ _ _ _ _ _ _,
    fun x => (congrFun (chunk4608 _ _ _ _ _ _) x).trans (max512 4608 10112 rfl _ _ _ _ _ _ _ _ _ x),
    fun x => (congrFun (chunk4096 _ _ _ _ _ _) x).trans (max512 4096 9600 rfl _ _ _ _ _ _ _ _ _ x),
    fun x => (congrFun (chunk3584 _ _ _ _ _ _) x).trans (max512 3584 9088 rfl _ _ _ _ _ _ _ _ _ x),
    fun x => (congrFun (chunk3072 _ _ _ _ _ _) x).trans (max512 3072 8576 rfl _ _ _ _ _ _ _ _ _ x),
    fun x => (congrFun (chunk2560 _ _ _ _ _ _) x).trans (max512 2560 8064 rfl _ _ _ _ _ _ _ _ _ x),
    fun x => (congrFun (chunk2048 _ _ _ _ _ _) x).trans (max512 2048 7552 rfl _ _ _ _ _ _ _ _ _ x),
    fun x => (congrFun (chunk1536 _ _ _ _ _ _) x).trans (max512 1536 7040 rfl _ _ _ _ _ _ _ _ _ x),
    max512 1024 6528 rfl _ _ _ _ _ _ _ _ _,
    fun x => (congrFun (chunk512 _ _ _ _ _ _) x).trans (max512 512 6016 rfl _ _ _ _ _ _ _ _ _ x),
    fun x => (congrFun (chunk0 _ _ _ _ _ _ _) x).trans (max512 0 5504 rfl _ _ _ _ _ _ _ _ _ x), trivial⟩

/-- They leave the new running maxima. -/
theorem maxPieces_canon {L' : List (View.Piece (Elt Ideal) S8x5504 .f32)} :
    View.canon (maxPieces p q C x4 x5 acc ++ L') = stepV (DACommon.prodA (k0_pay6 p q) C x4) x5 acc :=
  canon_of _ (maxPieces_of p q C x4 x5 acc) ![8, 128] (by sl_kernel_rfl)

/-- The load of the whole buffer after them. -/
theorem maxPieces_read (v : View sig .tc .vmem S8x5504 .f32) {L' : List (View.Piece (Elt Ideal) S8x5504 .f32)} (inb : ∀ a, (![0, 0] : Fin 2 → Nat) a + S8x5504.size a ≤ S8x5504.size a) :
    v.readCov (maxPieces p q C x4 x5 acc ++ L') (Rect.unit (s := S8x5504) ![0, 0] S8x5504.size inb).toLoadRect = stepV (DACommon.prodA (k0_pay6 p q) C x4) x5 acc := by
  rw [View.readCov_eq_canon', maxPieces_canon]
  funext j
  refine congrArg (stepV (DACommon.prodA (k0_pay6 p q) C x4) x5 acc) (funext fun a => Fin.ext ?_)
  fin_cases a
  · exact (Nat.zero_add _).trans (Nat.one_mul _)
  · exact (Nat.zero_add _).trans (Nat.one_mul _)
end pieces

/-- The codes it leaves. -/
theorem outs1_A (c : Dev nD) (t : Fin cfg0.N) (h0 : t.val % 32 = 0) (h1 : ¬t.val % 32 = 31) : (outsAt0 m c t.val t.isLt).1 = bcodes m c t := by
  rw [outsAt0_A m c t h0 h1]
  dsimp only
  frame_out
  exact pcodes_eq m c t _ (ld11 _ _ _)

/-- The product it leaves. -/
theorem outs2_A (c : Dev nD) (t : Fin cfg0.N) (h0 : t.val % 32 = 0) (h1 : ¬t.val % 32 = 31) : (outsAt0 m c t.val t.isLt).2.1 = bprod m c t := by
  rw [outsAt0_A m c t h0 h1]
  dsimp only
  frame_out
  refine (prodPieces_canon (lds (iblk m c 0 t)) (lds (iblk m c 2 t)) (k0_pay5 (iblk m c 3 t) (lds (iblk m c 1 t))) (iblk m c 4 t)).trans ?_
  exact pprod_eq m c t _ _ _ (ld11 _ _ _) (ld11 _ _ _) (ld11 _ _ _)

/-- The codes it leaves. -/
theorem outs1_B (c : Dev nD) (t : Fin cfg0.N) (h0 : ¬t.val % 32 = 0) (h1 : ¬t.val % 32 = 31) : (outsAt0 m c t.val t.isLt).1 = bcodes m c t := by
  rw [outsAt0_B m c t h0 h1]
  dsimp only
  frame_out
  exact pcodes_eq m c t _ (ld11 _ _ _)

/-- The product it leaves. -/
theorem outs2_B (c : Dev nD) (t : Fin cfg0.N) (h0 : ¬t.val % 32 = 0) (h1 : ¬t.val % 32 = 31) : (outsAt0 m c t.val t.isLt).2.1 = bprod m c t := by
  rw [outsAt0_B m c t h0 h1]
  dsimp only
  frame_out
  refine (prodPieces_canon (lds (iblk m c 0 t)) (lds (iblk m c 2 t)) (k0_pay5 (iblk m c 3 t) (lds (iblk m c 1 t))) (iblk m c 4 t)).trans ?_
  exact pprod_eq m c t _ _ _ (ld11 _ _ _) (ld11 _ _ _) (ld11 _ _ _)

/-- The codes it leaves. -/
theorem outs1_C (c : Dev nD) (t : Fin cfg0.N) (h0 : ¬t.val % 32 = 0) (h1 : t.val % 32 = 31) : (outsAt0 m c t.val t.isLt).1 = bcodes m c t := by
  rw [outsAt0_C m c t h0 h1]
  dsimp only
  frame_out
  exact pcodes_eq m c t _ (ld11 _ _ _)

/-- The product it leaves. -/
theorem outs2_C (c : Dev nD) (t : Fin cfg0.N) (h0 : ¬t.val % 32 = 0) (h1 : t.val % 32 = 31) : (outsAt0 m c t.val t.isLt).2.1 = bprod m c t := by
  rw [outsAt0_C m c t h0 h1]
  dsimp only
  frame_out
  refine (prodPieces_canon (lds (iblk m c 0 t)) (lds (iblk m c 2 t)) (k0_pay5 (iblk m c 3 t) (lds (iblk m c 1 t))) (iblk m c 4 t)).trans ?_
  exact pprod_eq m c t _ _ _ (ld11 _ _ _) (ld11 _ _ _) (ld11 _ _ _)

/-- The running maxima it leaves. -/
theorem scratch_B (c : Dev nD) (t : Fin cfg0.N) (h0 : ¬t.val % 32 = 0) (h1 : ¬t.val % 32 = 31) :
    (outsAt0 m c t.val t.isLt).2.2.2.2 = stepV (bprod m c t) (iblk m c 5 t) (outsAt0 m c (t.val - 1) (by omega)).2.2.2.2 := by
  rw [← pprod_eq m c t (lds (iblk m c 0 t)) (lds (iblk m c 2 t)) (lds (iblk m c 1 t)) (ld11 _ _ _) (ld11 _ _ _) (ld11 _ _ _), outsAt0_B m c t h0 h1]
  dsimp only
  frame_out
  simp only [read_unread_whole]
  generalize (outsAt0 m c (t.val - 1) _).2.2.2.2 = acc
  exact maxPieces_canon (lds (iblk m c 0 t)) (lds (iblk m c 2 t)) (k0_pay5 (iblk m c 3 t) (lds (iblk m c 1 t))) (iblk m c 4 t) (iblk m c 5 t) acc

/-- The running maxima the first point leaves. -/
theorem scratch_A (c : Dev nD) (t : Fin cfg0.N) (h0 : t.val % 32 = 0) (h1 : ¬t.val % 32 = 31) :
    (outsAt0 m c t.val t.isLt).2.2.2.2 = stepV (bprod m c t) (iblk m c 5 t) (k0_pay4 (F := Ideal)) := by
  rw [← pprod_eq m c t (lds (iblk m c 0 t)) (lds (iblk m c 2 t)) (lds (iblk m c 1 t)) (ld11 _ _ _) (ld11 _ _ _) (ld11 _ _ _), outsAt0_A m c t h0 h1]
  dsimp only
  frame_open
  simp (disch := decide) only [↓ View.readCov_skip, ↓ View.readCov_fill]
  frame_out
  exact maxPieces_canon (lds (iblk m c 0 t)) (lds (iblk m c 2 t)) (k0_pay5 (iblk m c 3 t) (lds (iblk m c 1 t))) (iblk m c 4 t) (iblk m c 5 t) (k0_pay4 (F := Ideal))

/-- What the last point leaves in the scale's buffer. -/
theorem outs3_C (c : Dev nD) (t : Fin cfg0.N) (h0 : ¬t.val % 32 = 0) (h1 : t.val % 32 = 31) :
    (outsAt0 m c t.val t.isLt).2.2.1 = fun _ => k0_pay2 (F := Ideal) (stepV (bprod m c t) (iblk m c 5 t) (outsAt0 m c (t.val - 1) (by omega)).2.2.2.2) := by
  rw [← pprod_eq m c t (lds (iblk m c 0 t)) (lds (iblk m c 2 t)) (lds (iblk m c 1 t)) (ld11 _ _ _) (ld11 _ _ _) (ld11 _ _ _), outsAt0_C m c t h0 h1]
  dsimp only
  frame_out
  simp only [read_unread_whole]
  generalize (outsAt0 m c (t.val - 1) _).2.2.2.2 = acc
  exact funext fun _ => congrArg (k0_pay2 (F := Ideal)) (maxPieces_read (lds (iblk m c 0 t)) (lds (iblk m c 2 t)) (k0_pay5 (iblk m c 3 t) (lds (iblk m c 1 t))) (iblk m c 4 t) (iblk m c 5 t) acc _ _)

/-- What the last point leaves in the inverse scale's buffer. -/
theorem outs4_C (c : Dev nD) (t : Fin cfg0.N) (h0 : ¬t.val % 32 = 0) (h1 : t.val % 32 = 31) :
    (outsAt0 m c t.val t.isLt).2.2.2.1 = fun _ => k0_pay3 (F := Ideal) (stepV (bprod m c t) (iblk m c 5 t) (outsAt0 m c (t.val - 1) (by omega)).2.2.2.2) := by
  rw [← pprod_eq m c t (lds (iblk m c 0 t)) (lds (iblk m c 2 t)) (lds (iblk m c 1 t)) (ld11 _ _ _) (ld11 _ _ _) (ld11 _ _ _), outsAt0_C m c t h0 h1]
  dsimp only
  frame_out
  simp only [read_unread_whole]
  generalize (outsAt0 m c (t.val - 1) _).2.2.2.2 = acc
  exact funext fun _ => congrArg (k0_pay3 (F := Ideal)) (maxPieces_read (lds (iblk m c 0 t)) (lds (iblk m c 2 t)) (k0_pay5 (iblk m c 3 t) (lds (iblk m c 1 t))) (iblk m c 4 t) (iblk m c 5 t) acc _ _)

end Cert.DAIdeal.Body
end
-- ==== Proof.DAValue.lean ====
/-
  The value of `DAIdeal` over the extended reals, put together from its points: the whole codes, the whole product, and the
  scale and inverse scale of the whole hidden gradient, its rows folded into the running maxima point by point.
-/
module

public import proofs.«01_k».proof.Proof.DAPoint

@[expose] public section

set_option maxRecDepth 16384

noncomputable section

namespace Cert.DAIdeal.Body

open Cert.DAIdeal Cert.DAIdeal.Gen
open Idealize.ShloMosaic Idealize.ShloMosaic.TcCoe
open Idealize.SL Idealize.SL.Sem
open Idealize.ShloMosaic.Pipeline (Dat Window)

variable (m : (ℓ : Loc nD τ sig) → Buf (Elt Ideal) ℓ) (ρ : Dev nD → PrngReg)

/-- What a point leaves in the codes' buffer. -/
theorem outs1 (c : Dev nD) (t : Fin cfg0.N) : (outsAt0 m c t.val t.isLt).1 = bcodes m c t := by
  by_cases h0 : t.val % 32 = 0
  · exact outs1_A m c t h0 (by omega)
  · by_cases h1 : t.val % 32 = 31
    · exact outs1_C m c t h0 h1
    · exact outs1_B m c t h0 h1

/-- What it leaves in the product's buffer. -/
theorem outs2 (c : Dev nD) (t : Fin cfg0.N) : (outsAt0 m c t.val t.isLt).2.1 = bprod m c t := by
  by_cases h0 : t.val % 32 = 0
  · exact outs2_A m c t h0 (by omega)
  · by_cases h1 : t.val % 32 = 31
    · exact outs2_C m c t h0 h1
    · exact outs2_B m c t h0 h1

/-- The codes of the block are the block of the codes. -/
theorem bcodes_at (c : Dev nD) (t : Fin cfg0.N) (r : Fin 256) (k : Fin 4096) (R : Fin 8192) (hR : (R : Nat) = t.val * 256 + r) :
    bcodes m c t (ix2 r k) = codes m c (ix2 R k) :=
  congrArg (fun z : EReal => Common.clipG (z * sc (m ((c.tc : Thread nD τ).loc main_arg1)))) (iblk_3 m c t r k R hR)

/-- The product of the block is the block of the product. -/
theorem bprod_at (c : Dev nD) (t : Fin cfg0.N) (r : Fin 256) (k : Fin 5504) (R : Fin 8192) (hR : (R : Nat) = t.val * 256 + r) :
    bprod m c t (ix2 r k) = prod m c (ix2 R k) :=
  congrArg (fun z : EReal => z * (sc (m ((c.tc : Thread nD τ).loc main_arg0)) * sc (m ((c.tc : Thread nD τ).loc main_arg2))))
    (Finset.sum_congr rfl fun q _ => congrArg (fun z : EReal => z * _) (bcodes_at m c t r q R hR))

/-- The larger gradient of the block is that of the whole at the block's row. -/
theorem big_at (c : Dev nD) (t : Fin cfg0.N) (r : Fin 256) (k : Fin 5504) (R : Fin 8192) (hR : (R : Nat) = t.val * 256 + r) :
    DACommon.big (bprod m c t) (iblk m c 5 t) r k = DACommon.big (prod m c) (m ((c.tc : Thread nD τ).loc main_arg5)) R k := by
  unfold DACommon.big
  exact congr (congrArg₂ DACommon.big1 (bprod_at m c t r k R hR) (iblk_5 m c t r _ R hR)) (iblk_5 m c t r _ R hR)

theorem pay4_at (s : Fin 8) (k : Fin 5504) : k0_pay4 (F := Ideal) (ix2 s k) = 0 := by
  pointwise [k0_pay4]

/-- The scale and the inverse scale the last point stores, of the running maxima. -/
theorem pay2_eq (v : Vec Ideal S8x5504 .f32) (q : EReal) (hq : 0 ≤ q)
    (h : Finset.fold max ⊥ (fun x : Fin 8 × Fin 5504 => v (ix2 x.1 x.2)) Finset.univ * Ideal.ofBits FTy.f32 932333861#32 = q) :
    k0_pay2 v = PowScale.scaleOf q := by
  pointwise [k0_pay2]
  rw [PowScale.ofBits_bot, h]
  exact PowScale.scale_count hq

theorem pay3_eq (v : Vec Ideal S8x5504 .f32) (q : EReal) (hq : 0 ≤ q)
    (h : Finset.fold max ⊥ (fun x : Fin 8 × Fin 5504 => v (ix2 x.1 x.2)) Finset.univ * Ideal.ofBits FTy.f32 932333861#32 = q) :
    k0_pay3 v = PowScale.invOf q := by
  pointwise [k0_pay3]
  rw [PowScale.ofBits_bot, h]
  exact PowScale.inv_count hq

/-- What the running maxima hold once the rows below `n` are folded in. -/
def Holds (c : Dev nD) (n : Nat) (acc : Vec Ideal S8x5504 .f32) : Prop :=
  ∀ (s : Fin 8) (k : Fin 5504) (B : EReal), acc (ix2 s k) ≤ B ↔ 0 ≤ B ∧ ∀ r : Fin 8192, (r : Nat) < n → (r : Nat) % 8 = s →
    DACommon.big (prod m c) (m ((c.tc : Thread nD τ).loc main_arg5)) r k ≤ B

theorem holds_zero (c : Dev nD) : Holds m c 0 (k0_pay4 (F := Ideal)) := fun s k B => by
  rw [pay4_at]
  exact ⟨fun h => ⟨h, fun r hr => absurd hr (Nat.not_lt_zero _)⟩, fun h => h.1⟩

theorem holds_step (c : Dev nD) (t : Fin cfg0.N) (acc : Vec Ideal S8x5504 .f32) (h : Holds m c (t.val * 256) acc) :
    Holds m c ((t.val + 1) * 256) (stepV (bprod m c t) (iblk m c 5 t) acc) := fun s k B => by
  have hN : t.val < 32 := lt_of_lt_of_eq t.isLt N_0
  have hs := s.isLt
  have e : stepV (bprod m c t) (iblk m c 5 t) acc (ix2 s k) = max (acc (ix2 s k)) (Finset.fold max ⊥ (fun q : Fin 32 =>
      DACommon.big (bprod m c t) (iblk m c 5 t) ⟨(q : Nat) * 8 + s, by omega⟩ k) Finset.univ) := rfl
  rw [e, max_le_iff, h s k B, Finset.fold_max_le]
  constructor
  · rintro ⟨⟨h0, h1⟩, -, h2⟩
    refine ⟨h0, fun r hr hs => ?_⟩
    by_cases hlt : (r : Nat) < t.val * 256
    · exact h1 r hlt hs
    · have hx : ((r : Nat) - t.val * 256) / 8 < 32 := by omega
      have := h2 ⟨((r : Nat) - t.val * 256) / 8, hx⟩ (Finset.mem_univ _)
      rwa [big_at m c t _ k r (by show (r : Nat) = t.val * 256 + (((r : Nat) - t.val * 256) / 8 * 8 + s); omega)] at this
  · rintro ⟨h0, h1⟩
    refine ⟨⟨h0, fun r hr hs => h1 r (by omega) hs⟩, bot_le, fun x _ => ?_⟩
    have hx := x.isLt
    rw [big_at m c t _ k ⟨t.val * 256 + ((x : Nat) * 8 + s), by omega⟩ rfl]
    exact h1 _ (by show t.val * 256 + ((x : Nat) * 8 + s) < _; omega) (by show (t.val * 256 + ((x : Nat) * 8 + s)) % 8 = s; omega)

/-- The largest of the running maxima, once all rows are folded in. -/
theorem holds_max (c : Dev nD) (acc : Vec Ideal S8x5504 .f32) (h : Holds m c 8192 acc) :
    Finset.fold max ⊥ (fun x : Fin 8 × Fin 5504 => acc (ix2 x.1 x.2)) Finset.univ * Ideal.ofBits FTy.f32 932333861#32 = quot m c := by
  refine congrArg (· * Ideal.ofBits FTy.f32 932333861#32) (eq_of_forall_ge_iff fun B => ?_)
  rw [Finset.fold_max_le, DACommon.bigMax_le]
  constructor
  · rintro ⟨-, h1⟩ r k
    exact ((h ⟨(r : Nat) % 8, Nat.mod_lt _ (by decide)⟩ k B).1 (h1 (_, k) (Finset.mem_univ _))).2 r r.isLt rfl
  · intro h1
    exact ⟨bot_le, fun x _ => (h x.1 x.2 B).2 ⟨(DACommon.big_nonneg _ _ ⟨0, Nat.zero_lt_succ _⟩ x.2).trans (h1 _ x.2), fun r _ _ => h1 r x.2⟩⟩

/-- The running maxima after point `n`, for all points but the last. -/
theorem holds_after (c : Dev nD) : ∀ (n : Nat) (hn : n < cfg0.N), n < 31 → Holds m c ((n + 1) * 256) (outsAt0 m c n hn).2.2.2.2
  | 0, hn, _ => by
    have e := scratch_A m c ⟨0, hn⟩ rfl (by show ¬ 0 % 32 = 31; decide)
    have h := holds_step m c ⟨0, hn⟩ _ (by simpa using holds_zero m c)
    rw [← e] at h
    exact h
  | n + 1, hn, h31 => by
    have e := scratch_B m c ⟨n + 1, hn⟩ (by show ¬ (n + 1) % 32 = 0; omega) (by show ¬ (n + 1) % 32 = 31; omega)
    have h := holds_step m c ⟨n + 1, hn⟩ _ (holds_after c n (by omega) (by omega))
    exact (congrArg (Holds m c ((n + 1 + 1) * 256)) e).mpr h

/-- The last of the running maxima. -/
theorem holds_last (c : Dev nD) (t : Fin cfg0.N) (h1 : t.val % 32 = 31) :
    Holds m c 8192 (stepV (bprod m c t) (iblk m c 5 t) (outsAt0 m c (t.val - 1) (by omega)).2.2.2.2) := by
  have hN : t.val < 32 := lt_of_lt_of_eq t.isLt N_0
  have ht : t.val = 31 := by omega
  have h := holds_after m c (t.val - 1) (by omega) (by omega)
  have h' := holds_step m c t _ (by rwa [show (t.val - 1 + 1) * 256 = t.val * 256 by omega] at h)
  rwa [show (t.val + 1) * 256 = 8192 by omega] at h'

theorem flush8 : ∀ t : Fin cfg0.N, (cfg0.win 8).flush t = true → t.val % 32 = 31 := by decide +kernel
theorem flush9 : ∀ t : Fin cfg0.N, (cfg0.win 9).flush t = true → t.val % 32 = 31 := by decide +kernel

/-- The codes after the run. -/
theorem arr_codes (c : Dev nD) : (dats m 0 c).arrAt 6 cfg0.N = codes m c := by
  refine Dat.arrAt_eq_of_covers (dats m 0 c) 6 _ (by decide +kernel) fun t _ y => ?_
  rw [after0_6, outs1]
  have hN : t.val < 32 := lt_of_lt_of_eq t.isLt N_0
  have h0 : (y 0 : Nat) < 256 := (y 0).isLt
  have h1 : (y 1 : Nat) < 4096 := (y 1).isLt
  have e1 : win0_6.xinj (grid0.coords t) y = ix2 (⟨y 0, h0⟩ : Fin 256) (⟨y 1, h1⟩ : Fin 4096) := ix2_of _ _ _ rfl rfl
  have e2 : (win0_6.blk t).view.emb y = ix2 (⟨t.val * 256 + (y 0 : Nat), by omega⟩ : Fin 8192) (⟨y 1, h1⟩ : Fin 4096) := ix2_of _ _ _ (emb6_0 t y) (emb6_1 t y)
  have hb := bcodes_at m c t ⟨y 0, h0⟩ ⟨y 1, h1⟩ ⟨t.val * 256 + (y 0 : Nat), by omega⟩ rfl
  rw [← e1, ← e2] at hb
  generalize bcodes m c t = v at hb ⊢
  generalize codes m c = w at hb ⊢
  exact hb

/-- The product after the run. -/
theorem arr_prod (c : Dev nD) : (dats m 0 c).arrAt 7 cfg0.N = prod m c := by
  refine Dat.arrAt_eq_of_covers (dats m 0 c) 7 _ (by decide +kernel) fun t _ y => ?_
  rw [after0_7, outs2]
  have hN : t.val < 32 := lt_of_lt_of_eq t.isLt N_0
  have h0 : (y 0 : Nat) < 256 := (y 0).isLt
  have h1 : (y 1 : Nat) < 5504 := (y 1).isLt
  have e1 : win0_7.xinj (grid0.coords t) y = ix2 (⟨y 0, h0⟩ : Fin 256) (⟨y 1, h1⟩ : Fin 5504) := ix2_of _ _ _ rfl rfl
  have e2 : (win0_7.blk t).view.emb y = ix2 (⟨t.val * 256 + (y 0 : Nat), by omega⟩ : Fin 8192) (⟨y 1, h1⟩ : Fin 5504) := ix2_of _ _ _ (emb7_0 t y) (emb7_1 t y)
  have hb := bprod_at m c t ⟨y 0, h0⟩ ⟨y 1, h1⟩ ⟨t.val * 256 + (y 0 : Nat), by omega⟩ rfl
  rw [← e1, ← e2] at hb
  generalize bprod m c t = v at hb ⊢
  generalize prod m c = w at hb ⊢
  exact hb

/-- The scale after the run. -/
theorem arr_scale (c : Dev nD) : (dats m 0 c).arrAt 8 cfg0.N = fun _ => PowScale.scaleOf (quot m c) := by
  refine Dat.arrAt_eq_of_covers (dats m 0 c) 8 _ (by decide +kernel) fun t hf y => ?_
  have h1 := flush8 t hf
  rw [after0_8, outs3_C m c t (by omega) h1, pay2_eq _ (quot m c) (DACommon.quotA_nonneg _ _) (holds_max m c _ (holds_last m c t h1))]
  generalize PowScale.scaleOf _ = s
  rfl

/-- The inverse scale after the run. -/
theorem arr_inv (c : Dev nD) : (dats m 0 c).arrAt 9 cfg0.N = fun _ => PowScale.invOf (quot m c) := by
  refine Dat.arrAt_eq_of_covers (dats m 0 c) 9 _ (by decide +kernel) fun t hf y => ?_
  have h1 := flush9 t hf
  rw [after0_9, outs4_C m c t (by omega) h1, pay3_eq _ (quot m c) (DACommon.quotA_nonneg _ _) (holds_max m c _ (holds_last m c t h1))]
  generalize PowScale.invOf _ = s
  rfl

/-- Every run ends with the codes, the product, the scale and the inverse scale, the arguments kept. -/
theorem run : θ_run defs (onTc (τ := τ) (main (F := Ideal))) ⟨m, fun _ => 0, ρ⟩ (fun r => ∀ c : Dev nD,
      r.2.mem ((c.tc : Thread nD τ).loc main_v0_0) = codes m c
      ∧ r.2.mem ((c.tc : Thread nD τ).loc main_v0_1) = prod m c
      ∧ r.2.mem ((c.tc : Thread nD τ).loc main_v0_2) = (fun _ => PowScale.scaleOf (quot m c))
      ∧ r.2.mem ((c.tc : Thread nD τ).loc main_v0_3) = (fun _ => PowScale.invOf (quot m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (arr_codes m c), (h c).2.1.trans (arr_prod m c), (h c).2.2.1.trans (arr_scale m c), (h c).2.2.2.1.trans (arr_inv m c), (h c).2.2.2.2⟩) (Value.run_blocks m ρ)

end Cert.DAIdeal.Body
end
-- ==== Proof.DARefValue.lean ====
/-
  The value of `DARefIdeal` over the extended reals: its one point stores the codes of the whole array, the whole product,
  and the scale and inverse scale of the whole hidden gradient.
-/
module

public import proofs.«01_k».proof.Proof.DACommon
public import proofs.«01_k».proof.Proof.Gen.DARefIdeal.Value

@[expose] public section

set_option maxRecDepth 16384

noncomputable section

namespace Cert.DARefIdeal.Body

open Cert.DARefIdeal Cert.DARefIdeal.Gen
open Idealize.ShloMosaic Idealize.ShloMosaic.TcCoe
open Idealize.SL Idealize.SL.Sem
open Idealize.ShloMosaic.Pipeline (Dat Window)

variable (m : (ℓ : Loc nD τ sig) → Buf (Elt Ideal) ℓ) (ρ : Dev nD → PrngReg)

theorem idx0_0 : ∀ t : Fin cfg0.N, win0_0.index t 0 = 0 := by decide +kernel
theorem idx0_1 : ∀ t : Fin cfg0.N, win0_0.index t 1 = 0 := by decide +kernel
theorem idx1_0 : ∀ t : Fin cfg0.N, win0_1.index t 0 = 0 := by decide +kernel
theorem idx1_1 : ∀ t : Fin cfg0.N, win0_1.index t 1 = 0 := by decide +kernel
theorem idx2_0 : ∀ t : Fin cfg0.N, win0_2.index t 0 = 0 := by decide +kernel
theorem idx2_1 : ∀ t : Fin cfg0.N, win0_2.index t 1 = 0 := by decide +kernel
theorem idx3_0 : ∀ t : Fin cfg0.N, win0_3.index t 0 = 0 := by decide +kernel
theorem idx3_1 : ∀ t : Fin cfg0.N, win0_3.index t 1 = 0 := by decide +kernel
theorem idx4_0 : ∀ t : Fin cfg0.N, win0_4.index t 0 = 0 := by decide +kernel
theorem idx4_1 : ∀ t : Fin cfg0.N, win0_4.index t 1 = 0 := by decide +kernel
theorem idx5_0 : ∀ t : Fin cfg0.N, win0_5.index t 0 = 0 := by decide +kernel
theorem idx5_1 : ∀ t : Fin cfg0.N, win0_5.index t 1 = 0 := by decide +kernel
theorem idx6_0 : ∀ t : Fin cfg0.N, win0_6.index t 0 = 0 := by decide +kernel
theorem idx6_1 : ∀ t : Fin cfg0.N, win0_6.index t 1 = 0 := by decide +kernel
theorem idx7_0 : ∀ t : Fin cfg0.N, win0_7.index t 0 = 0 := by decide +kernel
theorem idx7_1 : ∀ t : Fin cfg0.N, win0_7.index t 1 = 0 := by decide +kernel

theorem iblk_0 (c : Dev nD) (t : Fin cfg0.N) : iblk m c 0 t = m ((c.tc : Thread nD τ).loc main_arg0) := by
  funext j
  blk_point [iblk, V, idx0_0, idx0_1]
theorem iblk_1 (c : Dev nD) (t : Fin cfg0.N) : iblk m c 1 t = m ((c.tc : Thread nD τ).loc main_arg1) := by
  funext j
  blk_point [iblk, V, idx1_0, idx1_1]
theorem iblk_2 (c : Dev nD) (t : Fin cfg0.N) : iblk m c 2 t = m ((c.tc : Thread nD τ).loc main_arg2) := by
  funext j
  blk_point [iblk, V, idx2_0, idx2_1]
theorem iblk_3 (c : Dev nD) (t : Fin cfg0.N) : iblk m c 3 t = m ((c.tc : Thread nD τ).loc main_arg3) := by
  funext j
  blk_point [iblk, V, idx3_0, idx3_1]
theorem iblk_4 (c : Dev nD) (t : Fin cfg0.N) : iblk m c 4 t = m ((c.tc : Thread nD τ).loc main_arg4) := by
  funext j
  blk_point [iblk, V, idx4_0, idx4_1]
theorem iblk_5 (c : Dev nD) (t : Fin cfg0.N) : iblk m c 5 t = m ((c.tc : Thread nD τ).loc main_arg5) := by
  funext j
  blk_point [iblk, V, idx5_0, idx5_1]

theorem emb6_0 (t : Fin cfg0.N) (y : (win0_6.xblock (grid0.coords t)).Idx) :
    ((win0_6.blk t).view.emb y 0 : Nat) = (y 0 : Nat) :=
  Window.rect_emb_val_of_index_zero win0_6 t 0 (idx6_0 t) y
theorem emb6_1 (t : Fin cfg0.N) (y : (win0_6.xblock (grid0.coords t)).Idx) :
    ((win0_6.blk t).view.emb y 1 : Nat) = (y 1 : Nat) :=
  Window.rect_emb_val_of_index_zero win0_6 t 1 (idx6_1 t) y
theorem emb7_0 (t : Fin cfg0.N) (y : (win0_7.xblock (grid0.coords t)).Idx) :
    ((win0_7.blk t).view.emb y 0 : Nat) = (y 0 : Nat) :=
  Window.rect_emb_val_of_index_zero win0_7 t 0 (idx7_0 t) y
theorem emb7_1 (t : Fin cfg0.N) (y : (win0_7.xblock (grid0.coords t)).Idx) :
    ((win0_7.blk t).view.emb y 1 : Nat) = (y 1 : Nat) :=
  Window.rect_emb_val_of_index_zero win0_7 t 1 (idx7_1 t) y

/-- The one entry of a scalar argument. -/
abbrev sc (v : Vec Ideal S1x1 .f32) : EReal := v (ix2 0 0)

/-- The codes of the whole array. -/
def codes (c : Dev nD) : Vec Ideal S8192x4096 .fp8e5m2 :=
  DACommon.codesD (sc (m ((c.tc : Thread nD τ).loc main_arg1))) (m ((c.tc : Thread nD τ).loc main_arg3))

/-- The whole product. -/
def prod (c : Dev nD) : Vec Ideal S8192x5504 .f32 :=
  DACommon.prodA (sc (m ((c.tc : Thread nD τ).loc main_arg0)) * sc (m ((c.tc : Thread nD τ).loc main_arg2))) (codes m c) (m ((c.tc : Thread nD τ).loc main_arg4))

/-- The quotient of the whole hidden gradient. -/
def quot (c : Dev nD) : EReal := DACommon.quotA (prod m c) (m ((c.tc : Thread nD τ).loc main_arg5))

/-- The codes the reference stores. -/
theorem pay3_eq (v : Vec Ideal S8192x4096 .bf16) (n : Elt Ideal .f32) : k0_pay3 v n = DACommon.codesD n v := by
  funext i
  unfold DACommon.codesD Common.clipG Common.cst
  pointwise [k0_pay3]

/-- The product the reference stores. -/
theorem pay4_eq (v : Vec Ideal S8192x4096 .bf16) (n : Elt Ideal .f32) (w : Vec Ideal S5504x4096 .fp8e4m3) (s0 s1 : Elt Ideal .f32) :
    k0_pay4 v n w s0 s1 = DACommon.prodA (s0 * s1) (DACommon.codesD n v) w := by
  funext i
  unfold DACommon.prodA k0_pay4
  rw [pay3_eq]
  generalize DACommon.codesD n v = C
  pointwise []

/-- The two halves of the hidden gradient. -/
theorem pay5_left (v : Vec Ideal S8192x4096 .bf16) (n : Elt Ideal .f32) (w : Vec Ideal S5504x4096 .fp8e4m3) (s0 s1 : Elt Ideal .f32) (g u : Vec Ideal S8192x5504 .bf16)
    (r : Fin 8192) (k : Fin 5504) : k0_pay5 v n w s0 s1 g u (ix2 r ⟨k, by omega⟩) = DACommon.gateD (k0_pay4 v n w s0 s1 (ix2 r k)) (g (ix2 r k)) (u (ix2 r k)) := by
  unfold DACommon.gateD k0_pay5
  generalize k0_pay4 v n w s0 s1 = A
  pointwise []

theorem pay5_right (v : Vec Ideal S8192x4096 .bf16) (n : Elt Ideal .f32) (w : Vec Ideal S5504x4096 .fp8e4m3) (s0 s1 : Elt Ideal .f32) (g u : Vec Ideal S8192x5504 .bf16)
    (r : Fin 8192) (k : Fin 5504) : k0_pay5 v n w s0 s1 g u (ix2 r ⟨5504 + k, by omega⟩) = DACommon.upD (k0_pay4 v n w s0 s1 (ix2 r k)) (g (ix2 r k)) := by
  unfold DACommon.upD k0_pay5
  generalize k0_pay4 v n w s0 s1 = A
  pointwise []

/-- The scale and inverse scale the reference stores, of a nonnegative quotient. -/
theorem pay1_eq (v : Vec Ideal S8192x11008 .f32) : k0_pay1 (F := Ideal) v = PowScale.scaleOf (PowScale.quot fun (r : Fin 8192) (k : Fin 11008) => v (ix2 r k)) := by
  have hq : 0 ≤ PowScale.quot fun (r : Fin 8192) (k : Fin 11008) => (v (ix2 r k) : EReal) :=
    PowScale.quot_nonneg (PowScale.amax_nonneg _ ⟨0, Nat.zero_lt_succ _⟩ ⟨0, Nat.zero_lt_succ _⟩)
  rw [← PowScale.scale_min hq]
  unfold PowScale.quot PowScale.amax
  rw [← PowScale.ofBits_bot]
  pointwise [k0_pay1]
  generalize v = w
  rfl

theorem pay2_eq (v : Vec Ideal S8192x11008 .f32) : k0_pay2 (F := Ideal) v = PowScale.invOf (PowScale.quot fun (r : Fin 8192) (k : Fin 11008) => v (ix2 r k)) := by
  unfold k0_pay2
  rw [pay1_eq, ← PowScale.one_div_scale]
  generalize PowScale.scaleOf _ = s
  show Ideal.div (Ideal.ofBits FTy.f32 0x3F800000#32) s = Ideal.div 1 s
  rw [Ideal.ofBits_one_f32]

/-- The quotient of the concatenated halves. -/
theorem quot5_eq (x0 x1 x2 : Vec Ideal S1x1 .f32) (x3 : Vec Ideal S8192x4096 .bf16) (x4 : Vec Ideal S5504x4096 .fp8e4m3) (x5 : Vec Ideal S8192x11008 .bf16)
    (v : Vec Ideal S8192x4096 .bf16) (n : Elt Ideal .f32) (w : Vec Ideal S5504x4096 .fp8e4m3) (s0 s1 : Elt Ideal .f32) (g u : Vec Ideal S8192x5504 .bf16)
    (hv : v = x3) (hn : n = x1 (ix2 0 0)) (hw : w = x4) (h0 : s0 = x0 (ix2 0 0)) (h1 : s1 = x2 (ix2 0 0))
    (hg : ∀ (r : Fin 8192) (k : Fin 5504), g (ix2 r k) = x5 (ix2 r ⟨k, by omega⟩))
    (hu : ∀ (r : Fin 8192) (k : Fin 5504), u (ix2 r k) = x5 (ix2 r ⟨5504 + k, by omega⟩)) :
    (PowScale.quot fun (r : Fin 8192) (k : Fin 11008) => k0_pay5 v n w s0 s1 g u (ix2 r k))
      = DACommon.quotA (DACommon.prodA (x0 (ix2 0 0) * x2 (ix2 0 0)) (DACommon.codesD (x1 (ix2 0 0)) x3) x4) x5 := by
  subst hv; subst hn; subst hw; subst h0; subst h1
  refine congrArg (· * Ideal.ofBits FTy.f32 932333861#32) (DACommon.amax_halves _ _ _ (fun r k => ?_) fun r k => ?_)
  · rw [pay5_left, pay4_eq, hg, hu]
  · rw [pay5_right, pay4_eq, hg]

/-- Parts of the gates and ups as loaded. -/
theorem left_at {M : Memref sig .tc .vmem S8192x11008 .bf16} (h : M.IsWhole) (X : Vec Ideal S8192x11008 .bf16)
    (inb : ∀ a, (![0, 0] : Fin 2 → Nat) a + S8192x5504.size a ≤ S8192x11008.size a) (r : Fin 8192) (k : Fin 5504) :
    View.readAt (Elt Ideal) M.view (Rect.unit (s := S8192x11008) ![0, 0] S8192x5504.size inb).toLoadRect (h.unread X) (ix2 r k) = X (ix2 r ⟨k, by omega⟩) :=
  Common.readAt_at h X inb rfl _ _ fun a => by
    fin_cases a
    · exact (Nat.zero_add _).symm
    · exact (Nat.zero_add _).symm

theorem right_at {M : Memref sig .tc .vmem S8192x11008 .bf16} (h : M.IsWhole) (X : Vec Ideal S8192x11008 .bf16)
    (inb : ∀ a, (![0, 5504] : Fin 2 → Nat) a + S8192x5504.size a ≤ S8192x11008.size a) (r : Fin 8192) (k : Fin 5504) :
    View.readAt (Elt Ideal) M.view (Rect.unit (s := S8192x11008) ![0, 5504] S8192x5504.size inb).toLoadRect (h.unread X) (ix2 r k) = X (ix2 r ⟨5504 + k, by omega⟩) :=
  Common.readAt_at h X inb rfl _ _ fun a => by
    fin_cases a
    · exact (Nat.zero_add _).symm
    · rfl

/-- What the one point leaves in the codes' buffer. -/
theorem outs1 (c : Dev nD) (t : Fin cfg0.N) : (outsAt0 m c t).1 = codes m c := by
  unfold outsAt0
  dsimp only
  frame_out
  rw [iblk_1, iblk_3]
  exact (pay3_eq _ _).trans (congrArg₂ DACommon.codesD ((congrFun ((hs0_1 t).read_unread _) _).trans (congrArg _ (Common.idx11 _))) ((hs0_3 t).read_unread _))

/-- What it leaves in the product's buffer. -/
theorem outs2 (c : Dev nD) (t : Fin cfg0.N) : (outsAt0 m c t).2.1 = prod m c := by
  unfold outsAt0
  dsimp only
  frame_out
  rw [iblk_0, iblk_1, iblk_2, iblk_3, iblk_4]
  refine (pay4_eq _ _ _ _ _).trans (congr (congrArg₂ DACommon.prodA (congrArg₂ (· * ·) ?_ ?_) (congrArg₂ DACommon.codesD ?_ ?_)) ?_)
  · exact (congrFun ((hs0_0 t).read_unread _) _).trans (congrArg _ (Common.idx11 _))
  · exact (congrFun ((hs0_2 t).read_unread _) _).trans (congrArg _ (Common.idx11 _))
  · exact (congrFun ((hs0_1 t).read_unread _) _).trans (congrArg _ (Common.idx11 _))
  · exact (hs0_3 t).read_unread _
  · exact (hs0_4 t).read_unread _

/-- What it leaves in the two scales' buffers. -/
theorem outs3 (c : Dev nD) (t : Fin cfg0.N) : (outsAt0 m c t).2.2.1 = fun _ => PowScale.scaleOf (quot m c) := by
  unfold outsAt0
  dsimp only
  frame_out
  rw [iblk_0, iblk_1, iblk_2, iblk_3, iblk_4, iblk_5]
  refine funext fun _ => (pay1_eq _).trans (congrArg PowScale.scaleOf (quot5_eq _ _ _ _ _ _ _ _ _ _ _ _ _ ?_ ?_ ?_ ?_ ?_ ?_ ?_))
  · exact (hs0_3 t).read_unread _
  · exact (congrFun ((hs0_1 t).read_unread _) _).trans (congrArg _ (Common.idx11 _))
  · exact (hs0_4 t).read_unread _
  · exact (congrFun ((hs0_0 t).read_unread _) _).trans (congrArg _ (Common.idx11 _))
  · exact (congrFun ((hs0_2 t).read_unread _) _).trans (congrArg _ (Common.idx11 _))
  · exact left_at (hs0_5 t) _ _
  · exact right_at (hs0_5 t) _ _

theorem outs4 (c : Dev nD) (t : Fin cfg0.N) : (outsAt0 m c t).2.2.2 = fun _ => PowScale.invOf (quot m c) := by
  unfold outsAt0
  dsimp only
  frame_out
  rw [iblk_0, iblk_1, iblk_2, iblk_3, iblk_4, iblk_5]
  refine funext fun _ => (pay2_eq _).trans (congrArg PowScale.invOf (quot5_eq _ _ _ _ _ _ _ _ _ _ _ _ _ ?_ ?_ ?_ ?_ ?_ ?_ ?_))
  · exact (hs0_3 t).read_unread _
  · exact (congrFun ((hs0_1 t).read_unread _) _).trans (congrArg _ (Common.idx11 _))
  · exact (hs0_4 t).read_unread _
  · exact (congrFun ((hs0_0 t).read_unread _) _).trans (congrArg _ (Common.idx11 _))
  · exact (congrFun ((hs0_2 t).read_unread _) _).trans (congrArg _ (Common.idx11 _))
  · exact left_at (hs0_5 t) _ _
  · exact right_at (hs0_5 t) _ _

/-- The codes after the run. -/
theorem arr_codes (c : Dev nD) : (dats m 0 c).arrAt 6 cfg0.N = codes m c := by
  refine Dat.arrAt_eq_of_covers (dats m 0 c) 6 _ (by decide +kernel) fun t _ y => ?_
  rw [after0_6, outs1]
  have e : win0_6.xinj (grid0.coords t) y = (win0_6.blk t).view.emb y := by
    refine funext fun a => Fin.ext ?_
    fin_cases a
    · exact (emb6_0 t y).symm
    · exact (emb6_1 t y).symm
  exact congrArg (codes m c) e

/-- The product after the run. -/
theorem arr_prod (c : Dev nD) : (dats m 0 c).arrAt 7 cfg0.N = prod m c := by
  refine Dat.arrAt_eq_of_covers (dats m 0 c) 7 _ (by decide +kernel) fun t _ y => ?_
  rw [after0_7, outs2]
  have e : win0_7.xinj (grid0.coords t) y = (win0_7.blk t).view.emb y := by
    refine funext fun a => Fin.ext ?_
    fin_cases a
    · exact (emb7_0 t y).symm
    · exact (emb7_1 t y).symm
  exact congrArg (prod m c) e

/-- The scale after the run. -/
theorem arr_scale (c : Dev nD) : (dats m 0 c).arrAt 8 cfg0.N = fun _ => PowScale.scaleOf (quot m c) := by
  refine Dat.arrAt_eq_of_covers (dats m 0 c) 8 _ (by decide +kernel) fun t _ y => ?_
  rw [after0_8, outs3]
  generalize PowScale.scaleOf _ = s
  rfl

/-- The inverse scale after the run. -/
theorem arr_inv (c : Dev nD) : (dats m 0 c).arrAt 9 cfg0.N = fun _ => PowScale.invOf (quot m c) := by
  refine Dat.arrAt_eq_of_covers (dats m 0 c) 9 _ (by decide +kernel) fun t _ y => ?_
  rw [after0_9, outs4]
  generalize PowScale.invOf _ = s
  rfl

/-- Every run ends with the codes, the product, the scale and the inverse scale, the arguments kept. -/
theorem run : θ_run defs (onTc (τ := τ) (main (F := Ideal))) ⟨m, fun _ => 0, ρ⟩ (fun r => ∀ c : Dev nD,
      r.2.mem ((c.tc : Thread nD τ).loc main_v0_0) = codes m c
      ∧ r.2.mem ((c.tc : Thread nD τ).loc main_v0_1) = prod m c
      ∧ r.2.mem ((c.tc : Thread nD τ).loc main_v0_2) = (fun _ => PowScale.scaleOf (quot m c))
      ∧ r.2.mem ((c.tc : Thread nD τ).loc main_v0_3) = (fun _ => PowScale.invOf (quot m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (arr_codes m c), (h c).2.1.trans (arr_prod m c), (h c).2.2.1.trans (arr_scale m c), (h c).2.2.2.1.trans (arr_inv m c), (h c).2.2.2.2⟩) (Value.run_blocks m ρ)

end Cert.DARefIdeal.Body
end
-- ==== Proof.DAClaims.lean ====
/-
  The claim on the gradient of the hidden activation: the kernel's four results, the codes of the incoming gradient, their
  scaled product, and the power-of-two scale of the hidden gradient with its inverse, equal to the reference's.
-/
module

public import proofs.«01_k».proof.Defs
public import proofs.«01_k».proof.Proof.DAValue
public import proofs.«01_k».proof.Proof.DARefValue

@[expose] public section

set_option maxRecDepth 16384

noncomputable section

namespace Cert.DAClaims

open Idealize.ShloMosaic Idealize.ShloMosaic.TcCoe Idealize.SL.Sem

theorem algebraic : algebraic_DAIdeal_DARefIdeal (hDAIdeal := Cert.DAIdeal.Gen.facts) (hDARefIdeal := Cert.DARefIdeal.Gen.facts) :=
  fun m g m' g' _ hag => by
    have ec : ∀ c, Cert.DARefIdeal.Body.codes m' c = Cert.DAIdeal.Body.codes m c := fun c => by
      obtain ⟨h0, h1, h2, h3, h4, h5⟩ := hag c
      unfold Cert.DARefIdeal.Body.codes Cert.DAIdeal.Body.codes
      rw [h1, h3]
    have ep : ∀ c, Cert.DARefIdeal.Body.prod m' c = Cert.DAIdeal.Body.prod m c := fun c => by
      obtain ⟨h0, h1, h2, h3, h4, h5⟩ := hag c
      unfold Cert.DARefIdeal.Body.prod Cert.DAIdeal.Body.prod
      rw [ec c, h0, h2, h4]
    have eq : ∀ c, Cert.DARefIdeal.Body.quot m' c = Cert.DAIdeal.Body.quot m c := fun c => by
      obtain ⟨h0, h1, h2, h3, h4, h5⟩ := hag c
      unfold Cert.DARefIdeal.Body.quot Cert.DAIdeal.Body.quot
      rw [ep c, h5]
    refine ⟨_, _, _, _, Cert.DAIdeal.Body.run m g,
      (θ_run _ _ _).mono (fun r h c => ⟨(h c).1.trans (ec c), (h c).2.1.trans (ep c), (h c).2.2.1.trans ?_, (h c).2.2.2.1.trans ?_, (h c).2.2.2.2⟩) (Cert.DARefIdeal.Body.run m' g')⟩
    · rw [eq c]
      generalize PowScale.scaleOf _ = s
      rfl
    · rw [eq c]
      generalize PowScale.invOf _ = s
      rfl

end Cert.DAClaims
end
-- ==== Proof.lean ====
/-
  The proof of `Cert.Claim`: the frames of the calls and of their references, and each call's results equal to its
  reference's over the extended reals.
-/
module

public import proofs.«01_k».proof.Defs
public import proofs.«01_k».proof.Proof.Gen.Scale.Frame
public import proofs.«01_k».proof.Proof.Gen.ScaleIdeal.Frame
public import proofs.«01_k».proof.Proof.Gen.DA.Frame
public import proofs.«01_k».proof.Proof.Gen.DAIdeal.Frame
public import proofs.«01_k».proof.Proof.DW1Claims
public import proofs.«01_k».proof.Proof.DW2Claims
public import proofs.«01_k».proof.Proof.Gen.DXRefIdeal.Value
public import proofs.«01_k».proof.Proof.Gen.DW1RefIdeal.Value
public import proofs.«01_k».proof.Proof.Gen.DW2RefIdeal.Value
public import proofs.«01_k».proof.Proof.Gen.DAIdeal.Value
public import proofs.«01_k».proof.Proof.Gen.ScaleIdeal.Value
public import proofs.«01_k».proof.Proof.DXClaims
public import proofs.«01_k».proof.Proof.Gen.ScaleRefIdeal.Value
public import proofs.«01_k».proof.Proof.ScaleClaims
public import proofs.«01_k».proof.Proof.Gen.DARefIdeal.Value
public import proofs.«01_k».proof.Proof.DAClaims

@[expose] public section

noncomputable section

namespace Cert.Proof

open Idealize.ShloMosaic Idealize.SL.Sem

theorem claim : Cert.Claim := ⟨Cert.Scale.Gen.facts, Cert.ScaleIdeal.Gen.facts, Cert.ScaleRefIdeal.Gen.facts, Cert.DA.Gen.facts, Cert.DAIdeal.Gen.facts, Cert.DARefIdeal.Gen.facts, Cert.DX.Gen.facts, Cert.DXIdeal.Gen.facts, Cert.DXRefIdeal.Gen.facts, Cert.DW1.Gen.facts, Cert.DW1Ideal.Gen.facts, Cert.DW1RefIdeal.Gen.facts, Cert.DW2.Gen.facts, Cert.DW2Ideal.Gen.facts, Cert.DW2RefIdeal.Gen.facts,
    fun m ρ _ => Cert.Scale.Gen.frame m ρ,
    fun m ρ _ => Cert.ScaleIdeal.Gen.frame m ρ,
    fun m ρ _ => Cert.ScaleRefIdeal.Gen.frame m ρ,
    fun m ρ _ => Cert.DA.Gen.frame m ρ,
    fun m ρ _ => Cert.DAIdeal.Gen.frame m ρ,
    fun m ρ _ => Cert.DARefIdeal.Gen.frame m ρ,
    DXClaims.frame,
    DXClaims.frameIdeal,
    fun m ρ _ => Cert.DXRefIdeal.Gen.frame m ρ,
    DW1Claims.frame,
    DW1Claims.frameIdeal,
    fun m ρ _ => Cert.DW1RefIdeal.Gen.frame m ρ,
    DW2Claims.frame,
    DW2Claims.frameIdeal,
    fun m ρ _ => Cert.DW2RefIdeal.Gen.frame m ρ,
    trivial,
    ScaleClaims.algebraic,
    trivial,
    DAClaims.algebraic,
    trivial,
    DXClaims.algebraic,
    trivial,
    DW1Claims.algebraic,
    trivial,
    DW2Claims.algebraic⟩

end Cert.Proof

end
